-- ==== Defs.lean ====
def Pre_Pass2 (m : (ℓ : Loc Cert.Pass2.nD Cert.Pass2.τ Cert.Pass2.sig) → Buf (Elt Bits) ℓ) : Prop :=
  True

def Pre_Pass2Ideal (m : (ℓ : Loc Cert.Pass2Ideal.nD Cert.Pass2Ideal.τ Cert.Pass2Ideal.sig) → Buf (Elt Ideal) ℓ) : Prop :=
  True

def Pre_Pass2Ideal_pass2_ready [hPre_pass2_ready : Cert.Pre_pass2_ready.Facts] (m : (ℓ : Loc Cert.Pass2Ideal.nD Cert.Pass2Ideal.τ Cert.Pass2Ideal.sig) → Buf (Elt Ideal) ℓ) : Prop :=
  ∀ c : Dev Cert.Pass2Ideal.nD,
    (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.2.2.2.2.2.2.2.2.1 = (fun _ => 1#1)
    ∧ (Cert.Pre_pass2_ready.fn (F := Ideal) (m ((c.tc : Thread Cert.Pass2Ideal.nD Cert.Pass2Ideal.τ).loc Cert.Pass2Ideal.main_arg0)) (m ((c.tc : Thread Cert.Pass2Ideal.nD Cert.Pass2Ideal.τ).loc Cert.Pass2Ideal.main_arg1)) (m ((c.tc : Thread Cert.Pass2Ideal.nD Cert.Pass2Ideal.τ).loc Cert.Pass2Ideal.main_arg2)) (m ((c.tc : Thread Cert.Pass2Ideal.nD Cert.Pass2Ideal.τ).loc Cert.Pass2Ideal.main_arg3)) (m ((c.tc : Thread Cert.Pass2Ideal.nD Cert.Pass2Ideal.τ).loc Cert.Pass2Ideal.main_arg4)) (m ((c.tc : Thread Cert.Pass2Ideal.nD Cert.Pass2Ideal.τ).loc Cert.Pass2Ideal.main_arg5)) (m ((c.tc : Thread Cert.Pass2Ideal.nD Cert.Pass2Ideal.τ).loc Cert.Pass2Ideal.main_arg6)) (m ((c.tc : Thread Cert.Pass2Ideal.nD Cert.Pass2Ideal.τ).loc Cert.Pass2Ideal.main_arg7)) (m ((c.tc : Thread Cert.Pass2Ideal.nD Cert.Pass2Ideal.τ).loc Cert.Pass2Ideal.main_arg8)) (m ((c.tc : Thread Cert.Pass2Ideal.nD Cert.Pass2Ideal.τ).loc Cert.Pass2Ideal.main_arg9)) (m ((c.tc : Thread Cert.Pass2Ideal.nD Cert.Pass2Ideal.τ).loc Cert.Pass2Ideal.main_arg10)) (m ((c.tc : Thread Cert.Pass2Ideal.nD Cert.Pass2Ideal.τ).loc Cert.Pass2Ideal.main_arg11)) (m ((c.tc : Thread Cert.Pass2Ideal.nD Cert.Pass2Ideal.τ).loc Cert.Pass2Ideal.main_arg12)) (m ((c.tc : Thread Cert.Pass2Ideal.nD Cert.Pass2Ideal.τ).loc Cert.Pass2Ideal.main_arg13)) (m ((c.tc : Thread Cert.Pass2Ideal.nD Cert.Pass2Ideal.τ).loc Cert.Pass2Ideal.main_arg14)) (m ((c.tc : Thread Cert.Pass2Ideal.nD Cert.Pass2Ideal.τ).loc Cert.Pass2Ideal.main_arg15)) (m ((c.tc : Thread Cert.Pass2Ideal.nD Cert.Pass2Ideal.τ).loc Cert.Pass2Ideal.main_arg16)) (m ((c.tc : Thread Cert.Pass2Ideal.nD Cert.Pass2Ideal.τ).loc Cert.Pass2Ideal.main_arg17)) (m ((c.tc : Thread Cert.Pass2Ideal.nD Cert.Pass2Ideal.τ).loc Cert.Pass2Ideal.main_arg18)) (m ((c.tc : Thread Cert.Pass2Ideal.nD Cert.Pass2Ideal.τ).loc Cert.Pass2Ideal.main_arg19)) (m ((c.tc : Thread Cert.Pass2Ideal.nD Cert.Pass2Ideal.τ).loc Cert.Pass2Ideal.main_arg20)) (m ((c.tc : Thread Cert.Pass2Ideal.nD Cert.Pass2Ideal.τ).loc Cert.Pass2Ideal.main_arg21)) (m ((c.tc : Thread Cert.Pass2Ideal.nD Cert.Pass2Ideal.τ).loc Cert.Pass2Ideal.main_arg22)) (m ((c.tc : Thread Cert.Pass2Ideal.nD Cert.Pass2Ideal.τ).loc Cert.Pass2Ideal.main_arg23)) (m ((c.tc : Thread Cert.Pass2Ideal.nD Cert.Pass2Ideal.τ).loc Cert.Pass2Ideal.main_arg24))).2.2.2.2.2.2.2.2.2.2.2.2.2.2.2.2.2.2.2.2.2.2.2.2.2.2.2.2.2.2 = (fun _ => 1#1)

def Pre_Ref2Ideal (m : (ℓ : Loc Cert.Ref2Ideal.nD Cert.Ref2Ideal.τ Cert.Ref2Ideal.sig) → Buf (Elt Ideal) ℓ) : Prop :=
  True

def Pre_Ref2Ideal_pass2_ready [hPre_pass2_ready : Cert.Pre_pass2_ready.Facts] (m : (ℓ : Loc Cert.Ref2Ideal.nD Cert.Ref2Ideal.τ Cert.Ref2Ideal.sig) → Buf (Elt Ideal) ℓ) : Prop :=
  ∀ c : Dev Cert.Ref2Ideal.nD,
    (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.2.2.2.2.2.2.2.2.1 = (fun _ => 1#1)
    ∧ (Cert.Pre_pass2_ready.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3)) (m ((c.tc : Thread Cert.Ref2Ideal.nD Cert.Ref2Ideal.τ).loc Cert.Ref2Ideal.main_arg4)) (m ((c.tc : Thread Cert.Ref2Ideal.nD Cert.Ref2Ideal.τ).loc Cert.Ref2Ideal.main_arg5)) (m ((c.tc : Thread Cert.Ref2Ideal.nD Cert.Ref2Ideal.τ).loc Cert.Ref2Ideal.main_arg6)) (m ((c.tc : Thread Cert.Ref2Ideal.nD Cert.Ref2Ideal.τ).loc Cert.Ref2Ideal.main_arg7)) (m ((c.tc : Thread Cert.Ref2Ideal.nD Cert.Ref2Ideal.τ).loc Cert.Ref2Ideal.main_arg8)) (m ((c.tc : Thread Cert.Ref2Ideal.nD Cert.Ref2Ideal.τ).loc Cert.Ref2Ideal.main_arg9)) (m ((c.tc : Thread Cert.Ref2Ideal.nD Cert.Ref2Ideal.τ).loc Cert.Ref2Ideal.main_arg10)) (m ((c.tc : Thread Cert.Ref2Ideal.nD Cert.Ref2Ideal.τ).loc Cert.Ref2Ideal.main_arg11)) (m ((c.tc : Thread Cert.Ref2Ideal.nD Cert.Ref2Ideal.τ).loc Cert.Ref2Ideal.main_arg12)) (m ((c.tc : Thread Cert.Ref2Ideal.nD Cert.Ref2Ideal.τ).loc Cert.Ref2Ideal.main_arg13)) (m ((c.tc : Thread Cert.Ref2Ideal.nD Cert.Ref2Ideal.τ).loc Cert.Ref2Ideal.main_arg14)) (m ((c.tc : Thread Cert.Ref2Ideal.nD Cert.Ref2Ideal.τ).loc Cert.Ref2Ideal.main_arg15)) (m ((c.tc : Thread Cert.Ref2Ideal.nD Cert.Ref2Ideal.τ).loc Cert.Ref2Ideal.main_arg16)) (m ((c.tc : Thread Cert.Ref2Ideal.nD Cert.Ref2Ideal.τ).loc Cert.Ref2Ideal.main_arg17)) (m ((c.tc : Thread Cert.Ref2Ideal.nD Cert.Ref2Ideal.τ).loc Cert.Ref2Ideal.main_arg18)) (m ((c.tc : Thread Cert.Ref2Ideal.nD Cert.Ref2Ideal.τ).loc Cert.Ref2Ideal.main_arg19)) (m ((c.tc : Thread Cert.Ref2Ideal.nD Cert.Ref2Ideal.τ).loc Cert.Ref2Ideal.main_arg20)) (m ((c.tc : Thread Cert.Ref2Ideal.nD Cert.Ref2Ideal.τ).loc Cert.Ref2Ideal.main_arg21)) (m ((c.tc : Thread Cert.Ref2Ideal.nD Cert.Ref2Ideal.τ).loc Cert.Ref2Ideal.main_arg22)) (m ((c.tc : Thread Cert.Ref2Ideal.nD Cert.Ref2Ideal.τ).loc Cert.Ref2Ideal.main_arg23)) (m ((c.tc : Thread Cert.Ref2Ideal.nD Cert.Ref2Ideal.τ).loc Cert.Ref2Ideal.main_arg24))).2.2.2.2.2.2.2.2.2.2.2.2.2.2.2.2.2.2.2.2.2.2.2.2.2.2.2.2.2.2 = (fun _ => 1#1)

def Pre_Pass1 (m : (ℓ : Loc Cert.Pass1.nD Cert.Pass1.τ Cert.Pass1.sig) → Buf (Elt Bits) ℓ) : Prop :=
  True

def Pre_Pass1Ideal (m : (ℓ : Loc Cert.Pass1Ideal.nD Cert.Pass1Ideal.τ Cert.Pass1Ideal.sig) → Buf (Elt Ideal) ℓ) : Prop :=
  True

def quiescent_Pass2 [hPass2 : Cert.Pass2.Facts] : Prop :=
  ∀ (m : (ℓ : Loc Cert.Pass2.nD Cert.Pass2.τ Cert.Pass2.sig) → Buf (Elt Bits) ℓ) (g : Dev Cert.Pass2.nD → PrngReg), Pre_Pass2 m →
    θ_run (Cert.Pass2.defs (F := Bits)) (onTc (τ := Cert.Pass2.τ) (Cert.Pass2.main (F := Bits))) ⟨m, fun _ => 0, g⟩ (fun r => (∀ c : Dev Cert.Pass2.nD,
      r.2.mem ((c.tc : Thread Cert.Pass2.nD Cert.Pass2.τ).loc Cert.Pass2.main_arg0) = m ((c.tc : Thread Cert.Pass2.nD Cert.Pass2.τ).loc Cert.Pass2.main_arg0)
      ∧ r.2.mem ((c.tc : Thread Cert.Pass2.nD Cert.Pass2.τ).loc Cert.Pass2.main_arg1) = m ((c.tc : Thread Cert.Pass2.nD Cert.Pass2.τ).loc Cert.Pass2.main_arg1)
      ∧ r.2.mem ((c.tc : Thread Cert.Pass2.nD Cert.Pass2.τ).loc Cert.Pass2.main_arg2) = m ((c.tc : Thread Cert.Pass2.nD Cert.Pass2.τ).loc Cert.Pass2.main_arg2)
      ∧ r.2.mem ((c.tc : Thread Cert.Pass2.nD Cert.Pass2.τ).loc Cert.Pass2.main_arg3) = m ((c.tc : Thread Cert.Pass2.nD Cert.Pass2.τ).loc Cert.Pass2.main_arg3)
      ∧ r.2.mem ((c.tc : Thread Cert.Pass2.nD Cert.Pass2.τ).loc Cert.Pass2.main_arg4) = m ((c.tc : Thread Cert.Pass2.nD Cert.Pass2.τ).loc Cert.Pass2.main_arg4)
      ∧ r.2.mem ((c.tc : Thread Cert.Pass2.nD Cert.Pass2.τ).loc Cert.Pass2.main_arg5) = m ((c.tc : Thread Cert.Pass2.nD Cert.Pass2.τ).loc Cert.Pass2.main_arg5)
      ∧ r.2.mem ((c.tc : Thread Cert.Pass2.nD Cert.Pass2.τ).loc Cert.Pass2.main_arg6) = m ((c.tc : Thread Cert.Pass2.nD Cert.Pass2.τ).loc Cert.Pass2.main_arg6)
      ∧ r.2.mem ((c.tc : Thread Cert.Pass2.nD Cert.Pass2.τ).loc Cert.Pass2.main_arg7) = m ((c.tc : Thread Cert.Pass2.nD Cert.Pass2.τ).loc Cert.Pass2.main_arg7)
      ∧ r.2.mem ((c.tc : Thread Cert.Pass2.nD Cert.Pass2.τ).loc Cert.Pass2.main_arg8) = m ((c.tc : Thread Cert.Pass2.nD Cert.Pass2.τ).loc Cert.Pass2.main_arg8)
      ∧ r.2.mem ((c.tc : Thread Cert.Pass2.nD Cert.Pass2.τ).loc Cert.Pass2.main_arg9) = m ((c.tc : Thread Cert.Pass2.nD Cert.Pass2.τ).loc Cert.Pass2.main_arg9)
      ∧ r.2.mem ((c.tc : Thread Cert.Pass2.nD Cert.Pass2.τ).loc Cert.Pass2.main_arg10) = m ((c.tc : Thread Cert.Pass2.nD Cert.Pass2.τ).loc Cert.Pass2.main_arg10)
      ∧ r.2.mem ((c.tc : Thread Cert.Pass2.nD Cert.Pass2.τ).loc Cert.Pass2.main_arg11) = m ((c.tc : Thread Cert.Pass2.nD Cert.Pass2.τ).loc Cert.Pass2.main_arg11)
      ∧ r.2.mem ((c.tc : Thread Cert.Pass2.nD Cert.Pass2.τ).loc Cert.Pass2.main_arg12) = m ((c.tc : Thread Cert.Pass2.nD Cert.Pass2.τ).loc Cert.Pass2.main_arg12)
      ∧ r.2.mem ((c.tc : Thread Cert.Pass2.nD Cert.Pass2.τ).loc Cert.Pass2.main_arg13) = m ((c.tc : Thread Cert.Pass2.nD Cert.Pass2.τ).loc Cert.Pass2.main_arg13)
      ∧ r.2.mem ((c.tc : Thread Cert.Pass2.nD Cert.Pass2.τ).loc Cert.Pass2.main_arg14) = m ((c.tc : Thread Cert.Pass2.nD Cert.Pass2.τ).loc Cert.Pass2.main_arg14)
      ∧ r.2.mem ((c.tc : Thread Cert.Pass2.nD Cert.Pass2.τ).loc Cert.Pass2.main_arg15) = m ((c.tc : Thread Cert.Pass2.nD Cert.Pass2.τ).loc Cert.Pass2.main_arg15)
      ∧ r.2.mem ((c.tc : Thread Cert.Pass2.nD Cert.Pass2.τ).loc Cert.Pass2.main_arg16) = m ((c.tc : Thread Cert.Pass2.nD Cert.Pass2.τ).loc Cert.Pass2.main_arg16)
      ∧ r.2.mem ((c.tc : Thread Cert.Pass2.nD Cert.Pass2.τ).loc Cert.Pass2.main_arg17) = m ((c.tc : Thread Cert.Pass2.nD Cert.Pass2.τ).loc Cert.Pass2.main_arg17)
      ∧ r.2.mem ((c.tc : Thread Cert.Pass2.nD Cert.Pass2.τ).loc Cert.Pass2.main_arg18) = m ((c.tc : Thread Cert.Pass2.nD Cert.Pass2.τ).loc Cert.Pass2.main_arg18)
      ∧ r.2.mem ((c.tc : Thread Cert.Pass2.nD Cert.Pass2.τ).loc Cert.Pass2.main_arg19) = m ((c.tc : Thread Cert.Pass2.nD Cert.Pass2.τ).loc Cert.Pass2.main_arg19)
      ∧ r.2.mem ((c.tc : Thread Cert.Pass2.nD Cert.Pass2.τ).loc Cert.Pass2.main_arg20) = m ((c.tc : Thread Cert.Pass2.nD Cert.Pass2.τ).loc Cert.Pass2.main_arg20)
      ∧ r.2.mem ((c.tc : Thread Cert.Pass2.nD Cert.Pass2.τ).loc Cert.Pass2.main_arg21) = m ((c.tc : Thread Cert.Pass2.nD Cert.Pass2.τ).loc Cert.Pass2.main_arg21)
      ∧ r.2.mem ((c.tc : Thread Cert.Pass2.nD Cert.Pass2.τ).loc Cert.Pass2.main_arg22) = m ((c.tc : Thread Cert.Pass2.nD Cert.Pass2.τ).loc Cert.Pass2.main_arg22)
      ∧ r.2.mem ((c.tc : Thread Cert.Pass2.nD Cert.Pass2.τ).loc Cert.Pass2.main_arg23) = m ((c.tc : Thread Cert.Pass2.nD Cert.Pass2.τ).loc Cert.Pass2.main_arg23)
      ∧ r.2.mem ((c.tc : Thread Cert.Pass2.nD Cert.Pass2.τ).loc Cert.Pass2.main_arg24) = m ((c.tc : Thread Cert.Pass2.nD Cert.Pass2.τ).loc Cert.Pass2.main_arg24))
      ∧ r.2.sem = fun _ => 0)

def quiescent_Pass2Ideal [hPass2Ideal : Cert.Pass2Ideal.Facts] : Prop :=
  ∀ (m : (ℓ : Loc Cert.Pass2Ideal.nD Cert.Pass2Ideal.τ Cert.Pass2Ideal.sig) → Buf (Elt Ideal) ℓ) (g : Dev Cert.Pass2Ideal.nD → PrngReg), Pre_Pass2Ideal m →
    θ_run (Cert.Pass2Ideal.defs (F := Ideal)) (onTc (τ := Cert.Pass2Ideal.τ) (Cert.Pass2Ideal.main (F := Ideal))) ⟨m, fun _ => 0, g⟩ (fun r => (∀ c : Dev Cert.Pass2Ideal.nD,
      r.2.mem ((c.tc : Thread Cert.Pass2Ideal.nD Cert.Pass2Ideal.τ).loc Cert.Pass2Ideal.main_arg0) = m ((c.tc : Thread Cert.Pass2Ideal.nD Cert.Pass2Ideal.τ).loc Cert.Pass2Ideal.main_arg0)
      ∧ r.2.mem ((c.tc : Thread Cert.Pass2Ideal.nD Cert.Pass2Ideal.τ).loc Cert.Pass2Ideal.main_arg1) = m ((c.tc : Thread Cert.Pass2Ideal.nD Cert.Pass2Ideal.τ).loc Cert.Pass2Ideal.main_arg1)
      ∧ r.2.mem ((c.tc : Thread Cert.Pass2Ideal.nD Cert.Pass2Ideal.τ).loc Cert.Pass2Ideal.main_arg2) = m ((c.tc : Thread Cert.Pass2Ideal.nD Cert.Pass2Ideal.τ).loc Cert.Pass2Ideal.main_arg2)
      ∧ r.2.mem ((c.tc : Thread Cert.Pass2Ideal.nD Cert.Pass2Ideal.τ).loc Cert.Pass2Ideal.main_arg3) = m ((c.tc : Thread Cert.Pass2Ideal.nD Cert.Pass2Ideal.τ).loc Cert.Pass2Ideal.main_arg3)
      ∧ r.2.mem ((c.tc : Thread Cert.Pass2Ideal.nD Cert.Pass2Ideal.τ).loc Cert.Pass2Ideal.main_arg4) = m ((c.tc : Thread Cert.Pass2Ideal.nD Cert.Pass2Ideal.τ).loc Cert.Pass2Ideal.main_arg4)
      ∧ r.2.mem ((c.tc : Thread Cert.Pass2Ideal.nD Cert.Pass2Ideal.τ).loc Cert.Pass2Ideal.main_arg5) = m ((c.tc : Thread Cert.Pass2Ideal.nD Cert.Pass2Ideal.τ).loc Cert.Pass2Ideal.main_arg5)
      ∧ r.2.mem ((c.tc : Thread Cert.Pass2Ideal.nD Cert.Pass2Ideal.τ).loc Cert.Pass2Ideal.main_arg6) = m ((c.tc : Thread Cert.Pass2Ideal.nD Cert.Pass2Ideal.τ).loc Cert.Pass2Ideal.main_arg6)
      ∧ r.2.mem ((c.tc : Thread Cert.Pass2Ideal.nD Cert.Pass2Ideal.τ).loc Cert.Pass2Ideal.main_arg7) = m ((c.tc : Thread Cert.Pass2Ideal.nD Cert.Pass2Ideal.τ).loc Cert.Pass2Ideal.main_arg7)
      ∧ r.2.mem ((c.tc : Thread Cert.Pass2Ideal.nD Cert.Pass2Ideal.τ).loc Cert.Pass2Ideal.main_arg8) = m ((c.tc : Thread Cert.Pass2Ideal.nD Cert.Pass2Ideal.τ).loc Cert.Pass2Ideal.main_arg8)
      ∧ r.2.mem ((c.tc : Thread Cert.Pass2Ideal.nD Cert.Pass2Ideal.τ).loc Cert.Pass2Ideal.main_arg9) = m ((c.tc : Thread Cert.Pass2Ideal.nD Cert.Pass2Ideal.τ).loc Cert.Pass2Ideal.main_arg9)
      ∧ r.2.mem ((c.tc : Thread Cert.Pass2Ideal.nD Cert.Pass2Ideal.τ).loc Cert.Pass2Ideal.main_arg10) = m ((c.tc : Thread Cert.Pass2Ideal.nD Cert.Pass2Ideal.τ).loc Cert.Pass2Ideal.main_arg10)
      ∧ r.2.mem ((c.tc : Thread Cert.Pass2Ideal.nD Cert.Pass2Ideal.τ).loc Cert.Pass2Ideal.main_arg11) = m ((c.tc : Thread Cert.Pass2Ideal.nD Cert.Pass2Ideal.τ).loc Cert.Pass2Ideal.main_arg11)
      ∧ r.2.mem ((c.tc : Thread Cert.Pass2Ideal.nD Cert.Pass2Ideal.τ).loc Cert.Pass2Ideal.main_arg12) = m ((c.tc : Thread Cert.Pass2Ideal.nD Cert.Pass2Ideal.τ).loc Cert.Pass2Ideal.main_arg12)
      ∧ r.2.mem ((c.tc : Thread Cert.Pass2Ideal.nD Cert.Pass2Ideal.τ).loc Cert.Pass2Ideal.main_arg13) = m ((c.tc : Thread Cert.Pass2Ideal.nD Cert.Pass2Ideal.τ).loc Cert.Pass2Ideal.main_arg13)
      ∧ r.2.mem ((c.tc : Thread Cert.Pass2Ideal.nD Cert.Pass2Ideal.τ).loc Cert.Pass2Ideal.main_arg14) = m ((c.tc : Thread Cert.Pass2Ideal.nD Cert.Pass2Ideal.τ).loc Cert.Pass2Ideal.main_arg14)
      ∧ r.2.mem ((c.tc : Thread Cert.Pass2Ideal.nD Cert.Pass2Ideal.τ).loc Cert.Pass2Ideal.main_arg15) = m ((c.tc : Thread Cert.Pass2Ideal.nD Cert.Pass2Ideal.τ).loc Cert.Pass2Ideal.main_arg15)
      ∧ r.2.mem ((c.tc : Thread Cert.Pass2Ideal.nD Cert.Pass2Ideal.τ).loc Cert.Pass2Ideal.main_arg16) = m ((c.tc : Thread Cert.Pass2Ideal.nD Cert.Pass2Ideal.τ).loc Cert.Pass2Ideal.main_arg16)
      ∧ r.2.mem ((c.tc : Thread Cert.Pass2Ideal.nD Cert.Pass2Ideal.τ).loc Cert.Pass2Ideal.main_arg17) = m ((c.tc : Thread Cert.Pass2Ideal.nD Cert.Pass2Ideal.τ).loc Cert.Pass2Ideal.main_arg17)
      ∧ r.2.mem ((c.tc : Thread Cert.Pass2Ideal.nD Cert.Pass2Ideal.τ).loc Cert.Pass2Ideal.main_arg18) = m ((c.tc : Thread Cert.Pass2Ideal.nD Cert.Pass2Ideal.τ).loc Cert.Pass2Ideal.main_arg18)
      ∧ r.2.mem ((c.tc : Thread Cert.Pass2Ideal.nD Cert.Pass2Ideal.τ).loc Cert.Pass2Ideal.main_arg19) = m ((c.tc : Thread Cert.Pass2Ideal.nD Cert.Pass2Ideal.τ).loc Cert.Pass2Ideal.main_arg19)
      ∧ r.2.mem ((c.tc : Thread Cert.Pass2Ideal.nD Cert.Pass2Ideal.τ).loc Cert.Pass2Ideal.main_arg20) = m ((c.tc : Thread Cert.Pass2Ideal.nD Cert.Pass2Ideal.τ).loc Cert.Pass2Ideal.main_arg20)
      ∧ r.2.mem ((c.tc : Thread Cert.Pass2Ideal.nD Cert.Pass2Ideal.τ).loc Cert.Pass2Ideal.main_arg21) = m ((c.tc : Thread Cert.Pass2Ideal.nD Cert.Pass2Ideal.τ).loc Cert.Pass2Ideal.main_arg21)
      ∧ r.2.mem ((c.tc : Thread Cert.Pass2Ideal.nD Cert.Pass2Ideal.τ).loc Cert.Pass2Ideal.main_arg22) = m ((c.tc : Thread Cert.Pass2Ideal.nD Cert.Pass2Ideal.τ).loc Cert.Pass2Ideal.main_arg22)
      ∧ r.2.mem ((c.tc : Thread Cert.Pass2Ideal.nD Cert.Pass2Ideal.τ).loc Cert.Pass2Ideal.main_arg23) = m ((c.tc : Thread Cert.Pass2Ideal.nD Cert.Pass2Ideal.τ).loc Cert.Pass2Ideal.main_arg23)
      ∧ r.2.mem ((c.tc : Thread Cert.Pass2Ideal.nD Cert.Pass2Ideal.τ).loc Cert.Pass2Ideal.main_arg24) = m ((c.tc : Thread Cert.Pass2Ideal.nD Cert.Pass2Ideal.τ).loc Cert.Pass2Ideal.main_arg24))
      ∧ r.2.sem = fun _ => 0)

def quiescent_Pass2Ideal_pre_pass2_ready [hPass2Ideal : Cert.Pass2Ideal.Facts] [hPre_pass2_ready : Cert.Pre_pass2_ready.Facts] : Prop :=
  ∀ (m : (ℓ : Loc Cert.Pass2Ideal.nD Cert.Pass2Ideal.τ Cert.Pass2Ideal.sig) → Buf (Elt Ideal) ℓ) (g : Dev Cert.Pass2Ideal.nD → PrngReg), Pre_Pass2Ideal_pass2_ready m →
    θ_run (Cert.Pass2Ideal.defs (F := Ideal)) (onTc (τ := Cert.Pass2Ideal.τ) (Cert.Pass2Ideal.main (F := Ideal))) ⟨m, fun _ => 0, g⟩ (fun r => (∀ c : Dev Cert.Pass2Ideal.nD,
      r.2.mem ((c.tc : Thread Cert.Pass2Ideal.nD Cert.Pass2Ideal.τ).loc Cert.Pass2Ideal.main_arg0) = m ((c.tc : Thread Cert.Pass2Ideal.nD Cert.Pass2Ideal.τ).loc Cert.Pass2Ideal.main_arg0)
      ∧ r.2.mem ((c.tc : Thread Cert.Pass2Ideal.nD Cert.Pass2Ideal.τ).loc Cert.Pass2Ideal.main_arg1) = m ((c.tc : Thread Cert.Pass2Ideal.nD Cert.Pass2Ideal.τ).loc Cert.Pass2Ideal.main_arg1)
      ∧ r.2.mem ((c.tc : Thread Cert.Pass2Ideal.nD Cert.Pass2Ideal.τ).loc Cert.Pass2Ideal.main_arg2) = m ((c.tc : Thread Cert.Pass2Ideal.nD Cert.Pass2Ideal.τ).loc Cert.Pass2Ideal.main_arg2)
      ∧ r.2.mem ((c.tc : Thread Cert.Pass2Ideal.nD Cert.Pass2Ideal.τ).loc Cert.Pass2Ideal.main_arg3) = m ((c.tc : Thread Cert.Pass2Ideal.nD Cert.Pass2Ideal.τ).loc Cert.Pass2Ideal.main_arg3)
      ∧ r.2.mem ((c.tc : Thread Cert.Pass2Ideal.nD Cert.Pass2Ideal.τ).loc Cert.Pass2Ideal.main_arg4) = m ((c.tc : Thread Cert.Pass2Ideal.nD Cert.Pass2Ideal.τ).loc Cert.Pass2Ideal.main_arg4)
      ∧ r.2.mem ((c.tc : Thread Cert.Pass2Ideal.nD Cert.Pass2Ideal.τ).loc Cert.Pass2Ideal.main_arg5) = m ((c.tc : Thread Cert.Pass2Ideal.nD Cert.Pass2Ideal.τ).loc Cert.Pass2Ideal.main_arg5)
      ∧ r.2.mem ((c.tc : Thread Cert.Pass2Ideal.nD Cert.Pass2Ideal.τ).loc Cert.Pass2Ideal.main_arg6) = m ((c.tc : Thread Cert.Pass2Ideal.nD Cert.Pass2Ideal.τ).loc Cert.Pass2Ideal.main_arg6)
      ∧ r.2.mem ((c.tc : Thread Cert.Pass2Ideal.nD Cert.Pass2Ideal.τ).loc Cert.Pass2Ideal.main_arg7) = m ((c.tc : Thread Cert.Pass2Ideal.nD Cert.Pass2Ideal.τ).loc Cert.Pass2Ideal.main_arg7)
      ∧ r.2.mem ((c.tc : Thread Cert.Pass2Ideal.nD Cert.Pass2Ideal.τ).loc Cert.Pass2Ideal.main_arg8) = m ((c.tc : Thread Cert.Pass2Ideal.nD Cert.Pass2Ideal.τ).loc Cert.Pass2Ideal.main_arg8)
      ∧ r.2.mem ((c.tc : Thread Cert.Pass2Ideal.nD Cert.Pass2Ideal.τ).loc Cert.Pass2Ideal.main_arg9) = m ((c.tc : Thread Cert.Pass2Ideal.nD Cert.Pass2Ideal.τ).loc Cert.Pass2Ideal.main_arg9)
      ∧ r.2.mem ((c.tc : Thread Cert.Pass2Ideal.nD Cert.Pass2Ideal.τ).loc Cert.Pass2Ideal.main_arg10) = m ((c.tc : Thread Cert.Pass2Ideal.nD Cert.Pass2Ideal.τ).loc Cert.Pass2Ideal.main_arg10)
      ∧ r.2.mem ((c.tc : Thread Cert.Pass2Ideal.nD Cert.Pass2Ideal.τ).loc Cert.Pass2Ideal.main_arg11) = m ((c.tc : Thread Cert.Pass2Ideal.nD Cert.Pass2Ideal.τ).loc Cert.Pass2Ideal.main_arg11)
      ∧ r.2.mem ((c.tc : Thread Cert.Pass2Ideal.nD Cert.Pass2Ideal.τ).loc Cert.Pass2Ideal.main_arg12) = m ((c.tc : Thread Cert.Pass2Ideal.nD Cert.Pass2Ideal.τ).loc Cert.Pass2Ideal.main_arg12)
      ∧ r.2.mem ((c.tc : Thread Cert.Pass2Ideal.nD Cert.Pass2Ideal.τ).loc Cert.Pass2Ideal.main_arg13) = m ((c.tc : Thread Cert.Pass2Ideal.nD Cert.Pass2Ideal.τ).loc Cert.Pass2Ideal.main_arg13)
      ∧ r.2.mem ((c.tc : Thread Cert.Pass2Ideal.nD Cert.Pass2Ideal.τ).loc Cert.Pass2Ideal.main_arg14) = m ((c.tc : Thread Cert.Pass2Ideal.nD Cert.Pass2Ideal.τ).loc Cert.Pass2Ideal.main_arg14)
      ∧ r.2.mem ((c.tc : Thread Cert.Pass2Ideal.nD Cert.Pass2Ideal.τ).loc Cert.Pass2Ideal.main_arg15) = m ((c.tc : Thread Cert.Pass2Ideal.nD Cert.Pass2Ideal.τ).loc Cert.Pass2Ideal.main_arg15)
      ∧ r.2.mem ((c.tc : Thread Cert.Pass2Ideal.nD Cert.Pass2Ideal.τ).loc Cert.Pass2Ideal.main_arg16) = m ((c.tc : Thread Cert.Pass2Ideal.nD Cert.Pass2Ideal.τ).loc Cert.Pass2Ideal.main_arg16)
      ∧ r.2.mem ((c.tc : Thread Cert.Pass2Ideal.nD Cert.Pass2Ideal.τ).loc Cert.Pass2Ideal.main_arg17) = m ((c.tc : Thread Cert.Pass2Ideal.nD Cert.Pass2Ideal.τ).loc Cert.Pass2Ideal.main_arg17)
      ∧ r.2.mem ((c.tc : Thread Cert.Pass2Ideal.nD Cert.Pass2Ideal.τ).loc Cert.Pass2Ideal.main_arg18) = m ((c.tc : Thread Cert.Pass2Ideal.nD Cert.Pass2Ideal.τ).loc Cert.Pass2Ideal.main_arg18)
      ∧ r.2.mem ((c.tc : Thread Cert.Pass2Ideal.nD Cert.Pass2Ideal.τ).loc Cert.Pass2Ideal.main_arg19) = m ((c.tc : Thread Cert.Pass2Ideal.nD Cert.Pass2Ideal.τ).loc Cert.Pass2Ideal.main_arg19)
      ∧ r.2.mem ((c.tc : Thread Cert.Pass2Ideal.nD Cert.Pass2Ideal.τ).loc Cert.Pass2Ideal.main_arg20) = m ((c.tc : Thread Cert.Pass2Ideal.nD Cert.Pass2Ideal.τ).loc Cert.Pass2Ideal.main_arg20)
      ∧ r.2.mem ((c.tc : Thread Cert.Pass2Ideal.nD Cert.Pass2Ideal.τ).loc Cert.Pass2Ideal.main_arg21) = m ((c.tc : Thread Cert.Pass2Ideal.nD Cert.Pass2Ideal.τ).loc Cert.Pass2Ideal.main_arg21)
      ∧ r.2.mem ((c.tc : Thread Cert.Pass2Ideal.nD Cert.Pass2Ideal.τ).loc Cert.Pass2Ideal.main_arg22) = m ((c.tc : Thread Cert.Pass2Ideal.nD Cert.Pass2Ideal.τ).loc Cert.Pass2Ideal.main_arg22)
      ∧ r.2.mem ((c.tc : Thread Cert.Pass2Ideal.nD Cert.Pass2Ideal.τ).loc Cert.Pass2Ideal.main_arg23) = m ((c.tc : Thread Cert.Pass2Ideal.nD Cert.Pass2Ideal.τ).loc Cert.Pass2Ideal.main_arg23)
      ∧ r.2.mem ((c.tc : Thread Cert.Pass2Ideal.nD Cert.Pass2Ideal.τ).loc Cert.Pass2Ideal.main_arg24) = m ((c.tc : Thread Cert.Pass2Ideal.nD Cert.Pass2Ideal.τ).loc Cert.Pass2Ideal.main_arg24))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3)
      ∧ r.2.mem ((c.tc : Thread Cert.Ref2Ideal.nD Cert.Ref2Ideal.τ).loc Cert.Ref2Ideal.main_arg4) = m ((c.tc : Thread Cert.Ref2Ideal.nD Cert.Ref2Ideal.τ).loc Cert.Ref2Ideal.main_arg4)
      ∧ r.2.mem ((c.tc : Thread Cert.Ref2Ideal.nD Cert.Ref2Ideal.τ).loc Cert.Ref2Ideal.main_arg5) = m ((c.tc : Thread Cert.Ref2Ideal.nD Cert.Ref2Ideal.τ).loc Cert.Ref2Ideal.main_arg5)
      ∧ r.2.mem ((c.tc : Thread Cert.Ref2Ideal.nD Cert.Ref2Ideal.τ).loc Cert.Ref2Ideal.main_arg6) = m ((c.tc : Thread Cert.Ref2Ideal.nD Cert.Ref2Ideal.τ).loc Cert.Ref2Ideal.main_arg6)
      ∧ r.2.mem ((c.tc : Thread Cert.Ref2Ideal.nD Cert.Ref2Ideal.τ).loc Cert.Ref2Ideal.main_arg7) = m ((c.tc : Thread Cert.Ref2Ideal.nD Cert.Ref2Ideal.τ).loc Cert.Ref2Ideal.main_arg7)
      ∧ r.2.mem ((c.tc : Thread Cert.Ref2Ideal.nD Cert.Ref2Ideal.τ).loc Cert.Ref2Ideal.main_arg8) = m ((c.tc : Thread Cert.Ref2Ideal.nD Cert.Ref2Ideal.τ).loc Cert.Ref2Ideal.main_arg8)
      ∧ r.2.mem ((c.tc : Thread Cert.Ref2Ideal.nD Cert.Ref2Ideal.τ).loc Cert.Ref2Ideal.main_arg9) = m ((c.tc : Thread Cert.Ref2Ideal.nD Cert.Ref2Ideal.τ).loc Cert.Ref2Ideal.main_arg9)
      ∧ r.2.mem ((c.tc : Thread Cert.Ref2Ideal.nD Cert.Ref2Ideal.τ).loc Cert.Ref2Ideal.main_arg10) = m ((c.tc : Thread Cert.Ref2Ideal.nD Cert.Ref2Ideal.τ).loc Cert.Ref2Ideal.main_arg10)
      ∧ r.2.mem ((c.tc : Thread Cert.Ref2Ideal.nD Cert.Ref2Ideal.τ).loc Cert.Ref2Ideal.main_arg11) = m ((c.tc : Thread Cert.Ref2Ideal.nD Cert.Ref2Ideal.τ).loc Cert.Ref2Ideal.main_arg11)
      ∧ r.2.mem ((c.tc : Thread Cert.Ref2Ideal.nD Cert.Ref2Ideal.τ).loc Cert.Ref2Ideal.main_arg12) = m ((c.tc : Thread Cert.Ref2Ideal.nD Cert.Ref2Ideal.τ).loc Cert.Ref2Ideal.main_arg12)
      ∧ r.2.mem ((c.tc : Thread Cert.Ref2Ideal.nD Cert.Ref2Ideal.τ).loc Cert.Ref2Ideal.main_arg13) = m ((c.tc : Thread Cert.Ref2Ideal.nD Cert.Ref2Ideal.τ).loc Cert.Ref2Ideal.main_arg13)
      ∧ r.2.mem ((c.tc : Thread Cert.Ref2Ideal.nD Cert.Ref2Ideal.τ).loc Cert.Ref2Ideal.main_arg14) = m ((c.tc : Thread Cert.Ref2Ideal.nD Cert.Ref2Ideal.τ).loc Cert.Ref2Ideal.main_arg14)
      ∧ r.2.mem ((c.tc : Thread Cert.Ref2Ideal.nD Cert.Ref2Ideal.τ).loc Cert.Ref2Ideal.main_arg15) = m ((c.tc : Thread Cert.Ref2Ideal.nD Cert.Ref2Ideal.τ).loc Cert.Ref2Ideal.main_arg15)
      ∧ r.2.mem ((c.tc : Thread Cert.Ref2Ideal.nD Cert.Ref2Ideal.τ).loc Cert.Ref2Ideal.main_arg16) = m ((c.tc : Thread Cert.Ref2Ideal.nD Cert.Ref2Ideal.τ).loc Cert.Ref2Ideal.main_arg16)
      ∧ r.2.mem ((c.tc : Thread Cert.Ref2Ideal.nD Cert.Ref2Ideal.τ).loc Cert.Ref2Ideal.main_arg17) = m ((c.tc : Thread Cert.Ref2Ideal.nD Cert.Ref2Ideal.τ).loc Cert.Ref2Ideal.main_arg17)
      ∧ r.2.mem ((c.tc : Thread Cert.Ref2Ideal.nD Cert.Ref2Ideal.τ).loc Cert.Ref2Ideal.main_arg18) = m ((c.tc : Thread Cert.Ref2Ideal.nD Cert.Ref2Ideal.τ).loc Cert.Ref2Ideal.main_arg18)
      ∧ r.2.mem ((c.tc : Thread Cert.Ref2Ideal.nD Cert.Ref2Ideal.τ).loc Cert.Ref2Ideal.main_arg19) = m ((c.tc : Thread Cert.Ref2Ideal.nD Cert.Ref2Ideal.τ).loc Cert.Ref2Ideal.main_arg19)
      ∧ r.2.mem ((c.tc : Thread Cert.Ref2Ideal.nD Cert.Ref2Ideal.τ).loc Cert.Ref2Ideal.main_arg20) = m ((c.tc : Thread Cert.Ref2Ideal.nD Cert.Ref2Ideal.τ).loc Cert.Ref2Ideal.main_arg20)
      ∧ r.2.mem ((c.tc : Thread Cert.Ref2Ideal.nD Cert.Ref2Ideal.τ).loc Cert.Ref2Ideal.main_arg21) = m ((c.tc : Thread Cert.Ref2Ideal.nD Cert.Ref2Ideal.τ).loc Cert.Ref2Ideal.main_arg21)
      ∧ r.2.mem ((c.tc : Thread Cert.Ref2Ideal.nD Cert.Ref2Ideal.τ).loc Cert.Ref2Ideal.main_arg22) = m ((c.tc : Thread Cert.Ref2Ideal.nD Cert.Ref2Ideal.τ).loc Cert.Ref2Ideal.main_arg22)
      ∧ r.2.mem ((c.tc : Thread Cert.Ref2Ideal.nD Cert.Ref2Ideal.τ).loc Cert.Ref2Ideal.main_arg23) = m ((c.tc : Thread Cert.Ref2Ideal.nD Cert.Ref2Ideal.τ).loc Cert.Ref2Ideal.main_arg23)
      ∧ r.2.mem ((c.tc : Thread Cert.Ref2Ideal.nD Cert.Ref2Ideal.τ).loc Cert.Ref2Ideal.main_arg24) = m ((c.tc : Thread Cert.Ref2Ideal.nD Cert.Ref2Ideal.τ).loc Cert.Ref2Ideal.main_arg24))
      ∧ r.2.sem = fun _ => 0)

def quiescent_Ref2Ideal_pre_pass2_ready [hRef2Ideal : Cert.Ref2Ideal.Facts] [hPre_pass2_ready : Cert.Pre_pass2_ready.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal_pass2_ready m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3)
      ∧ r.2.mem ((c.tc : Thread Cert.Ref2Ideal.nD Cert.Ref2Ideal.τ).loc Cert.Ref2Ideal.main_arg4) = m ((c.tc : Thread Cert.Ref2Ideal.nD Cert.Ref2Ideal.τ).loc Cert.Ref2Ideal.main_arg4)
      ∧ r.2.mem ((c.tc : Thread Cert.Ref2Ideal.nD Cert.Ref2Ideal.τ).loc Cert.Ref2Ideal.main_arg5) = m ((c.tc : Thread Cert.Ref2Ideal.nD Cert.Ref2Ideal.τ).loc Cert.Ref2Ideal.main_arg5)
      ∧ r.2.mem ((c.tc : Thread Cert.Ref2Ideal.nD Cert.Ref2Ideal.τ).loc Cert.Ref2Ideal.main_arg6) = m ((c.tc : Thread Cert.Ref2Ideal.nD Cert.Ref2Ideal.τ).loc Cert.Ref2Ideal.main_arg6)
      ∧ r.2.mem ((c.tc : Thread Cert.Ref2Ideal.nD Cert.Ref2Ideal.τ).loc Cert.Ref2Ideal.main_arg7) = m ((c.tc : Thread Cert.Ref2Ideal.nD Cert.Ref2Ideal.τ).loc Cert.Ref2Ideal.main_arg7)
      ∧ r.2.mem ((c.tc : Thread Cert.Ref2Ideal.nD Cert.Ref2Ideal.τ).loc Cert.Ref2Ideal.main_arg8) = m ((c.tc : Thread Cert.Ref2Ideal.nD Cert.Ref2Ideal.τ).loc Cert.Ref2Ideal.main_arg8)
      ∧ r.2.mem ((c.tc : Thread Cert.Ref2Ideal.nD Cert.Ref2Ideal.τ).loc Cert.Ref2Ideal.main_arg9) = m ((c.tc : Thread Cert.Ref2Ideal.nD Cert.Ref2Ideal.τ).loc Cert.Ref2Ideal.main_arg9)
      ∧ r.2.mem ((c.tc : Thread Cert.Ref2Ideal.nD Cert.Ref2Ideal.τ).loc Cert.Ref2Ideal.main_arg10) = m ((c.tc : Thread Cert.Ref2Ideal.nD Cert.Ref2Ideal.τ).loc Cert.Ref2Ideal.main_arg10)
      ∧ r.2.mem ((c.tc : Thread Cert.Ref2Ideal.nD Cert.Ref2Ideal.τ).loc Cert.Ref2Ideal.main_arg11) = m ((c.tc : Thread Cert.Ref2Ideal.nD Cert.Ref2Ideal.τ).loc Cert.Ref2Ideal.main_arg11)
      ∧ r.2.mem ((c.tc : Thread Cert.Ref2Ideal.nD Cert.Ref2Ideal.τ).loc Cert.Ref2Ideal.main_arg12) = m ((c.tc : Thread Cert.Ref2Ideal.nD Cert.Ref2Ideal.τ).loc Cert.Ref2Ideal.main_arg12)
      ∧ r.2.mem ((c.tc : Thread Cert.Ref2Ideal.nD Cert.Ref2Ideal.τ).loc Cert.Ref2Ideal.main_arg13) = m ((c.tc : Thread Cert.Ref2Ideal.nD Cert.Ref2Ideal.τ).loc Cert.Ref2Ideal.main_arg13)
      ∧ r.2.mem ((c.tc : Thread Cert.Ref2Ideal.nD Cert.Ref2Ideal.τ).loc Cert.Ref2Ideal.main_arg14) = m ((c.tc : Thread Cert.Ref2Ideal.nD Cert.Ref2Ideal.τ).loc Cert.Ref2Ideal.main_arg14)
      ∧ r.2.mem ((c.tc : Thread Cert.Ref2Ideal.nD Cert.Ref2Ideal.τ).loc Cert.Ref2Ideal.main_arg15) = m ((c.tc : Thread Cert.Ref2Ideal.nD Cert.Ref2Ideal.τ).loc Cert.Ref2Ideal.main_arg15)
      ∧ r.2.mem ((c.tc : Thread Cert.Ref2Ideal.nD Cert.Ref2Ideal.τ).loc Cert.Ref2Ideal.main_arg16) = m ((c.tc : Thread Cert.Ref2Ideal.nD Cert.Ref2Ideal.τ).loc Cert.Ref2Ideal.main_arg16)
      ∧ r.2.mem ((c.tc : Thread Cert.Ref2Ideal.nD Cert.Ref2Ideal.τ).loc Cert.Ref2Ideal.main_arg17) = m ((c.tc : Thread Cert.Ref2Ideal.nD Cert.Ref2Ideal.τ).loc Cert.Ref2Ideal.main_arg17)
      ∧ r.2.mem ((c.tc : Thread Cert.Ref2Ideal.nD Cert.Ref2Ideal.τ).loc Cert.Ref2Ideal.main_arg18) = m ((c.tc : Thread Cert.Ref2Ideal.nD Cert.Ref2Ideal.τ).loc Cert.Ref2Ideal.main_arg18)
      ∧ r.2.mem ((c.tc : Thread Cert.Ref2Ideal.nD Cert.Ref2Ideal.τ).loc Cert.Ref2Ideal.main_arg19) = m ((c.tc : Thread Cert.Ref2Ideal.nD Cert.Ref2Ideal.τ).loc Cert.Ref2Ideal.main_arg19)
      ∧ r.2.mem ((c.tc : Thread Cert.Ref2Ideal.nD Cert.Ref2Ideal.τ).loc Cert.Ref2Ideal.main_arg20) = m ((c.tc : Thread Cert.Ref2Ideal.nD Cert.Ref2Ideal.τ).loc Cert.Ref2Ideal.main_arg20)
      ∧ r.2.mem ((c.tc : Thread Cert.Ref2Ideal.nD Cert.Ref2Ideal.τ).loc Cert.Ref2Ideal.main_arg21) = m ((c.tc : Thread Cert.Ref2Ideal.nD Cert.Ref2Ideal.τ).loc Cert.Ref2Ideal.main_arg21)
      ∧ r.2.mem ((c.tc : Thread Cert.Ref2Ideal.nD Cert.Ref2Ideal.τ).loc Cert.Ref2Ideal.main_arg22) = m ((c.tc : Thread Cert.Ref2Ideal.nD Cert.Ref2Ideal.τ).loc Cert.Ref2Ideal.main_arg22)
      ∧ r.2.mem ((c.tc : Thread Cert.Ref2Ideal.nD Cert.Ref2Ideal.τ).loc Cert.Ref2Ideal.main_arg23) = m ((c.tc : Thread Cert.Ref2Ideal.nD Cert.Ref2Ideal.τ).loc Cert.Ref2Ideal.main_arg23)
      ∧ r.2.mem ((c.tc : Thread Cert.Ref2Ideal.nD Cert.Ref2Ideal.τ).loc Cert.Ref2Ideal.main_arg24) = m ((c.tc : Thread Cert.Ref2Ideal.nD Cert.Ref2Ideal.τ).loc Cert.Ref2Ideal.main_arg24))
      ∧ r.2.sem = fun _ => 0)

def quiescent_Pass1 [hPass1 : Cert.Pass1.Facts] : Prop :=
  ∀ (m : (ℓ : Loc Cert.Pass1.nD Cert.Pass1.τ Cert.Pass1.sig) → Buf (Elt Bits) ℓ) (g : Dev Cert.Pass1.nD → PrngReg), Pre_Pass1 m →
    θ_run (Cert.Pass1.defs (F := Bits)) (onTc (τ := Cert.Pass1.τ) (Cert.Pass1.main (F := Bits))) ⟨m, fun _ => 0, g⟩ (fun r => (∀ c : Dev Cert.Pass1.nD,
      r.2.mem ((c.tc : Thread Cert.Pass1.nD Cert.Pass1.τ).loc Cert.Pass1.main_arg0) = m ((c.tc : Thread Cert.Pass1.nD Cert.Pass1.τ).loc Cert.Pass1.main_arg0)
      ∧ r.2.mem ((c.tc : Thread Cert.Pass1.nD Cert.Pass1.τ).loc Cert.Pass1.main_arg1) = m ((c.tc : Thread Cert.Pass1.nD Cert.Pass1.τ).loc Cert.Pass1.main_arg1)
      ∧ r.2.mem ((c.tc : Thread Cert.Pass1.nD Cert.Pass1.τ).loc Cert.Pass1.main_arg2) = m ((c.tc : Thread Cert.Pass1.nD Cert.Pass1.τ).loc Cert.Pass1.main_arg2)
      ∧ r.2.mem ((c.tc : Thread Cert.Pass1.nD Cert.Pass1.τ).loc Cert.Pass1.main_arg3) = m ((c.tc : Thread Cert.Pass1.nD Cert.Pass1.τ).loc Cert.Pass1.main_arg3)
      ∧ r.2.mem ((c.tc : Thread Cert.Pass1.nD Cert.Pass1.τ).loc Cert.Pass1.main_arg4) = m ((c.tc : Thread Cert.Pass1.nD Cert.Pass1.τ).loc Cert.Pass1.main_arg4)
      ∧ r.2.mem ((c.tc : Thread Cert.Pass1.nD Cert.Pass1.τ).loc Cert.Pass1.main_arg5) = m ((c.tc : Thread Cert.Pass1.nD Cert.Pass1.τ).loc Cert.Pass1.main_arg5)
      ∧ r.2.mem ((c.tc : Thread Cert.Pass1.nD Cert.Pass1.τ).loc Cert.Pass1.main_arg6) = m ((c.tc : Thread Cert.Pass1.nD Cert.Pass1.τ).loc Cert.Pass1.main_arg6)
      ∧ r.2.mem ((c.tc : Thread Cert.Pass1.nD Cert.Pass1.τ).loc Cert.Pass1.main_arg7) = m ((c.tc : Thread Cert.Pass1.nD Cert.Pass1.τ).loc Cert.Pass1.main_arg7)
      ∧ r.2.mem ((c.tc : Thread Cert.Pass1.nD Cert.Pass1.τ).loc Cert.Pass1.main_arg8) = m ((c.tc : Thread Cert.Pass1.nD Cert.Pass1.τ).loc Cert.Pass1.main_arg8)
      ∧ r.2.mem ((c.tc : Thread Cert.Pass1.nD Cert.Pass1.τ).loc Cert.Pass1.main_arg9) = m ((c.tc : Thread Cert.Pass1.nD Cert.Pass1.τ).loc Cert.Pass1.main_arg9)
      ∧ r.2.mem ((c.tc : Thread Cert.Pass1.nD Cert.Pass1.τ).loc Cert.Pass1.main_arg10) = m ((c.tc : Thread Cert.Pass1.nD Cert.Pass1.τ).loc Cert.Pass1.main_arg10)
      ∧ r.2.mem ((c.tc : Thread Cert.Pass1.nD Cert.Pass1.τ).loc Cert.Pass1.main_arg11) = m ((c.tc : Thread Cert.Pass1.nD Cert.Pass1.τ).loc Cert.Pass1.main_arg11)
      ∧ r.2.mem ((c.tc : Thread Cert.Pass1.nD Cert.Pass1.τ).loc Cert.Pass1.main_arg12) = m ((c.tc : Thread Cert.Pass1.nD Cert.Pass1.τ).loc Cert.Pass1.main_arg12)
      ∧ r.2.mem ((c.tc : Thread Cert.Pass1.nD Cert.Pass1.τ).loc Cert.Pass1.main_arg13) = m ((c.tc : Thread Cert.Pass1.nD Cert.Pass1.τ).loc Cert.Pass1.main_arg13)
      ∧ r.2.mem ((c.tc : Thread Cert.Pass1.nD Cert.Pass1.τ).loc Cert.Pass1.main_arg14) = m ((c.tc : Thread Cert.Pass1.nD Cert.Pass1.τ).loc Cert.Pass1.main_arg14)
      ∧ r.2.mem ((c.tc : Thread Cert.Pass1.nD Cert.Pass1.τ).loc Cert.Pass1.main_arg15) = m ((c.tc : Thread Cert.Pass1.nD Cert.Pass1.τ).loc Cert.Pass1.main_arg15)
      ∧ r.2.mem ((c.tc : Thread Cert.Pass1.nD Cert.Pass1.τ).loc Cert.Pass1.main_arg16) = m ((c.tc : Thread Cert.Pass1.nD Cert.Pass1.τ).loc Cert.Pass1.main_arg16)
      ∧ r.2.mem ((c.tc : Thread Cert.Pass1.nD Cert.Pass1.τ).loc Cert.Pass1.main_arg17) = m ((c.tc : Thread Cert.Pass1.nD Cert.Pass1.τ).loc Cert.Pass1.main_arg17)
      ∧ r.2.mem ((c.tc : Thread Cert.Pass1.nD Cert.Pass1.τ).loc Cert.Pass1.main_arg18) = m ((c.tc : Thread Cert.Pass1.nD Cert.Pass1.τ).loc Cert.Pass1.main_arg18)
      ∧ r.2.mem ((c.tc : Thread Cert.Pass1.nD Cert.Pass1.τ).loc Cert.Pass1.main_arg19) = m ((c.tc : Thread Cert.Pass1.nD Cert.Pass1.τ).loc Cert.Pass1.main_arg19)
      ∧ r.2.mem ((c.tc : Thread Cert.Pass1.nD Cert.Pass1.τ).loc Cert.Pass1.main_arg20) = m ((c.tc : Thread Cert.Pass1.nD Cert.Pass1.τ).loc Cert.Pass1.main_arg20)
      ∧ r.2.mem ((c.tc : Thread Cert.Pass1.nD Cert.Pass1.τ).loc Cert.Pass1.main_arg21) = m ((c.tc : Thread Cert.Pass1.nD Cert.Pass1.τ).loc Cert.Pass1.main_arg21)
      ∧ r.2.mem ((c.tc : Thread Cert.Pass1.nD Cert.Pass1.τ).loc Cert.Pass1.main_arg22) = m ((c.tc : Thread Cert.Pass1.nD Cert.Pass1.τ).loc Cert.Pass1.main_arg22)
      ∧ r.2.mem ((c.tc : Thread Cert.Pass1.nD Cert.Pass1.τ).loc Cert.Pass1.main_arg23) = m ((c.tc : Thread Cert.Pass1.nD Cert.Pass1.τ).loc Cert.Pass1.main_arg23)
      ∧ r.2.mem ((c.tc : Thread Cert.Pass1.nD Cert.Pass1.τ).loc Cert.Pass1.main_arg24) = m ((c.tc : Thread Cert.Pass1.nD Cert.Pass1.τ).loc Cert.Pass1.main_arg24))
      ∧ r.2.sem = fun _ => 0)

def quiescent_Pass1Ideal [hPass1Ideal : Cert.Pass1Ideal.Facts] : Prop :=
  ∀ (m : (ℓ : Loc Cert.Pass1Ideal.nD Cert.Pass1Ideal.τ Cert.Pass1Ideal.sig) → Buf (Elt Ideal) ℓ) (g : Dev Cert.Pass1Ideal.nD → PrngReg), Pre_Pass1Ideal m →
    θ_run (Cert.Pass1Ideal.defs (F := Ideal)) (onTc (τ := Cert.Pass1Ideal.τ) (Cert.Pass1Ideal.main (F := Ideal))) ⟨m, fun _ => 0, g⟩ (fun r => (∀ c : Dev Cert.Pass1Ideal.nD,
      r.2.mem ((c.tc : Thread Cert.Pass1Ideal.nD Cert.Pass1Ideal.τ).loc Cert.Pass1Ideal.main_arg0) = m ((c.tc : Thread Cert.Pass1Ideal.nD Cert.Pass1Ideal.τ).loc Cert.Pass1Ideal.main_arg0)
      ∧ r.2.mem ((c.tc : Thread Cert.Pass1Ideal.nD Cert.Pass1Ideal.τ).loc Cert.Pass1Ideal.main_arg1) = m ((c.tc : Thread Cert.Pass1Ideal.nD Cert.Pass1Ideal.τ).loc Cert.Pass1Ideal.main_arg1)
      ∧ r.2.mem ((c.tc : Thread Cert.Pass1Ideal.nD Cert.Pass1Ideal.τ).loc Cert.Pass1Ideal.main_arg2) = m ((c.tc : Thread Cert.Pass1Ideal.nD Cert.Pass1Ideal.τ).loc Cert.Pass1Ideal.main_arg2)
      ∧ r.2.mem ((c.tc : Thread Cert.Pass1Ideal.nD Cert.Pass1Ideal.τ).loc Cert.Pass1Ideal.main_arg3) = m ((c.tc : Thread Cert.Pass1Ideal.nD Cert.Pass1Ideal.τ).loc Cert.Pass1Ideal.main_arg3)
      ∧ r.2.mem ((c.tc : Thread Cert.Pass1Ideal.nD Cert.Pass1Ideal.τ).loc Cert.Pass1Ideal.main_arg4) = m ((c.tc : Thread Cert.Pass1Ideal.nD Cert.Pass1Ideal.τ).loc Cert.Pass1Ideal.main_arg4)
      ∧ r.2.mem ((c.tc : Thread Cert.Pass1Ideal.nD Cert.Pass1Ideal.τ).loc Cert.Pass1Ideal.main_arg5) = m ((c.tc : Thread Cert.Pass1Ideal.nD Cert.Pass1Ideal.τ).loc Cert.Pass1Ideal.main_arg5)
      ∧ r.2.mem ((c.tc : Thread Cert.Pass1Ideal.nD Cert.Pass1Ideal.τ).loc Cert.Pass1Ideal.main_arg6) = m ((c.tc : Thread Cert.Pass1Ideal.nD Cert.Pass1Ideal.τ).loc Cert.Pass1Ideal.main_arg6)
      ∧ r.2.mem ((c.tc : Thread Cert.Pass1Ideal.nD Cert.Pass1Ideal.τ).loc Cert.Pass1Ideal.main_arg7) = m ((c.tc : Thread Cert.Pass1Ideal.nD Cert.Pass1Ideal.τ).loc Cert.Pass1Ideal.main_arg7)
      ∧ r.2.mem ((c.tc : Thread Cert.Pass1Ideal.nD Cert.Pass1Ideal.τ).loc Cert.Pass1Ideal.main_arg8) = m ((c.tc : Thread Cert.Pass1Ideal.nD Cert.Pass1Ideal.τ).loc Cert.Pass1Ideal.main_arg8)
      ∧ r.2.mem ((c.tc : Thread Cert.Pass1Ideal.nD Cert.Pass1Ideal.τ).loc Cert.Pass1Ideal.main_arg9) = m ((c.tc : Thread Cert.Pass1Ideal.nD Cert.Pass1Ideal.τ).loc Cert.Pass1Ideal.main_arg9)
      ∧ r.2.mem ((c.tc : Thread Cert.Pass1Ideal.nD Cert.Pass1Ideal.τ).loc Cert.Pass1Ideal.main_arg10) = m ((c.tc : Thread Cert.Pass1Ideal.nD Cert.Pass1Ideal.τ).loc Cert.Pass1Ideal.main_arg10)
      ∧ r.2.mem ((c.tc : Thread Cert.Pass1Ideal.nD Cert.Pass1Ideal.τ).loc Cert.Pass1Ideal.main_arg11) = m ((c.tc : Thread Cert.Pass1Ideal.nD Cert.Pass1Ideal.τ).loc Cert.Pass1Ideal.main_arg11)
      ∧ r.2.mem ((c.tc : Thread Cert.Pass1Ideal.nD Cert.Pass1Ideal.τ).loc Cert.Pass1Ideal.main_arg12) = m ((c.tc : Thread Cert.Pass1Ideal.nD Cert.Pass1Ideal.τ).loc Cert.Pass1Ideal.main_arg12)
      ∧ r.2.mem ((c.tc : Thread Cert.Pass1Ideal.nD Cert.Pass1Ideal.τ).loc Cert.Pass1Ideal.main_arg13) = m ((c.tc : Thread Cert.Pass1Ideal.nD Cert.Pass1Ideal.τ).loc Cert.Pass1Ideal.main_arg13)
      ∧ r.2.mem ((c.tc : Thread Cert.Pass1Ideal.nD Cert.Pass1Ideal.τ).loc Cert.Pass1Ideal.main_arg14) = m ((c.tc : Thread Cert.Pass1Ideal.nD Cert.Pass1Ideal.τ).loc Cert.Pass1Ideal.main_arg14)
      ∧ r.2.mem ((c.tc : Thread Cert.Pass1Ideal.nD Cert.Pass1Ideal.τ).loc Cert.Pass1Ideal.main_arg15) = m ((c.tc : Thread Cert.Pass1Ideal.nD Cert.Pass1Ideal.τ).loc Cert.Pass1Ideal.main_arg15)
      ∧ r.2.mem ((c.tc : Thread Cert.Pass1Ideal.nD Cert.Pass1Ideal.τ).loc Cert.Pass1Ideal.main_arg16) = m ((c.tc : Thread Cert.Pass1Ideal.nD Cert.Pass1Ideal.τ).loc Cert.Pass1Ideal.main_arg16)
      ∧ r.2.mem ((c.tc : Thread Cert.Pass1Ideal.nD Cert.Pass1Ideal.τ).loc Cert.Pass1Ideal.main_arg17) = m ((c.tc : Thread Cert.Pass1Ideal.nD Cert.Pass1Ideal.τ).loc Cert.Pass1Ideal.main_arg17)
      ∧ r.2.mem ((c.tc : Thread Cert.Pass1Ideal.nD Cert.Pass1Ideal.τ).loc Cert.Pass1Ideal.main_arg18) = m ((c.tc : Thread Cert.Pass1Ideal.nD Cert.Pass1Ideal.τ).loc Cert.Pass1Ideal.main_arg18)
      ∧ r.2.mem ((c.tc : Thread Cert.Pass1Ideal.nD Cert.Pass1Ideal.τ).loc Cert.Pass1Ideal.main_arg19) = m ((c.tc : Thread Cert.Pass1Ideal.nD Cert.Pass1Ideal.τ).loc Cert.Pass1Ideal.main_arg19)
      ∧ r.2.mem ((c.tc : Thread Cert.Pass1Ideal.nD Cert.Pass1Ideal.τ).loc Cert.Pass1Ideal.main_arg20) = m ((c.tc : Thread Cert.Pass1Ideal.nD Cert.Pass1Ideal.τ).loc Cert.Pass1Ideal.main_arg20)
      ∧ r.2.mem ((c.tc : Thread Cert.Pass1Ideal.nD Cert.Pass1Ideal.τ).loc Cert.Pass1Ideal.main_arg21) = m ((c.tc : Thread Cert.Pass1Ideal.nD Cert.Pass1Ideal.τ).loc Cert.Pass1Ideal.main_arg21)
      ∧ r.2.mem ((c.tc : Thread Cert.Pass1Ideal.nD Cert.Pass1Ideal.τ).loc Cert.Pass1Ideal.main_arg22) = m ((c.tc : Thread Cert.Pass1Ideal.nD Cert.Pass1Ideal.τ).loc Cert.Pass1Ideal.main_arg22)
      ∧ r.2.mem ((c.tc : Thread Cert.Pass1Ideal.nD Cert.Pass1Ideal.τ).loc Cert.Pass1Ideal.main_arg23) = m ((c.tc : Thread Cert.Pass1Ideal.nD Cert.Pass1Ideal.τ).loc Cert.Pass1Ideal.main_arg23)
      ∧ r.2.mem ((c.tc : Thread Cert.Pass1Ideal.nD Cert.Pass1Ideal.τ).loc Cert.Pass1Ideal.main_arg24) = m ((c.tc : Thread Cert.Pass1Ideal.nD Cert.Pass1Ideal.τ).loc Cert.Pass1Ideal.main_arg24))
      ∧ r.2.sem = fun _ => 0)

def preserves_Pass2_Pass2Ideal : Prop :=
  IdealRules.named_const.Statement Cert.Pass2Ideal.κ "mask" .f32 0xCF800000#32 ⊥

def algebraic_Pass2Ideal_Ref2Ideal_pre_pass2_ready [hPass2Ideal : Cert.Pass2Ideal.Facts] [hRef2Ideal : Cert.Ref2Ideal.Facts] [hPre_pass2_ready : Cert.Pre_pass2_ready.Facts] : Prop :=
  ∀ (m : (ℓ : Loc Cert.Pass2Ideal.nD Cert.Pass2Ideal.τ Cert.Pass2Ideal.sig) → Buf (Elt Ideal) ℓ) (g : Dev Cert.Pass2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Pass2Ideal_pass2_ready m →
    (∀ c : Dev Cert.Pass2Ideal.nD,
      m' ((c.tc : Thread Cert.Ref2Ideal.nD Cert.Ref2Ideal.τ).loc Cert.Ref2Ideal.main_arg0) = m ((c.tc : Thread Cert.Pass2Ideal.nD Cert.Pass2Ideal.τ).loc Cert.Pass2Ideal.main_arg0)
      ∧ m' ((c.tc : Thread Cert.Ref2Ideal.nD Cert.Ref2Ideal.τ).loc Cert.Ref2Ideal.main_arg1) = m ((c.tc : Thread Cert.Pass2Ideal.nD Cert.Pass2Ideal.τ).loc Cert.Pass2Ideal.main_arg1)
      ∧ m' ((c.tc : Thread Cert.Ref2Ideal.nD Cert.Ref2Ideal.τ).loc Cert.Ref2Ideal.main_arg2) = m ((c.tc : Thread Cert.Pass2Ideal.nD Cert.Pass2Ideal.τ).loc Cert.Pass2Ideal.main_arg2)
      ∧ m' ((c.tc : Thread Cert.Ref2Ideal.nD Cert.Ref2Ideal.τ).loc Cert.Ref2Ideal.main_arg3) = m ((c.tc : Thread Cert.Pass2Ideal.nD Cert.Pass2Ideal.τ).loc Cert.Pass2Ideal.main_arg3)
      ∧ m' ((c.tc : Thread Cert.Ref2Ideal.nD Cert.Ref2Ideal.τ).loc Cert.Ref2Ideal.main_arg4) = m ((c.tc : Thread Cert.Pass2Ideal.nD Cert.Pass2Ideal.τ).loc Cert.Pass2Ideal.main_arg4)
      ∧ m' ((c.tc : Thread Cert.Ref2Ideal.nD Cert.Ref2Ideal.τ).loc Cert.Ref2Ideal.main_arg5) = m ((c.tc : Thread Cert.Pass2Ideal.nD Cert.Pass2Ideal.τ).loc Cert.Pass2Ideal.main_arg5)
      ∧ m' ((c.tc : Thread Cert.Ref2Ideal.nD Cert.Ref2Ideal.τ).loc Cert.Ref2Ideal.main_arg6) = m ((c.tc : Thread Cert.Pass2Ideal.nD Cert.Pass2Ideal.τ).loc Cert.Pass2Ideal.main_arg6)
      ∧ m' ((c.tc : Thread Cert.Ref2Ideal.nD Cert.Ref2Ideal.τ).loc Cert.Ref2Ideal.main_arg7) = m ((c.tc : Thread Cert.Pass2Ideal.nD Cert.Pass2Ideal.τ).loc Cert.Pass2Ideal.main_arg7)
      ∧ m' ((c.tc : Thread Cert.Ref2Ideal.nD Cert.Ref2Ideal.τ).loc Cert.Ref2Ideal.main_arg8) = m ((c.tc : Thread Cert.Pass2Ideal.nD Cert.Pass2Ideal.τ).loc Cert.Pass2Ideal.main_arg8)
      ∧ m' ((c.tc : Thread Cert.Ref2Ideal.nD Cert.Ref2Ideal.τ).loc Cert.Ref2Ideal.main_arg9) = m ((c.tc : Thread Cert.Pass2Ideal.nD Cert.Pass2Ideal.τ).loc Cert.Pass2Ideal.main_arg9)
      ∧ m' ((c.tc : Thread Cert.Ref2Ideal.nD Cert.Ref2Ideal.τ).loc Cert.Ref2Ideal.main_arg10) = m ((c.tc : Thread Cert.Pass2Ideal.nD Cert.Pass2Ideal.τ).loc Cert.Pass2Ideal.main_arg10)
      ∧ m' ((c.tc : Thread Cert.Ref2Ideal.nD Cert.Ref2Ideal.τ).loc Cert.Ref2Ideal.main_arg11) = m ((c.tc : Thread Cert.Pass2Ideal.nD Cert.Pass2Ideal.τ).loc Cert.Pass2Ideal.main_arg11)
      ∧ m' ((c.tc : Thread Cert.Ref2Ideal.nD Cert.Ref2Ideal.τ).loc Cert.Ref2Ideal.main_arg12) = m ((c.tc : Thread Cert.Pass2Ideal.nD Cert.Pass2Ideal.τ).loc Cert.Pass2Ideal.main_arg12)
      ∧ m' ((c.tc : Thread Cert.Ref2Ideal.nD Cert.Ref2Ideal.τ).loc Cert.Ref2Ideal.main_arg13) = m ((c.tc : Thread Cert.Pass2Ideal.nD Cert.Pass2Ideal.τ).loc Cert.Pass2Ideal.main_arg13)
      ∧ m' ((c.tc : Thread Cert.Ref2Ideal.nD Cert.Ref2Ideal.τ).loc Cert.Ref2Ideal.main_arg14) = m ((c.tc : Thread Cert.Pass2Ideal.nD Cert.Pass2Ideal.τ).loc Cert.Pass2Ideal.main_arg14)
      ∧ m' ((c.tc : Thread Cert.Ref2Ideal.nD Cert.Ref2Ideal.τ).loc Cert.Ref2Ideal.main_arg15) = m ((c.tc : Thread Cert.Pass2Ideal.nD Cert.Pass2Ideal.τ).loc Cert.Pass2Ideal.main_arg15)
      ∧ m' ((c.tc : Thread Cert.Ref2Ideal.nD Cert.Ref2Ideal.τ).loc Cert.Ref2Ideal.main_arg16) = m ((c.tc : Thread Cert.Pass2Ideal.nD Cert.Pass2Ideal.τ).loc Cert.Pass2Ideal.main_arg16)
      ∧ m' ((c.tc : Thread Cert.Ref2Ideal.nD Cert.Ref2Ideal.τ).loc Cert.Ref2Ideal.main_arg17) = m ((c.tc : Thread Cert.Pass2Ideal.nD Cert.Pass2Ideal.τ).loc Cert.Pass2Ideal.main_arg17)
      ∧ m' ((c.tc : Thread Cert.Ref2Ideal.nD Cert.Ref2Ideal.τ).loc Cert.Ref2Ideal.main_arg18) = m ((c.tc : Thread Cert.Pass2Ideal.nD Cert.Pass2Ideal.τ).loc Cert.Pass2Ideal.main_arg18)
      ∧ m' ((c.tc : Thread Cert.Ref2Ideal.nD Cert.Ref2Ideal.τ).loc Cert.Ref2Ideal.main_arg19) = m ((c.tc : Thread Cert.Pass2Ideal.nD Cert.Pass2Ideal.τ).loc Cert.Pass2Ideal.main_arg19)
      ∧ m' ((c.tc : Thread Cert.Ref2Ideal.nD Cert.Ref2Ideal.τ).loc Cert.Ref2Ideal.main_arg20) = m ((c.tc : Thread Cert.Pass2Ideal.nD Cert.Pass2Ideal.τ).loc Cert.Pass2Ideal.main_arg20)
      ∧ m' ((c.tc : Thread Cert.Ref2Ideal.nD Cert.Ref2Ideal.τ).loc Cert.Ref2Ideal.main_arg21) = m ((c.tc : Thread Cert.Pass2Ideal.nD Cert.Pass2Ideal.τ).loc Cert.Pass2Ideal.main_arg21)
      ∧ m' ((c.tc : Thread Cert.Ref2Ideal.nD Cert.Ref2Ideal.τ).loc Cert.Ref2Ideal.main_arg22) = m ((c.tc : Thread Cert.Pass2Ideal.nD Cert.Pass2Ideal.τ).loc Cert.Pass2Ideal.main_arg22)
      ∧ m' ((c.tc : Thread Cert.Ref2Ideal.nD Cert.Ref2Ideal.τ).loc Cert.Ref2Ideal.main_arg23) = m ((c.tc : Thread Cert.Pass2Ideal.nD Cert.Pass2Ideal.τ).loc Cert.Pass2Ideal.main_arg23)
      ∧ m' ((c.tc : Thread Cert.Ref2Ideal.nD Cert.Ref2Ideal.τ).loc Cert.Ref2Ideal.main_arg24) = m ((c.tc : Thread Cert.Pass2Ideal.nD Cert.Pass2Ideal.τ).loc Cert.Pass2Ideal.main_arg24)) →
    ∃ (v0 : (c : Dev Cert.Pass2Ideal.nD) → Buf (Elt Ideal) ((c.tc : Thread Cert.Pass2Ideal.nD Cert.Pass2Ideal.τ).loc Cert.Pass2Ideal.main_v99)) (v1 : (c : Dev Cert.Pass2Ideal.nD) → Buf (Elt Ideal) ((c.tc : Thread Cert.Pass2Ideal.nD Cert.Pass2Ideal.τ).loc Cert.Pass2Ideal.main_v103)),
      θ_run (Cert.Pass2Ideal.defs (F := Ideal)) (onTc (τ := Cert.Pass2Ideal.τ) (Cert.Pass2Ideal.main (F := Ideal))) ⟨m, fun _ => 0, g⟩ (fun r => ∀ c : Dev Cert.Pass2Ideal.nD,
          r.2.mem ((c.tc : Thread Cert.Pass2Ideal.nD Cert.Pass2Ideal.τ).loc Cert.Pass2Ideal.main_v99) = v0 c
          ∧ r.2.mem ((c.tc : Thread Cert.Pass2Ideal.nD Cert.Pass2Ideal.τ).loc Cert.Pass2Ideal.main_v103) = v1 c
          ∧ r.2.mem ((c.tc : Thread Cert.Pass2Ideal.nD Cert.Pass2Ideal.τ).loc Cert.Pass2Ideal.main_arg0) = m ((c.tc : Thread Cert.Pass2Ideal.nD Cert.Pass2Ideal.τ).loc Cert.Pass2Ideal.main_arg0)
          ∧ r.2.mem ((c.tc : Thread Cert.Pass2Ideal.nD Cert.Pass2Ideal.τ).loc Cert.Pass2Ideal.main_arg1) = m ((c.tc : Thread Cert.Pass2Ideal.nD Cert.Pass2Ideal.τ).loc Cert.Pass2Ideal.main_arg1)
          ∧ r.2.mem ((c.tc : Thread Cert.Pass2Ideal.nD Cert.Pass2Ideal.τ).loc Cert.Pass2Ideal.main_arg2) = m ((c.tc : Thread Cert.Pass2Ideal.nD Cert.Pass2Ideal.τ).loc Cert.Pass2Ideal.main_arg2)
          ∧ r.2.mem ((c.tc : Thread Cert.Pass2Ideal.nD Cert.Pass2Ideal.τ).loc Cert.Pass2Ideal.main_arg3) = m ((c.tc : Thread Cert.Pass2Ideal.nD Cert.Pass2Ideal.τ).loc Cert.Pass2Ideal.main_arg3)
          ∧ r.2.mem ((c.tc : Thread Cert.Pass2Ideal.nD Cert.Pass2Ideal.τ).loc Cert.Pass2Ideal.main_arg4) = m ((c.tc : Thread Cert.Pass2Ideal.nD Cert.Pass2Ideal.τ).loc Cert.Pass2Ideal.main_arg4)
          ∧ r.2.mem ((c.tc : Thread Cert.Pass2Ideal.nD Cert.Pass2Ideal.τ).loc Cert.Pass2Ideal.main_arg5) = m ((c.tc : Thread Cert.Pass2Ideal.nD Cert.Pass2Ideal.τ).loc Cert.Pass2Ideal.main_arg5)
          ∧ r.2.mem ((c.tc : Thread Cert.Pass2Ideal.nD Cert.Pass2Ideal.τ).loc Cert.Pass2Ideal.main_arg6) = m ((c.tc : Thread Cert.Pass2Ideal.nD Cert.Pass2Ideal.τ).loc Cert.Pass2Ideal.main_arg6)
          ∧ r.2.mem ((c.tc : Thread Cert.Pass2Ideal.nD Cert.Pass2Ideal.τ).loc Cert.Pass2Ideal.main_arg7) = m ((c.tc : Thread Cert.Pass2Ideal.nD Cert.Pass2Ideal.τ).loc Cert.Pass2Ideal.main_arg7)
          ∧ r.2.mem ((c.tc : Thread Cert.Pass2Ideal.nD Cert.Pass2Ideal.τ).loc Cert.Pass2Ideal.main_arg8) = m ((c.tc : Thread Cert.Pass2Ideal.nD Cert.Pass2Ideal.τ).loc Cert.Pass2Ideal.main_arg8)
          ∧ r.2.mem ((c.tc : Thread Cert.Pass2Ideal.nD Cert.Pass2Ideal.τ).loc Cert.Pass2Ideal.main_arg9) = m ((c.tc : Thread Cert.Pass2Ideal.nD Cert.Pass2Ideal.τ).loc Cert.Pass2Ideal.main_arg9)
          ∧ r.2.mem ((c.tc : Thread Cert.Pass2Ideal.nD Cert.Pass2Ideal.τ).loc Cert.Pass2Ideal.main_arg10) = m ((c.tc : Thread Cert.Pass2Ideal.nD Cert.Pass2Ideal.τ).loc Cert.Pass2Ideal.main_arg10)
          ∧ r.2.mem ((c.tc : Thread Cert.Pass2Ideal.nD Cert.Pass2Ideal.τ).loc Cert.Pass2Ideal.main_arg11) = m ((c.tc : Thread Cert.Pass2Ideal.nD Cert.Pass2Ideal.τ).loc Cert.Pass2Ideal.main_arg11)
          ∧ r.2.mem ((c.tc : Thread Cert.Pass2Ideal.nD Cert.Pass2Ideal.τ).loc Cert.Pass2Ideal.main_arg12) = m ((c.tc : Thread Cert.Pass2Ideal.nD Cert.Pass2Ideal.τ).loc Cert.Pass2Ideal.main_arg12)
          ∧ r.2.mem ((c.tc : Thread Cert.Pass2Ideal.nD Cert.Pass2Ideal.τ).loc Cert.Pass2Ideal.main_arg13) = m ((c.tc : Thread Cert.Pass2Ideal.nD Cert.Pass2Ideal.τ).loc Cert.Pass2Ideal.main_arg13)
          ∧ r.2.mem ((c.tc : Thread Cert.Pass2Ideal.nD Cert.Pass2Ideal.τ).loc Cert.Pass2Ideal.main_arg14) = m ((c.tc : Thread Cert.Pass2Ideal.nD Cert.Pass2Ideal.τ).loc Cert.Pass2Ideal.main_arg14)
          ∧ r.2.mem ((c.tc : Thread Cert.Pass2Ideal.nD Cert.Pass2Ideal.τ).loc Cert.Pass2Ideal.main_arg15) = m ((c.tc : Thread Cert.Pass2Ideal.nD Cert.Pass2Ideal.τ).loc Cert.Pass2Ideal.main_arg15)
          ∧ r.2.mem ((c.tc : Thread Cert.Pass2Ideal.nD Cert.Pass2Ideal.τ).loc Cert.Pass2Ideal.main_arg16) = m ((c.tc : Thread Cert.Pass2Ideal.nD Cert.Pass2Ideal.τ).loc Cert.Pass2Ideal.main_arg16)
          ∧ r.2.mem ((c.tc : Thread Cert.Pass2Ideal.nD Cert.Pass2Ideal.τ).loc Cert.Pass2Ideal.main_arg17) = m ((c.tc : Thread Cert.Pass2Ideal.nD Cert.Pass2Ideal.τ).loc Cert.Pass2Ideal.main_arg17)
          ∧ r.2.mem ((c.tc : Thread Cert.Pass2Ideal.nD Cert.Pass2Ideal.τ).loc Cert.Pass2Ideal.main_arg18) = m ((c.tc : Thread Cert.Pass2Ideal.nD Cert.Pass2Ideal.τ).loc Cert.Pass2Ideal.main_arg18)
          ∧ r.2.mem ((c.tc : Thread Cert.Pass2Ideal.nD Cert.Pass2Ideal.τ).loc Cert.Pass2Ideal.main_arg19) = m ((c.tc : Thread Cert.Pass2Ideal.nD Cert.Pass2Ideal.τ).loc Cert.Pass2Ideal.main_arg19)
          ∧ r.2.mem ((c.tc : Thread Cert.Pass2Ideal.nD Cert.Pass2Ideal.τ).loc Cert.Pass2Ideal.main_arg20) = m ((c.tc : Thread Cert.Pass2Ideal.nD Cert.Pass2Ideal.τ).loc Cert.Pass2Ideal.main_arg20)
          ∧ r.2.mem ((c.tc : Thread Cert.Pass2Ideal.nD Cert.Pass2Ideal.τ).loc Cert.Pass2Ideal.main_arg21) = m ((c.tc : Thread Cert.Pass2Ideal.nD Cert.Pass2Ideal.τ).loc Cert.Pass2Ideal.main_arg21)
          ∧ r.2.mem ((c.tc : Thread Cert.Pass2Ideal.nD Cert.Pass2Ideal.τ).loc Cert.Pass2Ideal.main_arg22) = m ((c.tc : Thread Cert.Pass2Ideal.nD Cert.Pass2Ideal.τ).loc Cert.Pass2Ideal.main_arg22)
          ∧ r.2.mem ((c.tc : Thread Cert.Pass2Ideal.nD Cert.Pass2Ideal.τ).loc Cert.Pass2Ideal.main_arg23) = m ((c.tc : Thread Cert.Pass2Ideal.nD Cert.Pass2Ideal.τ).loc Cert.Pass2Ideal.main_arg23)
          ∧ r.2.mem ((c.tc : Thread Cert.Pass2Ideal.nD Cert.Pass2Ideal.τ).loc Cert.Pass2Ideal.main_arg24) = m ((c.tc : Thread Cert.Pass2Ideal.nD Cert.Pass2Ideal.τ).loc Cert.Pass2Ideal.main_arg24))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v168) = v0 c
          ∧ r.2.mem ((c.tc : Thread Cert.Ref2Ideal.nD Cert.Ref2Ideal.τ).loc Cert.Ref2Ideal.main_v122) = v1 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0)
          ∧ r.2.mem ((c.tc : Thread Cert.Ref2Ideal.nD Cert.Ref2Ideal.τ).loc Cert.Ref2Ideal.main_arg1) = m' ((c.tc : Thread Cert.Ref2Ideal.nD Cert.Ref2Ideal.τ).loc Cert.Ref2Ideal.main_arg1)
          ∧ r.2.mem ((c.tc : Thread Cert.Ref2Ideal.nD Cert.Ref2Ideal.τ).loc Cert.Ref2Ideal.main_arg2) = m' ((c.tc : Thread Cert.Ref2Ideal.nD Cert.Ref2Ideal.τ).loc Cert.Ref2Ideal.main_arg2)
          ∧ r.2.mem ((c.tc : Thread Cert.Ref2Ideal.nD Cert.Ref2Ideal.τ).loc Cert.Ref2Ideal.main_arg3) = m' ((c.tc : Thread Cert.Ref2Ideal.nD Cert.Ref2Ideal.τ).loc Cert.Ref2Ideal.main_arg3)
          ∧ r.2.mem ((c.tc : Thread Cert.Ref2Ideal.nD Cert.Ref2Ideal.τ).loc Cert.Ref2Ideal.main_arg4) = m' ((c.tc : Thread Cert.Ref2Ideal.nD Cert.Ref2Ideal.τ).loc Cert.Ref2Ideal.main_arg4)
          ∧ r.2.mem ((c.tc : Thread Cert.Ref2Ideal.nD Cert.Ref2Ideal.τ).loc Cert.Ref2Ideal.main_arg5) = m' ((c.tc : Thread Cert.Ref2Ideal.nD Cert.Ref2Ideal.τ).loc Cert.Ref2Ideal.main_arg5)
          ∧ r.2.mem ((c.tc : Thread Cert.Ref2Ideal.nD Cert.Ref2Ideal.τ).loc Cert.Ref2Ideal.main_arg6) = m' ((c.tc : Thread Cert.Ref2Ideal.nD Cert.Ref2Ideal.τ).loc Cert.Ref2Ideal.main_arg6)
          ∧ r.2.mem ((c.tc : Thread Cert.Ref2Ideal.nD Cert.Ref2Ideal.τ).loc Cert.Ref2Ideal.main_arg7) = m' ((c.tc : Thread Cert.Ref2Ideal.nD Cert.Ref2Ideal.τ).loc Cert.Ref2Ideal.main_arg7)
          ∧ r.2.mem ((c.tc : Thread Cert.Ref2Ideal.nD Cert.Ref2Ideal.τ).loc Cert.Ref2Ideal.main_arg8) = m' ((c.tc : Thread Cert.Ref2Ideal.nD Cert.Ref2Ideal.τ).loc Cert.Ref2Ideal.main_arg8)
          ∧ r.2.mem ((c.tc : Thread Cert.Ref2Ideal.nD Cert.Ref2Ideal.τ).loc Cert.Ref2Ideal.main_arg9) = m' ((c.tc : Thread Cert.Ref2Ideal.nD Cert.Ref2Ideal.τ).loc Cert.Ref2Ideal.main_arg9)
          ∧ r.2.mem ((c.tc : Thread Cert.Ref2Ideal.nD Cert.Ref2Ideal.τ).loc Cert.Ref2Ideal.main_arg10) = m' ((c.tc : Thread Cert.Ref2Ideal.nD Cert.Ref2Ideal.τ).loc Cert.Ref2Ideal.main_arg10)
          ∧ r.2.mem ((c.tc : Thread Cert.Ref2Ideal.nD Cert.Ref2Ideal.τ).loc Cert.Ref2Ideal.main_arg11) = m' ((c.tc : Thread Cert.Ref2Ideal.nD Cert.Ref2Ideal.τ).loc Cert.Ref2Ideal.main_arg11)
          ∧ r.2.mem ((c.tc : Thread Cert.Ref2Ideal.nD Cert.Ref2Ideal.τ).loc Cert.Ref2Ideal.main_arg12) = m' ((c.tc : Thread Cert.Ref2Ideal.nD Cert.Ref2Ideal.τ).loc Cert.Ref2Ideal.main_arg12)
          ∧ r.2.mem ((c.tc : Thread Cert.Ref2Ideal.nD Cert.Ref2Ideal.τ).loc Cert.Ref2Ideal.main_arg13) = m' ((c.tc : Thread Cert.Ref2Ideal.nD Cert.Ref2Ideal.τ).loc Cert.Ref2Ideal.main_arg13)
          ∧ r.2.mem ((c.tc : Thread Cert.Ref2Ideal.nD Cert.Ref2Ideal.τ).loc Cert.Ref2Ideal.main_arg14) = m' ((c.tc : Thread Cert.Ref2Ideal.nD Cert.Ref2Ideal.τ).loc Cert.Ref2Ideal.main_arg14)
          ∧ r.2.mem ((c.tc : Thread Cert.Ref2Ideal.nD Cert.Ref2Ideal.τ).loc Cert.Ref2Ideal.main_arg15) = m' ((c.tc : Thread Cert.Ref2Ideal.nD Cert.Ref2Ideal.τ).loc Cert.Ref2Ideal.main_arg15)
          ∧ r.2.mem ((c.tc : Thread Cert.Ref2Ideal.nD Cert.Ref2Ideal.τ).loc Cert.Ref2Ideal.main_arg16) = m' ((c.tc : Thread Cert.Ref2Ideal.nD Cert.Ref2Ideal.τ).loc Cert.Ref2Ideal.main_arg16)
          ∧ r.2.mem ((c.tc : Thread Cert.Ref2Ideal.nD Cert.Ref2Ideal.τ).loc Cert.Ref2Ideal.main_arg17) = m' ((c.tc : Thread Cert.Ref2Ideal.nD Cert.Ref2Ideal.τ).loc Cert.Ref2Ideal.main_arg17)
          ∧ r.2.mem ((c.tc : Thread Cert.Ref2Ideal.nD Cert.Ref2Ideal.τ).loc Cert.Ref2Ideal.main_arg18) = m' ((c.tc : Thread Cert.Ref2Ideal.nD Cert.Ref2Ideal.τ).loc Cert.Ref2Ideal.main_arg18)
          ∧ r.2.mem ((c.tc : Thread Cert.Ref2Ideal.nD Cert.Ref2Ideal.τ).loc Cert.Ref2Ideal.main_arg19) = m' ((c.tc : Thread Cert.Ref2Ideal.nD Cert.Ref2Ideal.τ).loc Cert.Ref2Ideal.main_arg19)
          ∧ r.2.mem ((c.tc : Thread Cert.Ref2Ideal.nD Cert.Ref2Ideal.τ).loc Cert.Ref2Ideal.main_arg20) = m' ((c.tc : Thread Cert.Ref2Ideal.nD Cert.Ref2Ideal.τ).loc Cert.Ref2Ideal.main_arg20)
          ∧ r.2.mem ((c.tc : Thread Cert.Ref2Ideal.nD Cert.Ref2Ideal.τ).loc Cert.Ref2Ideal.main_arg21) = m' ((c.tc : Thread Cert.Ref2Ideal.nD Cert.Ref2Ideal.τ).loc Cert.Ref2Ideal.main_arg21)
          ∧ r.2.mem ((c.tc : Thread Cert.Ref2Ideal.nD Cert.Ref2Ideal.τ).loc Cert.Ref2Ideal.main_arg22) = m' ((c.tc : Thread Cert.Ref2Ideal.nD Cert.Ref2Ideal.τ).loc Cert.Ref2Ideal.main_arg22)
          ∧ r.2.mem ((c.tc : Thread Cert.Ref2Ideal.nD Cert.Ref2Ideal.τ).loc Cert.Ref2Ideal.main_arg23) = m' ((c.tc : Thread Cert.Ref2Ideal.nD Cert.Ref2Ideal.τ).loc Cert.Ref2Ideal.main_arg23)
          ∧ r.2.mem ((c.tc : Thread Cert.Ref2Ideal.nD Cert.Ref2Ideal.τ).loc Cert.Ref2Ideal.main_arg24) = m' ((c.tc : Thread Cert.Ref2Ideal.nD Cert.Ref2Ideal.τ).loc Cert.Ref2Ideal.main_arg24))

def preserves_Pass1_Pass1Ideal : Prop :=
  IdealRules.named_const.Statement Cert.Pass1Ideal.κ "mask" .f32 0xCF800000#32 ⊥

def Claim : Prop :=
  ∃ (hPass2 : Cert.Pass2.Facts) (hPass2Ideal : Cert.Pass2Ideal.Facts) (hRef2Ideal : Cert.Ref2Ideal.Facts) (hPass1 : Cert.Pass1.Facts) (hPass1Ideal : Cert.Pass1Ideal.Facts) (hPre_pass2_ready : Cert.Pre_pass2_ready.Facts),
    quiescent_Pass2 (hPass2 := hPass2)
    ∧ quiescent_Pass2Ideal (hPass2Ideal := hPass2Ideal)
    ∧ quiescent_Pass2Ideal_pre_pass2_ready (hPass2Ideal := hPass2Ideal) (hPre_pass2_ready := hPre_pass2_ready)
    ∧ quiescent_Ref2Ideal (hRef2Ideal := hRef2Ideal)
    ∧ quiescent_Ref2Ideal_pre_pass2_ready (hRef2Ideal := hRef2Ideal) (hPre_pass2_ready := hPre_pass2_ready)
    ∧ quiescent_Pass1 (hPass1 := hPass1)
    ∧ quiescent_Pass1Ideal (hPass1Ideal := hPass1Ideal)
    ∧ preserves_Pass2_Pass2Ideal
    ∧ algebraic_Pass2Ideal_Ref2Ideal_pre_pass2_ready (hPass2Ideal := hPass2Ideal) (hRef2Ideal := hRef2Ideal) (hPre_pass2_ready := hPre_pass2_ready)
    ∧ preserves_Pass1_Pass1Ideal
-- ==== Pre_pass2_ready.lean ====
abbrev S400x8192 : Shape := ⟨2, ![400, 8192]⟩
abbrev S40x8192 : Shape := ⟨2, ![40, 8192]⟩
abbrev S4x48x1 : Shape := ⟨3, ![4, 48, 1]⟩
abbrev S4x80x1 : Shape := ⟨3, ![4, 80, 1]⟩
abbrev S8192 : Shape := ⟨1, ![8192]⟩
abbrev S16 : Shape := ⟨1, ![16]⟩
abbrev S16x100 : Shape := ⟨2, ![16, 100]⟩
abbrev S100 : Shape := ⟨1, ![100]⟩
abbrev S100x50 : Shape := ⟨2, ![100, 50]⟩
abbrev S50 : Shape := ⟨1, ![50]⟩
abbrev S50x2 : Shape := ⟨2, ![50, 2]⟩
abbrev S2 : Shape := ⟨1, ![2]⟩
abbrev S36 : Shape := ⟨1, ![36]⟩
abbrev S36x200 : Shape := ⟨2, ![36, 200]⟩
abbrev S200 : Shape := ⟨1, ![200]⟩
abbrev S200x80 : Shape := ⟨2, ![200, 80]⟩
abbrev S80 : Shape := ⟨1, ![80]⟩
abbrev S80x2 : Shape := ⟨2, ![80, 2]⟩
abbrev S2x1 : Shape := ⟨2, ![2, 1]⟩
abbrev S1 : Shape := ⟨1, ![1]⟩
abbrev S50x8x4x2048 : Shape := ⟨4, ![50, 8, 4, 2048]⟩
abbrev S40x4x2048 : Shape := ⟨3, ![40, 4, 2048]⟩
abbrev S4x48 : Shape := ⟨2, ![4, 48]⟩
abbrev S48x4 : Shape := ⟨2, ![48, 4]⟩
abbrev S4x80 : Shape := ⟨2, ![4, 80]⟩
abbrev S80x4 : Shape := ⟨2, ![80, 4]⟩
abbrev S_ : Shape := ⟨0, ![]⟩
abbrev S8x4 : Shape := ⟨2, ![8, 4]⟩
abbrev S49x8x4x2048 : Shape := ⟨4, ![49, 8, 4, 2048]⟩
abbrev S40x4 : Shape := ⟨2, ![40, 4]⟩

class Facts : Prop where
  shapeCasts_S400x8192_S50x8x4x2048 : S400x8192.ShapeCasts S50x8x4x2048
  shapeCasts_S40x8192_S40x4x2048 : S40x8192.ShapeCasts S40x4x2048
  shapeCasts_S4x48x1_S4x48 : S4x48x1.ShapeCasts S4x48
  transposes_S4x48_S48x4_1_0 : S4x48.Transposes [1, 0] S48x4
  shapeCasts_S4x80x1_S4x80 : S4x80x1.ShapeCasts S4x80
  transposes_S4x80_S80x4_1_0 : S4x80.Transposes [1, 0] S80x4
  bcast_S_S400x8192 : S_.BroadcastsInDim S400x8192 (![] : Fin 0 → Fin S400x8192.rank)
  bcast_S_S40x8192 : S_.BroadcastsInDim S40x8192 (![] : Fin 0 → Fin S40x8192.rank)
  bcast_S_S8192 : S_.BroadcastsInDim S8192 (![] : Fin 0 → Fin S8192.rank)
  slices_S48x4_S8x4_0_0 : S48x4.Slices ![0, 0] S8x4
  slices_S50x8x4x2048_S49x8x4x2048_0_0_0_0 : S50x8x4x2048.Slices ![0, 0, 0, 0] S49x8x4x2048
  reducesTo_S49x8x4x2048_S8x4_d0_3 : S49x8x4x2048.ReducesTo [0, 3] S8x4
  h_S_ : 0 < S_.numel
  slices_S48x4_S8x4_8_0 : S48x4.Slices ![8, 0] S8x4
  slices_S48x4_S8x4_16_0 : S48x4.Slices ![16, 0] S8x4
  slices_S50x8x4x2048_S49x8x4x2048_1_0_0_0 : S50x8x4x2048.Slices ![1, 0, 0, 0] S49x8x4x2048
  slices_S48x4_S8x4_24_0 : S48x4.Slices ![24, 0] S8x4
  slices_S48x4_S8x4_32_0 : S48x4.Slices ![32, 0] S8x4
  slices_S48x4_S8x4_40_0 : S48x4.Slices ![40, 0] S8x4
  slices_S80x4_S40x4_0_0 : S80x4.Slices ![0, 0] S40x4
  reducesTo_S40x4x2048_S40x4_d2 : S40x4x2048.ReducesTo [2] S40x4
  slices_S80x4_S40x4_40_0 : S80x4.Slices ![40, 0] S40x4
  bcast_S_S16 : S_.BroadcastsInDim S16 (![] : Fin 0 → Fin S16.rank)
  bcast_S_S16x100 : S_.BroadcastsInDim S16x100 (![] : Fin 0 → Fin S16x100.rank)
  bcast_S_S100 : S_.BroadcastsInDim S100 (![] : Fin 0 → Fin S100.rank)
  bcast_S_S100x50 : S_.BroadcastsInDim S100x50 (![] : Fin 0 → Fin S100x50.rank)
  bcast_S_S50 : S_.BroadcastsInDim S50 (![] : Fin 0 → Fin S50.rank)
  bcast_S_S50x2 : S_.BroadcastsInDim S50x2 (![] : Fin 0 → Fin S50x2.rank)
  bcast_S_S2 : S_.BroadcastsInDim S2 (![] : Fin 0 → Fin S2.rank)
  bcast_S_S36 : S_.BroadcastsInDim S36 (![] : Fin 0 → Fin S36.rank)
  bcast_S_S36x200 : S_.BroadcastsInDim S36x200 (![] : Fin 0 → Fin S36x200.rank)
  bcast_S_S200 : S_.BroadcastsInDim S200 (![] : Fin 0 → Fin S200.rank)
  bcast_S_S200x80 : S_.BroadcastsInDim S200x80 (![] : Fin 0 → Fin S200x80.rank)
  bcast_S_S80 : S_.BroadcastsInDim S80 (![] : Fin 0 → Fin S80.rank)
  bcast_S_S80x2 : S_.BroadcastsInDim S80x2 (![] : Fin 0 → Fin S80x2.rank)
  bcast_S_S2x1 : S_.BroadcastsInDim S2x1 (![] : Fin 0 → Fin S2x1.rank)
  bcast_S_S1 : S_.BroadcastsInDim S1 (![] : Fin 0 → Fin S1.rank)

variable [Facts]

def fn_part5 {F : FTy → Type} [FloatOps F] (main_arg19 : FVec F S200x80 .f32) (main_arg20 : FVec F S80 .f32) (main_arg21 : FVec F S80x2 .f32) (main_arg22 : FVec F S2 .f32) (main_arg23 : FVec F S2x1 .f32) (main_arg24 : FVec F S1 .f32) (main_v10 : IVec S400x8192 1) (main_v13 : IVec S400x8192 1) (main_v16 : IVec S400x8192 1) (main_v19 : IVec S40x8192 1) (main_v21 : IVec S8192 1) (main_v25 : IVec S8x4 1) (main_v31 : IVec S8x4 1) (main_v35 : IVec S8x4 1) (main_v41 : IVec S8x4 1) (main_v45 : IVec S8x4 1) (main_v51 : IVec S8x4 1) (main_v54 : IVec S40x4 1) (main_v58 : IVec S40x4 1) (main_v61 : IVec S16 1) (main_v64 : IVec S16 1) (main_v67 : IVec S16x100 1) (main_v70 : IVec S100 1) (main_v73 : IVec S100x50 1) (main_v76 : IVec S50 1) (main_v79 : IVec S50x2 1) (main_v82 : IVec S2 1) (main_v85 : IVec S36 1) (main_v88 : IVec S36 1) (main_v91 : IVec S36x200 1) (main_v94 : IVec S200 1) : IVec S400x8192 1 × IVec S400x8192 1 × IVec S400x8192 1 × IVec S40x8192 1 × IVec S8192 1 × IVec S8x4 1 × IVec S8x4 1 × IVec S8x4 1 × IVec S8x4 1 × IVec S8x4 1 × IVec S8x4 1 × IVec S40x4 1 × IVec S40x4 1 × IVec S16 1 × IVec S16 1 × IVec S16x100 1 × IVec S100 1 × IVec S100x50 1 × IVec S50 1 × IVec S50x2 1 × IVec S2 1 × IVec S36 1 × IVec S36 1 × IVec S36x200 1 × IVec S200 1 × IVec S200x80 1 × IVec S80 1 × IVec S80x2 1 × IVec S2 1 × IVec S2x1 1 × IVec S1 1 :=
  let main_v95 : FVec F S200x80 .f32 := Host.absf main_arg19
  let main_cst_23 : FVec F S_ .f32 := constant S_ .f32 0x7F800000#32
  let main_v96 : FVec F S200x80 .f32 := broadcastInDim S200x80 ![] bcast_S_S200x80 main_cst_23
  let main_v97 : IVec S200x80 1 := cmpf .olt main_v95 main_v96
  let main_v98 : FVec F S80 .f32 := Host.absf main_arg20
  let main_cst_24 : FVec F S_ .f32 := constant S_ .f32 0x7F800000#32
  let main_v99 : FVec F S80 .f32 := broadcastInDim S80 ![] bcast_S_S80 main_cst_24
  let main_v100 : IVec S80 1 := cmpf .olt main_v98 main_v99
  let main_v101 : FVec F S80x2 .f32 := Host.absf main_arg21
  let main_cst_25 : FVec F S_ .f32 := constant S_ .f32 0x7F800000#32
  let main_v102 : FVec F S80x2 .f32 := broadcastInDim S80x2 ![] bcast_S_S80x2 main_cst_25
  let main_v103 : IVec S80x2 1 := cmpf .olt main_v101 main_v102
  let main_v104 : FVec F S2 .f32 := Host.absf main_arg22
  let main_cst_26 : FVec F S_ .f32 := constant S_ .f32 0x7F800000#32
  let main_v105 : FVec F S2 .f32 := broadcastInDim S2 ![] bcast_S_S2 main_cst_26
  let main_v106 : IVec S2 1 := cmpf .olt main_v104 main_v105
  let main_v107 : FVec F S2x1 .f32 := Host.absf main_arg23
  let main_cst_27 : FVec F S_ .f32 := constant S_ .f32 0x7F800000#32
  let main_v108 : FVec F S2x1 .f32 := broadcastInDim S2x1 ![] bcast_S_S2x1 main_cst_27
  let main_v109 : IVec S2x1 1 := cmpf .olt main_v107 main_v108
  let main_v110 : FVec F S1 .f32 := Host.absf main_arg24
  let main_cst_28 : FVec F S_ .f32 := constant S_ .f32 0x7F800000#32
  let main_v111 : FVec F S1 .f32 := broadcastInDim S1 ![] bcast_S_S1 main_cst_28
  let main_v112 : IVec S1 1 := cmpf .olt main_v110 main_v111
  (main_v10, main_v13, main_v16, main_v19, main_v21, main_v25, main_v31, main_v35, main_v41, main_v45, main_v51, main_v54, main_v58, main_v61, main_v64, main_v67, main_v70, main_v73, main_v76, main_v79, main_v82, main_v85, main_v88, main_v91, main_v94, main_v97, main_v100, main_v103, main_v106, main_v109, main_v112)

def fn_part4 {F : FTy → Type} [FloatOps F] (main_arg13 : FVec F S50x2 .f32) (main_arg14 : FVec F S2 .f32) (main_arg15 : FVec F S36 .f32) (main_arg16 : FVec F S36 .f32) (main_arg17 : FVec F S36x200 .f32) (main_arg18 : FVec F S200 .f32) (main_arg19 : FVec F S200x80 .f32) (main_arg20 : FVec F S80 .f32) (main_arg21 : FVec F S80x2 .f32) (main_arg22 : FVec F S2 .f32) (main_arg23 : FVec F S2x1 .f32) (main_arg24 : FVec F S1 .f32) (main_v10 : IVec S400x8192 1) (main_v13 : IVec S400x8192 1) (main_v16 : IVec S400x8192 1) (main_v19 : IVec S40x8192 1) (main_v21 : IVec S8192 1) (main_v25 : IVec S8x4 1) (main_v31 : IVec S8x4 1) (main_v35 : IVec S8x4 1) (main_v41 : IVec S8x4 1) (main_v45 : IVec S8x4 1) (main_v51 : IVec S8x4 1) (main_v54 : IVec S40x4 1) (main_v58 : IVec S40x4 1) (main_v61 : IVec S16 1) (main_v64 : IVec S16 1) (main_v67 : IVec S16x100 1) (main_v70 : IVec S100 1) (main_v73 : IVec S100x50 1) (main_v76 : IVec S50 1) : IVec S400x8192 1 × IVec S400x8192 1 × IVec S400x8192 1 × IVec S40x8192 1 × IVec S8192 1 × IVec S8x4 1 × IVec S8x4 1 × IVec S8x4 1 × IVec S8x4 1 × IVec S8x4 1 × IVec S8x4 1 × IVec S40x4 1 × IVec S40x4 1 × IVec S16 1 × IVec S16 1 × IVec S16x100 1 × IVec S100 1 × IVec S100x50 1 × IVec S50 1 × IVec S50x2 1 × IVec S2 1 × IVec S36 1 × IVec S36 1 × IVec S36x200 1 × IVec S200 1 × IVec S200x80 1 × IVec S80 1 × IVec S80x2 1 × IVec S2 1 × IVec S2x1 1 × IVec S1 1 :=
  let main_v77 : FVec F S50x2 .f32 := Host.absf main_arg13
  let main_cst_17 : FVec F S_ .f32 := constant S_ .f32 0x7F800000#32
  let main_v78 : FVec F S50x2 .f32 := broadcastInDim S50x2 ![] bcast_S_S50x2 main_cst_17
  let main_v79 : IVec S50x2 1 := cmpf .olt main_v77 main_v78
  let main_v80 : FVec F S2 .f32 := Host.absf main_arg14
  let main_cst_18 : FVec F S_ .f32 := constant S_ .f32 0x7F800000#32
  let main_v81 : FVec F S2 .f32 := broadcastInDim S2 ![] bcast_S_S2 main_cst_18
  let main_v82 : IVec S2 1 := cmpf .olt main_v80 main_v81
  let main_v83 : FVec F S36 .f32 := Host.absf main_arg15
  let main_cst_19 : FVec F S_ .f32 := constant S_ .f32 0x7F800000#32
  let main_v84 : FVec F S36 .f32 := broadcastInDim S36 ![] bcast_S_S36 main_cst_19
  let main_v85 : IVec S36 1 := cmpf .olt main_v83 main_v84
  let main_v86 : FVec F S36 .f32 := Host.absf main_arg16
  let main_cst_20 : FVec F S_ .f32 := constant S_ .f32 0x7F800000#32
  let main_v87 : FVec F S36 .f32 := broadcastInDim S36 ![] bcast_S_S36 main_cst_20
  let main_v88 : IVec S36 1 := cmpf .olt main_v86 main_v87
  let main_v89 : FVec F S36x200 .f32 := Host.absf main_arg17
  let main_cst_21 : FVec F S_ .f32 := constant S_ .f32 0x7F800000#32
  let main_v90 : FVec F S36x200 .f32 := broadcastInDim S36x200 ![] bcast_S_S36x200 main_cst_21
  let main_v91 : IVec S36x200 1 := cmpf .olt main_v89 main_v90
  let main_v92 : FVec F S200 .f32 := Host.absf main_arg18
  let main_cst_22 : FVec F S_ .f32 := constant S_ .f32 0x7F800000#32
  let main_v93 : FVec F S200 .f32 := broadcastInDim S200 ![] bcast_S_S200 main_cst_22
  let main_v94 : IVec S200 1 := cmpf .olt main_v92 main_v93
  fn_part5 (F := F) main_arg19 main_arg20 main_arg21 main_arg22 main_arg23 main_arg24 main_v10 main_v13 main_v16 main_v19 main_v21 main_v25 main_v31 main_v35 main_v41 main_v45 main_v51 main_v54 main_v58 main_v61 main_v64 main_v67 main_v70 main_v73 main_v76 main_v79 main_v82 main_v85 main_v88 main_v91 main_v94

def fn_part3 {F : FTy → Type} [FloatOps F] (main_arg7 : FVec F S16 .f32) (main_arg8 : FVec F S16 .f32) (main_arg9 : FVec F S16x100 .f32) (main_arg10 : FVec F S100 .f32) (main_arg11 : FVec F S100x50 .f32) (main_arg12 : FVec F S50 .f32) (main_arg13 : FVec F S50x2 .f32) (main_arg14 : FVec F S2 .f32) (main_arg15 : FVec F S36 .f32) (main_arg16 : FVec F S36 .f32) (main_arg17 : FVec F S36x200 .f32) (main_arg18 : FVec F S200 .f32) (main_arg19 : FVec F S200x80 .f32) (main_arg20 : FVec F S80 .f32) (main_arg21 : FVec F S80x2 .f32) (main_arg22 : FVec F S2 .f32) (main_arg23 : FVec F S2x1 .f32) (main_arg24 : FVec F S1 .f32) (main_v10 : IVec S400x8192 1) (main_v13 : IVec S400x8192 1) (main_v16 : IVec S400x8192 1) (main_v19 : IVec S40x8192 1) (main_v21 : IVec S8192 1) (main_v25 : IVec S8x4 1) (main_v31 : IVec S8x4 1) (main_v35 : IVec S8x4 1) (main_v41 : IVec S8x4 1) (main_v45 : IVec S8x4 1) (main_v51 : IVec S8x4 1) (main_v54 : IVec S40x4 1) (main_v58 : IVec S40x4 1) : IVec S400x8192 1 × IVec S400x8192 1 × IVec S400x8192 1 × IVec S40x8192 1 × IVec S8192 1 × IVec S8x4 1 × IVec S8x4 1 × IVec S8x4 1 × IVec S8x4 1 × IVec S8x4 1 × IVec S8x4 1 × IVec S40x4 1 × IVec S40x4 1 × IVec S16 1 × IVec S16 1 × IVec S16x100 1 × IVec S100 1 × IVec S100x50 1 × IVec S50 1 × IVec S50x2 1 × IVec S2 1 × IVec S36 1 × IVec S36 1 × IVec S36x200 1 × IVec S200 1 × IVec S200x80 1 × IVec S80 1 × IVec S80x2 1 × IVec S2 1 × IVec S2x1 1 × IVec S1 1 :=
  let main_v59 : FVec F S16 .f32 := Host.absf main_arg7
  let main_cst_11 : FVec F S_ .f32 := constant S_ .f32 0x7F800000#32
  let main_v60 : FVec F S16 .f32 := broadcastInDim S16 ![] bcast_S_S16 main_cst_11
  let main_v61 : IVec S16 1 := cmpf .olt main_v59 main_v60
  let main_v62 : FVec F S16 .f32 := Host.absf main_arg8
  let main_cst_12 : FVec F S_ .f32 := constant S_ .f32 0x7F800000#32
  let main_v63 : FVec F S16 .f32 := broadcastInDim S16 ![] bcast_S_S16 main_cst_12
  let main_v64 : IVec S16 1 := cmpf .olt main_v62 main_v63
  let main_v65 : FVec F S16x100 .f32 := Host.absf main_arg9
  let main_cst_13 : FVec F S_ .f32 := constant S_ .f32 0x7F800000#32
  let main_v66 : FVec F S16x100 .f32 := broadcastInDim S16x100 ![] bcast_S_S16x100 main_cst_13
  let main_v67 : IVec S16x100 1 := cmpf .olt main_v65 main_v66
  let main_v68 : FVec F S100 .f32 := Host.absf main_arg10
  let main_cst_14 : FVec F S_ .f32 := constant S_ .f32 0x7F800000#32
  let main_v69 : FVec F S100 .f32 := broadcastInDim S100 ![] bcast_S_S100 main_cst_14
  let main_v70 : IVec S100 1 := cmpf .olt main_v68 main_v69
  let main_v71 : FVec F S100x50 .f32 := Host.absf main_arg11
  let main_cst_15 : FVec F S_ .f32 := constant S_ .f32 0x7F800000#32
  let main_v72 : FVec F S100x50 .f32 := broadcastInDim S100x50 ![] bcast_S_S100x50 main_cst_15
  let main_v73 : IVec S100x50 1 := cmpf .olt main_v71 main_v72
  let main_v74 : FVec F S50 .f32 := Host.absf main_arg12
  let main_cst_16 : FVec F S_ .f32 := constant S_ .f32 0x7F800000#32
  let main_v75 : FVec F S50 .f32 := broadcastInDim S50 ![] bcast_S_S50 main_cst_16
  let main_v76 : IVec S50 1 := cmpf .olt main_v74 main_v75
  fn_part4 (F := F) main_arg13 main_arg14 main_arg15 main_arg16 main_arg17 main_arg18 main_arg19 main_arg20 main_arg21 main_arg22 main_arg23 main_arg24 main_v10 main_v13 main_v16 main_v19 main_v21 main_v25 main_v31 main_v35 main_v41 main_v45 main_v51 main_v54 main_v58 main_v61 main_v64 main_v67 main_v70 main_v73 main_v76

def fn_part2 {F : FTy → Type} [FloatOps F] (main_arg7 : FVec F S16 .f32) (main_arg8 : FVec F S16 .f32) (main_arg9 : FVec F S16x100 .f32) (main_arg10 : FVec F S100 .f32) (main_arg11 : FVec F S100x50 .f32) (main_arg12 : FVec F S50 .f32) (main_arg13 : FVec F S50x2 .f32) (main_arg14 : FVec F S2 .f32) (main_arg15 : FVec F S36 .f32) (main_arg16 : FVec F S36 .f32) (main_arg17 : FVec F S36x200 .f32) (main_arg18 : FVec F S200 .f32) (main_arg19 : FVec F S200x80 .f32) (main_arg20 : FVec F S80 .f32) (main_arg21 : FVec F S80x2 .f32) (main_arg22 : FVec F S2 .f32) (main_arg23 : FVec F S2x1 .f32) (main_arg24 : FVec F S1 .f32) (main_v2 : FVec F S50x8x4x2048 .f32) (main_v3 : FVec F S40x4x2048 .f32) (main_v5 : FVec F S48x4 .f32) (main_v7 : FVec F S80x4 .f32) (main_v10 : IVec S400x8192 1) (main_v13 : IVec S400x8192 1) (main_v16 : IVec S400x8192 1) (main_v19 : IVec S40x8192 1) (main_v21 : IVec S8192 1) (main_v25 : IVec S8x4 1) (main_v31 : IVec S8x4 1) (main_v35 : IVec S8x4 1) (main_v36 : FVec F S8x4 .f32) (main_v39 : FVec F S49x8x4x2048 .f32) : IVec S400x8192 1 × IVec S400x8192 1 × IVec S400x8192 1 × IVec S40x8192 1 × IVec S8192 1 × IVec S8x4 1 × IVec S8x4 1 × IVec S8x4 1 × IVec S8x4 1 × IVec S8x4 1 × IVec S8x4 1 × IVec S40x4 1 × IVec S40x4 1 × IVec S16 1 × IVec S16 1 × IVec S16x100 1 × IVec S100 1 × IVec S100x50 1 × IVec S50 1 × IVec S50x2 1 × IVec S2 1 × IVec S36 1 × IVec S36 1 × IVec S36x200 1 × IVec S200 1 × IVec S200x80 1 × IVec S80 1 × IVec S80x2 1 × IVec S2 1 × IVec S2x1 1 × IVec S1 1 :=
  let main_cst_6 : FVec F S_ .f32 := constant S_ .f32 0x00000000#32
  let main_v40 : FVec F S8x4 .f32 := (fun x v => Host.reduceAdd x v reducesTo_S49x8x4x2048_S8x4_d0_3 h_S_) main_v39 main_cst_6
  let main_v41 : IVec S8x4 1 := cmpf .oeq main_v36 main_v40
  let main_v42 : FVec F S8x4 .f32 := (extractStridedSlice S8x4 ![32, 0] · slices_S48x4_S8x4_32_0) main_v5
  let main_v43 : FVec F S49x8x4x2048 .f32 := (extractStridedSlice S49x8x4x2048 ![1, 0, 0, 0] · slices_S50x8x4x2048_S49x8x4x2048_1_0_0_0) main_v2
  let main_cst_7 : FVec F S_ .f32 := constant S_ .f32 0x00000000#32
  let main_v44 : FVec F S8x4 .f32 := (fun x v => Host.reduceAdd x v reducesTo_S49x8x4x2048_S8x4_d0_3 h_S_) main_v43 main_cst_7
  let main_v45 : IVec S8x4 1 := cmpf .oeq main_v42 main_v44
  let main_v46 : FVec F S8x4 .f32 := (extractStridedSlice S8x4 ![40, 0] · slices_S48x4_S8x4_40_0) main_v5
  let main_v47 : FVec F S49x8x4x2048 .f32 := (extractStridedSlice S49x8x4x2048 ![1, 0, 0, 0] · slices_S50x8x4x2048_S49x8x4x2048_1_0_0_0) main_v2
  let main_v48 : FVec F S49x8x4x2048 .f32 := (extractStridedSlice S49x8x4x2048 ![1, 0, 0, 0] · slices_S50x8x4x2048_S49x8x4x2048_1_0_0_0) main_v2
  let main_v49 : FVec F S49x8x4x2048 .f32 := mulf main_v47 main_v48
  let main_cst_8 : FVec F S_ .f32 := constant S_ .f32 0x00000000#32
  let main_v50 : FVec F S8x4 .f32 := (fun x v => Host.reduceAdd x v reducesTo_S49x8x4x2048_S8x4_d0_3 h_S_) main_v49 main_cst_8
  let main_v51 : IVec S8x4 1 := cmpf .oeq main_v46 main_v50
  let main_v52 : FVec F S40x4 .f32 := (extractStridedSlice S40x4 ![0, 0] · slices_S80x4_S40x4_0_0) main_v7
  let main_cst_9 : FVec F S_ .f32 := constant S_ .f32 0x00000000#32
  let main_v53 : FVec F S40x4 .f32 := (fun x v => Host.reduceAdd x v reducesTo_S40x4x2048_S40x4_d2 h_S_) main_v3 main_cst_9
  let main_v54 : IVec S40x4 1 := cmpf .oeq main_v52 main_v53
  let main_v55 : FVec F S40x4 .f32 := (extractStridedSlice S40x4 ![40, 0] · slices_S80x4_S40x4_40_0) main_v7
  let main_v56 : FVec F S40x4x2048 .f32 := mulf main_v3 main_v3
  let main_cst_10 : FVec F S_ .f32 := constant S_ .f32 0x00000000#32
  let main_v57 : FVec F S40x4 .f32 := (fun x v => Host.reduceAdd x v reducesTo_S40x4x2048_S40x4_d2 h_S_) main_v56 main_cst_10
  let main_v58 : IVec S40x4 1 := cmpf .oeq main_v55 main_v57
  fn_part3 (F := F) main_arg7 main_arg8 main_arg9 main_arg10 main_arg11 main_arg12 main_arg13 main_arg14 main_arg15 main_arg16 main_arg17 main_arg18 main_arg19 main_arg20 main_arg21 main_arg22 main_arg23 main_arg24 main_v10 main_v13 main_v16 main_v19 main_v21 main_v25 main_v31 main_v35 main_v41 main_v45 main_v51 main_v54 main_v58

def fn_part1 {F : FTy → Type} [FloatOps F] (main_arg6 : IVec S8192 32) (main_arg7 : FVec F S16 .f32) (main_arg8 : FVec F S16 .f32) (main_arg9 : FVec F S16x100 .f32) (main_arg10 : FVec F S100 .f32) (main_arg11 : FVec F S100x50 .f32) (main_arg12 : FVec F S50 .f32) (main_arg13 : FVec F S50x2 .f32) (main_arg14 : FVec F S2 .f32) (main_arg15 : FVec F S36 .f32) (main_arg16 : FVec F S36 .f32) (main_arg17 : FVec F S36x200 .f32) (main_arg18 : FVec F S200 .f32) (main_arg19 : FVec F S200x80 .f32) (main_arg20 : FVec F S80 .f32) (main_arg21 : FVec F S80x2 .f32) (main_arg22 : FVec F S2 .f32) (main_arg23 : FVec F S2x1 .f32) (main_arg24 : FVec F S1 .f32) (main_v0 : FVec F S50x8x4x2048 .f32) (main_v1 : FVec F S50x8x4x2048 .f32) (main_v2 : FVec F S50x8x4x2048 .f32) (main_v3 : FVec F S40x4x2048 .f32) (main_v5 : FVec F S48x4 .f32) (main_v7 : FVec F S80x4 .f32) (main_v10 : IVec S400x8192 1) (main_v13 : IVec S400x8192 1) (main_v16 : IVec S400x8192 1) (main_v19 : IVec S40x8192 1) : IVec S400x8192 1 × IVec S400x8192 1 × IVec S400x8192 1 × IVec S40x8192 1 × IVec S8192 1 × IVec S8x4 1 × IVec S8x4 1 × IVec S8x4 1 × IVec S8x4 1 × IVec S8x4 1 × IVec S8x4 1 × IVec S40x4 1 × IVec S40x4 1 × IVec S16 1 × IVec S16 1 × IVec S16x100 1 × IVec S100 1 × IVec S100x50 1 × IVec S50 1 × IVec S50x2 1 × IVec S2 1 × IVec S36 1 × IVec S36 1 × IVec S36x200 1 × IVec S200 1 × IVec S200x80 1 × IVec S80 1 × IVec S80x2 1 × IVec S2 1 × IVec S2x1 1 × IVec S1 1 :=
  let main_c : IVec S_ 32 := constantI S_ 32 50#32
  let main_v20 : IVec S8192 32 := broadcastInDim S8192 ![] bcast_S_S8192 main_c
  let main_v21 : IVec S8192 1 := cmpi .sle main_arg6 main_v20
  let main_v22 : FVec F S8x4 .f32 := (extractStridedSlice S8x4 ![0, 0] · slices_S48x4_S8x4_0_0) main_v5
  let main_v23 : FVec F S49x8x4x2048 .f32 := (extractStridedSlice S49x8x4x2048 ![0, 0, 0, 0] · slices_S50x8x4x2048_S49x8x4x2048_0_0_0_0) main_v0
  let main_cst_3 : FVec F S_ .f32 := constant S_ .f32 0x00000000#32
  let main_v24 : FVec F S8x4 .f32 := (fun x v => Host.reduceAdd x v reducesTo_S49x8x4x2048_S8x4_d0_3 h_S_) main_v23 main_cst_3
  let main_v25 : IVec S8x4 1 := cmpf .oeq main_v22 main_v24
  let main_v26 : FVec F S8x4 .f32 := (extractStridedSlice S8x4 ![8, 0] · slices_S48x4_S8x4_8_0) main_v5
  let main_v27 : FVec F S49x8x4x2048 .f32 := (extractStridedSlice S49x8x4x2048 ![0, 0, 0, 0] · slices_S50x8x4x2048_S49x8x4x2048_0_0_0_0) main_v0
  let main_v28 : FVec F S49x8x4x2048 .f32 := (extractStridedSlice S49x8x4x2048 ![0, 0, 0, 0] · slices_S50x8x4x2048_S49x8x4x2048_0_0_0_0) main_v0
  let main_v29 : FVec F S49x8x4x2048 .f32 := mulf main_v27 main_v28
  let main_cst_4 : FVec F S_ .f32 := constant S_ .f32 0x00000000#32
  let main_v30 : FVec F S8x4 .f32 := (fun x v => Host.reduceAdd x v reducesTo_S49x8x4x2048_S8x4_d0_3 h_S_) main_v29 main_cst_4
  let main_v31 : IVec S8x4 1 := cmpf .oeq main_v26 main_v30
  let main_v32 : FVec F S8x4 .f32 := (extractStridedSlice S8x4 ![16, 0] · slices_S48x4_S8x4_16_0) main_v5
  let main_v33 : FVec F S49x8x4x2048 .f32 := (extractStridedSlice S49x8x4x2048 ![1, 0, 0, 0] · slices_S50x8x4x2048_S49x8x4x2048_1_0_0_0) main_v1
  let main_cst_5 : FVec F S_ .f32 := constant S_ .f32 0x00000000#32
  let main_v34 : FVec F S8x4 .f32 := (fun x v => Host.reduceAdd x v reducesTo_S49x8x4x2048_S8x4_d0_3 h_S_) main_v33 main_cst_5
  let main_v35 : IVec S8x4 1 := cmpf .oeq main_v32 main_v34
  let main_v36 : FVec F S8x4 .f32 := (extractStridedSlice S8x4 ![24, 0] · slices_S48x4_S8x4_24_0) main_v5
  let main_v37 : FVec F S49x8x4x2048 .f32 := (extractStridedSlice S49x8x4x2048 ![1, 0, 0, 0] · slices_S50x8x4x2048_S49x8x4x2048_1_0_0_0) main_v1
  let main_v38 : FVec F S49x8x4x2048 .f32 := (extractStridedSlice S49x8x4x2048 ![1, 0, 0, 0] · slices_S50x8x4x2048_S49x8x4x2048_1_0_0_0) main_v1
  let main_v39 : FVec F S49x8x4x2048 .f32 := mulf main_v37 main_v38
  fn_part2 (F := F) main_arg7 main_arg8 main_arg9 main_arg10 main_arg11 main_arg12 main_arg13 main_arg14 main_arg15 main_arg16 main_arg17 main_arg18 main_arg19 main_arg20 main_arg21 main_arg22 main_arg23 main_arg24 main_v2 main_v3 main_v5 main_v7 main_v10 main_v13 main_v16 main_v19 main_v21 main_v25 main_v31 main_v35 main_v36 main_v39

def fn {F : FTy → Type} [FloatOps F] (main_arg0 : FVec F S400x8192 .f32) (main_arg1 : FVec F S400x8192 .f32) (main_arg2 : FVec F S400x8192 .f32) (main_arg3 : FVec F S40x8192 .f32) (main_arg4 : FVec F S4x48x1 .f32) (main_arg5 : FVec F S4x80x1 .f32) (main_arg6 : IVec S8192 32) (main_arg7 : FVec F S16 .f32) (main_arg8 : FVec F S16 .f32) (main_arg9 : FVec F S16x100 .f32) (main_arg10 : FVec F S100 .f32) (main_arg11 : FVec F S100x50 .f32) (main_arg12 : FVec F S50 .f32) (main_arg13 : FVec F S50x2 .f32) (main_arg14 : FVec F S2 .f32) (main_arg15 : FVec F S36 .f32) (main_arg16 : FVec F S36 .f32) (main_arg17 : FVec F S36x200 .f32) (main_arg18 : FVec F S200 .f32) (main_arg19 : FVec F S200x80 .f32) (main_arg20 : FVec F S80 .f32) (main_arg21 : FVec F S80x2 .f32) (main_arg22 : FVec F S2 .f32) (main_arg23 : FVec F S2x1 .f32) (main_arg24 : FVec F S1 .f32) : IVec S400x8192 1 × IVec S400x8192 1 × IVec S400x8192 1 × IVec S40x8192 1 × IVec S8192 1 × IVec S8x4 1 × IVec S8x4 1 × IVec S8x4 1 × IVec S8x4 1 × IVec S8x4 1 × IVec S8x4 1 × IVec S40x4 1 × IVec S40x4 1 × IVec S16 1 × IVec S16 1 × IVec S16x100 1 × IVec S100 1 × IVec S100x50 1 × IVec S50 1 × IVec S50x2 1 × IVec S2 1 × IVec S36 1 × IVec S36 1 × IVec S36x200 1 × IVec S200 1 × IVec S200x80 1 × IVec S80 1 × IVec S80x2 1 × IVec S2 1 × IVec S2x1 1 × IVec S1 1 :=
  let main_v0 : FVec F S50x8x4x2048 .f32 := shapeCast S50x8x4x2048 main_arg0 shapeCasts_S400x8192_S50x8x4x2048
  let main_v1 : FVec F S50x8x4x2048 .f32 := shapeCast S50x8x4x2048 main_arg1 shapeCasts_S400x8192_S50x8x4x2048
  let main_v2 : FVec F S50x8x4x2048 .f32 := shapeCast S50x8x4x2048 main_arg2 shapeCasts_S400x8192_S50x8x4x2048
  let main_v3 : FVec F S40x4x2048 .f32 := shapeCast S40x4x2048 main_arg3 shapeCasts_S40x8192_S40x4x2048
  let main_v4 : FVec F S4x48 .f32 := shapeCast S4x48 main_arg4 shapeCasts_S4x48x1_S4x48
  let main_v5 : FVec F S48x4 .f32 := (transpose S48x4 [1, 0] · transposes_S4x48_S48x4_1_0) main_v4
  let main_v6 : FVec F S4x80 .f32 := shapeCast S4x80 main_arg5 shapeCasts_S4x80x1_S4x80
  let main_v7 : FVec F S80x4 .f32 := (transpose S80x4 [1, 0] · transposes_S4x80_S80x4_1_0) main_v6
  let main_v8 : FVec F S400x8192 .f32 := Host.absf main_arg0
  let main_cst : FVec F S_ .f32 := constant S_ .f32 0x7F800000#32
  let main_v9 : FVec F S400x8192 .f32 := broadcastInDim S400x8192 ![] bcast_S_S400x8192 main_cst
  let main_v10 : IVec S400x8192 1 := cmpf .olt main_v8 main_v9
  let main_v11 : FVec F S400x8192 .f32 := Host.absf main_arg1
  let main_cst_0 : FVec F S_ .f32 := constant S_ .f32 0x7F800000#32
  let main_v12 : FVec F S400x8192 .f32 := broadcastInDim S400x8192 ![] bcast_S_S400x8192 main_cst_0
  let main_v13 : IVec S400x8192 1 := cmpf .olt main_v11 main_v12
  let main_v14 : FVec F S400x8192 .f32 := Host.absf main_arg2
  let main_cst_1 : FVec F S_ .f32 := constant S_ .f32 0x7F800000#32
  let main_v15 : FVec F S400x8192 .f32 := broadcastInDim S400x8192 ![] bcast_S_S400x8192 main_cst_1
  let main_v16 : IVec S400x8192 1 := cmpf .olt main_v14 main_v15
  let main_v17 : FVec F S40x8192 .f32 := Host.absf main_arg3
  let main_cst_2 : FVec F S_ .f32 := constant S_ .f32 0x7F800000#32
  let main_v18 : FVec F S40x8192 .f32 := broadcastInDim S40x8192 ![] bcast_S_S40x8192 main_cst_2
  let main_v19 : IVec S40x8192 1 := cmpf .olt main_v17 main_v18
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v0 main_v1 main_v2 main_v3 main_v5 main_v7 main_v10 main_v13 main_v16 main_v19
-- ==== Pass2.lean ====
abbrev S400x8192 : Shape := ⟨2, ![400, 8192]⟩
abbrev S40x8192 : Shape := ⟨2, ![40, 8192]⟩
abbrev S4x48x1 : Shape := ⟨3, ![4, 48, 1]⟩
abbrev S4x80x1 : Shape := ⟨3, ![4, 80, 1]⟩
abbrev S8192 : Shape := ⟨1, ![8192]⟩
abbrev S16 : Shape := ⟨1, ![16]⟩
abbrev S16x100 : Shape := ⟨2, ![16, 100]⟩
abbrev S100 : Shape := ⟨1, ![100]⟩
abbrev S100x50 : Shape := ⟨2, ![100, 50]⟩
abbrev S50 : Shape := ⟨1, ![50]⟩
abbrev S50x2 : Shape := ⟨2, ![50, 2]⟩
abbrev S2 : Shape := ⟨1, ![2]⟩
abbrev S36 : Shape := ⟨1, ![36]⟩
abbrev S36x200 : Shape := ⟨2, ![36, 200]⟩
abbrev S200 : Shape := ⟨1, ![200]⟩
abbrev S200x80 : Shape := ⟨2, ![200, 80]⟩
abbrev S80 : Shape := ⟨1, ![80]⟩
abbrev S80x2 : Shape := ⟨2, ![80, 2]⟩
abbrev S2x1 : Shape := ⟨2, ![2, 1]⟩
abbrev S1 : Shape := ⟨1, ![1]⟩
abbrev S1x8192 : Shape := ⟨2, ![1, 8192]⟩
abbrev S8x8192 : Shape := ⟨2, ![8, 8192]⟩
abbrev S4x48 : Shape := ⟨2, ![4, 48]⟩
abbrev S_ : Shape := ⟨0, ![]⟩
abbrev S48 : Shape := ⟨1, ![48]⟩
abbrev S16x50 : Shape := ⟨2, ![16, 50]⟩
abbrev S16x2 : Shape := ⟨2, ![16, 2]⟩
abbrev S16x1 : Shape := ⟨2, ![16, 1]⟩
abbrev S8 : Shape := ⟨1, ![8]⟩
abbrev S4x80 : Shape := ⟨2, ![4, 80]⟩
abbrev S40 : Shape := ⟨1, ![40]⟩
abbrev S4 : Shape := ⟨1, ![4]⟩
abbrev S200x36 : Shape := ⟨2, ![200, 36]⟩
abbrev S200x4 : Shape := ⟨2, ![200, 4]⟩
abbrev S200x40 : Shape := ⟨2, ![200, 40]⟩
abbrev S80x200 : Shape := ⟨2, ![80, 200]⟩
abbrev S80x1 : Shape := ⟨2, ![80, 1]⟩
abbrev S1x80 : Shape := ⟨2, ![1, 80]⟩
abbrev S7x80 : Shape := ⟨2, ![7, 80]⟩
abbrev S8x80 : Shape := ⟨2, ![8, 80]⟩
abbrev S1x1 : Shape := ⟨2, ![1, 1]⟩
abbrev S8x1 : Shape := ⟨2, ![8, 1]⟩
abbrev S40x1 : Shape := ⟨2, ![40, 1]⟩
abbrev S200x1 : Shape := ⟨2, ![200, 1]⟩
abbrev S4x8x1 : Shape := ⟨3, ![4, 8, 1]⟩
abbrev S400x2048 : Shape := ⟨2, ![400, 2048]⟩
abbrev S40x2048 : Shape := ⟨2, ![40, 2048]⟩
abbrev S8x2048 : Shape := ⟨2, ![8, 2048]⟩
abbrev S1x8x1 : Shape := ⟨3, ![1, 8, 1]⟩
abbrev S56x2048 : Shape := ⟨2, ![56, 2048]⟩
abbrev S1x2048 : Shape := ⟨2, ![1, 2048]⟩
abbrev S2048 : Shape := ⟨1, ![2048]⟩
abbrev S1x56x2048 : Shape := ⟨3, ![1, 56, 2048]⟩
abbrev S1x1x1 : Shape := ⟨3, ![1, 1, 1]⟩
abbrev S200x2048 : Shape := ⟨2, ![200, 2048]⟩
abbrev S80x2048 : Shape := ⟨2, ![80, 2048]⟩
abbrev S4x1x1 : Shape := ⟨3, ![4, 1, 1]⟩

abbrev nBuf : Space → Nat
  | .hbm => 147
  | .vmem => 28
  | .smem => 0
  | _ => 0

abbrev hbmTy0_0 (i : Nat) : BufTy := match i % 128 with
  | 0 => ⟨S400x8192, .f32⟩
  | 1 => ⟨S400x8192, .f32⟩
  | 2 => ⟨S400x8192, .f32⟩
  | 3 => ⟨S40x8192, .f32⟩
  | 4 => ⟨S4x48x1, .f32⟩
  | 5 => ⟨S4x80x1, .f32⟩
  | 6 => ⟨S8192, .i32⟩
  | 7 => ⟨S16, .f32⟩
  | 8 => ⟨S16, .f32⟩
  | 9 => ⟨S16x100, .f32⟩
  | 10 => ⟨S100, .f32⟩
  | 11 => ⟨S100x50, .f32⟩
  | 12 => ⟨S50, .f32⟩
  | 13 => ⟨S50x2, .f32⟩
  | 14 => ⟨S2, .f32⟩
  | 15 => ⟨S36, .f32⟩
  | 16 => ⟨S36, .f32⟩
  | 17 => ⟨S36x200, .f32⟩
  | 18 => ⟨S200, .f32⟩
  | 19 => ⟨S200x80, .f32⟩
  | 20 => ⟨S80, .f32⟩
  | 21 => ⟨S80x2, .f32⟩
  | 22 => ⟨S2, .f32⟩
  | 23 => ⟨S2x1, .f32⟩
  | 24 => ⟨S1, .f32⟩
  | 25 => ⟨S1x8192, .i32⟩
  | 26 => ⟨S8x8192, .i32⟩
  | 27 => ⟨S4x48, .f32⟩
  | 28 => ⟨S_, .f32⟩
  | 29 => ⟨S48, .f32⟩
  | 30 => ⟨S16x50, .f32⟩
  | 31 => ⟨S16x2, .f32⟩
  | 32 => ⟨S16x1, .f32⟩
  | 33 => ⟨S16, .f32⟩
  | 34 => ⟨S8, .f32⟩
  | 35 => ⟨S8, .f32⟩
  | 36 => ⟨S8, .f32⟩
  | 37 => ⟨S8, .f32⟩
  | 38 => ⟨S16, .f32⟩
  | 39 => ⟨S_, .f32⟩
  | 40 => ⟨S16, .f32⟩
  | 41 => ⟨S16, .f32⟩
  | 42 => ⟨S16, .f32⟩
  | 43 => ⟨S_, .f32⟩
  | 44 => ⟨S16, .f32⟩
  | 45 => ⟨S16, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S16, .f32⟩
  | 53 => ⟨S16, .f32⟩
  | 54 => ⟨S8, .f32⟩
  | 55 => ⟨S8, .f32⟩
  | 56 => ⟨S8, .f32⟩
  | 57 => ⟨S8, .f32⟩
  | 58 => ⟨S16, .f32⟩
  | 59 => ⟨S_, .f32⟩
  | 60 => ⟨S16, .f32⟩
  | 61 => ⟨S16, .f32⟩
  | 62 => ⟨S16, .f32⟩
  | 63 => ⟨S_, .f32⟩
  | 64 => ⟨S16, .f32⟩
  | 65 => ⟨S16, .f32⟩
  | 66 => ⟨S16, .f32⟩
  | 67 => ⟨S16, .f32⟩
  | 68 => ⟨S16, .f32⟩
  | 69 => ⟨S_, .f32⟩
  | 70 => ⟨S16, .f32⟩
  | 71 => ⟨S16, .f32⟩
  | 72 => ⟨S16, .f32⟩
  | 73 => ⟨S16, .f32⟩
  | 74 => ⟨S4x80, .f32⟩
  | 75 => ⟨S_, .f32⟩
  | 76 => ⟨S80, .f32⟩
  | 77 => ⟨S40, .f32⟩
  | 78 => ⟨S_, .f32⟩
  | 79 => ⟨S40, .f32⟩
  | 80 => ⟨S40, .f32⟩
  | 81 => ⟨S40, .f32⟩
  | 82 => ⟨S_, .f32⟩
  | 83 => ⟨S40, .f32⟩
  | 84 => ⟨S40, .f32⟩
  | 85 => ⟨S40, .f32⟩
  | 86 => ⟨S40, .f32⟩
  | 87 => ⟨S_, .f32⟩
  | 88 => ⟨S4, .f32⟩
  | 89 => ⟨S40, .f32⟩
  | 90 => ⟨S_, .f32⟩
  | 91 => ⟨S4, .f32⟩
  | 92 => ⟨S40, .f32⟩
  | 93 => ⟨S_, .f32⟩
  | 94 => ⟨S40, .f32⟩
  | 95 => ⟨S40, .f32⟩
  | 96 => ⟨S40, .f32⟩
  | 97 => ⟨S40, .f32⟩
  | 98 => ⟨S40, .f32⟩
  | 99 => ⟨S40, .f32⟩
  | 100 => ⟨S200x36, .f32⟩
  | 101 => ⟨S_, .f32⟩
  | 102 => ⟨S200x4, .f32⟩
  | 103 => ⟨S200x40, .f32⟩
  | 104 => ⟨S80x200, .f32⟩
  | 105 => ⟨S80x1, .f32⟩
  | 106 => ⟨S1x80, .f32⟩
  | 107 => ⟨S_, .f32⟩
  | 108 => ⟨S7x80, .f32⟩
  | 109 => ⟨S8x80, .f32⟩
  | 110 => ⟨S1, .f32⟩
  | 111 => ⟨S1, .f32⟩
  | 112 => ⟨S1x1, .f32⟩
  | 113 => ⟨S8, .f32⟩
  | 114 => ⟨S8x1, .f32⟩
  | 115 => ⟨S8, .f32⟩
  | 116 => ⟨S8x1, .f32⟩
  | 117 => ⟨S8, .f32⟩
  | 118 => ⟨S8x1, .f32⟩
  | 119 => ⟨S8, .f32⟩
  | 120 => ⟨S8x1, .f32⟩
  | 121 => ⟨S40x1, .f32⟩
  | 122 => ⟨S40x1, .f32⟩
  | 123 => ⟨S200x1, .f32⟩
  | 124 => ⟨S80x1, .f32⟩
  | 125 => ⟨S8, .f32⟩
  | 126 => ⟨S8x1, .f32⟩
  | 127 => ⟨S8, .f32⟩
  | _ => ⟨S400x8192, .f32⟩

abbrev hbmTy0_1 (i : Nat) : BufTy := match i % 128 with
  | 0 => ⟨S8x1, .f32⟩
  | 1 => ⟨S8, .f32⟩
  | 2 => ⟨S8x1, .f32⟩
  | 3 => ⟨S8, .f32⟩
  | 4 => ⟨S8x1, .f32⟩
  | 5 => ⟨S40x1, .f32⟩
  | 6 => ⟨S40x1, .f32⟩
  | 7 => ⟨S200x1, .f32⟩
  | 8 => ⟨S80x1, .f32⟩
  | 9 => ⟨S8x8192, .f32⟩
  | 10 => ⟨S4x8x1, .f32⟩
  | 11 => ⟨S1x8192, .f32⟩
  | 12 => ⟨S8192, .f32⟩
  | 13 => ⟨S4x1x1, .f32⟩
  | 14 => ⟨S4, .f32⟩
  | 15 => ⟨S_, .f32⟩
  | 16 => ⟨S_, .f32⟩
  | 17 => ⟨S_, .f32⟩
  | 18 => ⟨S_, .f32⟩
  | _ => ⟨S400x8192, .f32⟩

abbrev hbmTy (i : Nat) : BufTy := match i / 128 with
  | 0 => hbmTy0_0 i
  | 1 => hbmTy0_1 i
  | _ => ⟨S400x8192, .f32⟩

abbrev bufTy : (tb : Table) → Fin (tcTables nBuf tb) → BufTy
  | .hbm, ⟨i, _⟩ => hbmTy i
  | .local _ .vmem, ⟨0, _⟩ => ⟨S400x2048, .f32⟩
  | .local _ .vmem, ⟨1, _⟩ => ⟨S400x2048, .f32⟩
  | .local _ .vmem, ⟨2, _⟩ => ⟨S400x2048, .f32⟩
  | .local _ .vmem, ⟨3, _⟩ => ⟨S400x2048, .f32⟩
  | .local _ .vmem, ⟨4, _⟩ => ⟨S400x2048, .f32⟩
  | .local _ .vmem, ⟨5, _⟩ => ⟨S400x2048, .f32⟩
  | .local _ .vmem, ⟨6, _⟩ => ⟨S40x2048, .f32⟩
  | .local _ .vmem, ⟨7, _⟩ => ⟨S40x2048, .f32⟩
  | .local _ .vmem, ⟨8, _⟩ => ⟨S8x2048, .i32⟩
  | .local _ .vmem, ⟨9, _⟩ => ⟨S8x2048, .i32⟩
  | .local _ .vmem, ⟨10, _⟩ => ⟨S8x1, .f32⟩
  | .local _ .vmem, ⟨11, _⟩ => ⟨S8x1, .f32⟩
  | .local _ .vmem, ⟨12, _⟩ => ⟨S8x1, .f32⟩
  | .local _ .vmem, ⟨13, _⟩ => ⟨S8x1, .f32⟩
  | .local _ .vmem, ⟨14, _⟩ => ⟨S40x1, .f32⟩
  | .local _ .vmem, ⟨15, _⟩ => ⟨S40x1, .f32⟩
  | .local _ .vmem, ⟨16, _⟩ => ⟨S200x40, .f32⟩
  | .local _ .vmem, ⟨17, _⟩ => ⟨S200x1, .f32⟩
  | .local _ .vmem, ⟨18, _⟩ => ⟨S80x200, .f32⟩
  | .local _ .vmem, ⟨19, _⟩ => ⟨S80x1, .f32⟩
  | .local _ .vmem, ⟨20, _⟩ => ⟨S8x80, .f32⟩
  | .local _ .vmem, ⟨21, _⟩ => ⟨S1x1, .f32⟩
  | .local _ .vmem, ⟨22, _⟩ => ⟨S8x2048, .f32⟩
  | .local _ .vmem, ⟨23, _⟩ => ⟨S8x2048, .f32⟩
  | .local _ .vmem, ⟨24, _⟩ => ⟨S1x8x1, .f32⟩
  | .local _ .vmem, ⟨25, _⟩ => ⟨S1x8x1, .f32⟩
  | .local _ .vmem, ⟨26, _⟩ => ⟨S56x2048, .f32⟩
  | .local _ .vmem, ⟨27, _⟩ => ⟨S56x2048, .f32⟩
  | _, _ => ⟨S400x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_v44 : Ref sig .tc := ⟨.hbm, 77, rfl⟩
abbrev main_cst_7 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_8 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_cst_10 : Ref sig .tc := ⟨.hbm, 90, rfl⟩
abbrev main_v54 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_13 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97_0 : Ref sig .tc := ⟨.hbm, 137, rfl⟩
abbrev main_v97_1 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_14 : Ref sig .tc := ⟨.hbm, 143, rfl⟩
abbrev main_v102 : Ref sig .tc := ⟨.hbm, 144, rfl⟩
abbrev main_cst_15 : Ref sig .tc := ⟨.hbm, 145, rfl⟩
abbrev main_v103 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S40x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S200x40 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S80x200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S80x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x80 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Pass2Ideal.lean ====
variable {F : FTy → Type} [FloatOps F] [Named F]
def κ : String → Option EReal := fun
  | "mask" => some ⊥
  | _ => none
-- ==== Ref2Ideal.lean ====
abbrev S400x8192 : Shape := ⟨2, ![400, 8192]⟩
abbrev S40x8192 : Shape := ⟨2, ![40, 8192]⟩
abbrev S4x48x1 : Shape := ⟨3, ![4, 48, 1]⟩
abbrev S4x80x1 : Shape := ⟨3, ![4, 80, 1]⟩
abbrev S8192 : Shape := ⟨1, ![8192]⟩
abbrev S16 : Shape := ⟨1, ![16]⟩
abbrev S16x100 : Shape := ⟨2, ![16, 100]⟩
abbrev S100 : Shape := ⟨1, ![100]⟩
abbrev S100x50 : Shape := ⟨2, ![100, 50]⟩
abbrev S50 : Shape := ⟨1, ![50]⟩
abbrev S50x2 : Shape := ⟨2, ![50, 2]⟩
abbrev S2 : Shape := ⟨1, ![2]⟩
abbrev S36 : Shape := ⟨1, ![36]⟩
abbrev S36x200 : Shape := ⟨2, ![36, 200]⟩
abbrev S200 : Shape := ⟨1, ![200]⟩
abbrev S200x80 : Shape := ⟨2, ![200, 80]⟩
abbrev S80 : Shape := ⟨1, ![80]⟩
abbrev S80x2 : Shape := ⟨2, ![80, 2]⟩
abbrev S2x1 : Shape := ⟨2, ![2, 1]⟩
abbrev S1 : Shape := ⟨1, ![1]⟩
abbrev S50x8x8192 : Shape := ⟨3, ![50, 8, 8192]⟩
abbrev S8192x50x8 : Shape := ⟨3, ![8192, 50, 8]⟩
abbrev S1x50 : Shape := ⟨2, ![1, 50]⟩
abbrev S8192x1 : Shape := ⟨2, ![8192, 1]⟩
abbrev S8192x50 : Shape := ⟨2, ![8192, 50]⟩
abbrev S8192x49 : Shape := ⟨2, ![8192, 49]⟩
abbrev S8192x49x8 : Shape := ⟨3, ![8192, 49, 8]⟩
abbrev S8192x49x16 : Shape := ⟨3, ![8192, 49, 16]⟩
abbrev S401408x16 : Shape := ⟨2, ![401408, 16]⟩
abbrev S_ : Shape := ⟨0, ![]⟩
abbrev S1x16 : Shape := ⟨2, ![1, 16]⟩
abbrev S401408x100 : Shape := ⟨2, ![401408, 100]⟩
abbrev S1x100 : Shape := ⟨2, ![1, 100]⟩
abbrev S401408x50 : Shape := ⟨2, ![401408, 50]⟩
abbrev S401408x2 : Shape := ⟨2, ![401408, 2]⟩
abbrev S1x2 : Shape := ⟨2, ![1, 2]⟩
abbrev S8192x49x2 : Shape := ⟨3, ![8192, 49, 2]⟩
abbrev S8192x2 : Shape := ⟨2, ![8192, 2]⟩
abbrev S8192x1x2 : Shape := ⟨3, ![8192, 1, 2]⟩
abbrev S8192x49x1 : Shape := ⟨3, ![8192, 49, 1]⟩
abbrev S36x8192 : Shape := ⟨2, ![36, 8192]⟩
abbrev S8192x36 : Shape := ⟨2, ![8192, 36]⟩
abbrev S1x36 : Shape := ⟨2, ![1, 36]⟩
abbrev S8192x200 : Shape := ⟨2, ![8192, 200]⟩
abbrev S1x200 : Shape := ⟨2, ![1, 200]⟩
abbrev S8192x80 : Shape := ⟨2, ![8192, 80]⟩
abbrev S1x80 : Shape := ⟨2, ![1, 80]⟩
abbrev S1x1 : Shape := ⟨2, ![1, 1]⟩

abbrev nBuf : Space → Nat
  | .hbm => 284
  | .vmem => 0
  | .smem => 0
  | _ => 0

abbrev hbmTy0_0 (i : Nat) : BufTy := match i % 128 with
  | 0 => ⟨S400x8192, .f32⟩
  | 1 => ⟨S400x8192, .f32⟩
  | 2 => ⟨S400x8192, .f32⟩
  | 3 => ⟨S40x8192, .f32⟩
  | 4 => ⟨S4x48x1, .f32⟩
  | 5 => ⟨S4x80x1, .f32⟩
  | 6 => ⟨S8192, .i32⟩
  | 7 => ⟨S16, .f32⟩
  | 8 => ⟨S16, .f32⟩
  | 9 => ⟨S16x100, .f32⟩
  | 10 => ⟨S100, .f32⟩
  | 11 => ⟨S100x50, .f32⟩
  | 12 => ⟨S50, .f32⟩
  | 13 => ⟨S50x2, .f32⟩
  | 14 => ⟨S2, .f32⟩
  | 15 => ⟨S36, .f32⟩
  | 16 => ⟨S36, .f32⟩
  | 17 => ⟨S36x200, .f32⟩
  | 18 => ⟨S200, .f32⟩
  | 19 => ⟨S200x80, .f32⟩
  | 20 => ⟨S80, .f32⟩
  | 21 => ⟨S80x2, .f32⟩
  | 22 => ⟨S2, .f32⟩
  | 23 => ⟨S2x1, .f32⟩
  | 24 => ⟨S1, .f32⟩
  | 25 => ⟨S50x8x8192, .f32⟩
  | 26 => ⟨S8192x50x8, .f32⟩
  | 27 => ⟨S50x8x8192, .f32⟩
  | 28 => ⟨S8192x50x8, .f32⟩
  | 29 => ⟨S50x8x8192, .f32⟩
  | 30 => ⟨S8192x50x8, .f32⟩
  | 31 => ⟨S50, .i32⟩
  | 32 => ⟨S1x50, .i32⟩
  | 33 => ⟨S8192x1, .i32⟩
  | 34 => ⟨S8192x50, .i32⟩
  | 35 => ⟨S8192x50, .i32⟩
  | 36 => ⟨S8192x50, .i1⟩
  | 37 => ⟨S8192x49, .i1⟩
  | 38 => ⟨S8192x49, .f32⟩
  | 39 => ⟨S8192x49x8, .f32⟩
  | 40 => ⟨S8192x49x8, .f32⟩
  | 41 => ⟨S8192x49x16, .f32⟩
  | 42 => ⟨S401408x16, .f32⟩
  | 43 => ⟨S_, .f32⟩
  | 44 => ⟨S16, .f32⟩
  | 45 => ⟨S_, .f32⟩
  | 46 => ⟨S16, .f32⟩
  | 47 => ⟨S16, .f32⟩
  | 48 => ⟨S_, .i32⟩
  | 49 => ⟨S_, .f32⟩
  | 50 => ⟨S16, .f32⟩
  | 51 => ⟨S1x16, .f32⟩
  | 52 => ⟨S_, .f32⟩
  | 53 => ⟨S1x16, .f32⟩
  | 54 => ⟨S1x16, .f32⟩
  | 55 => ⟨S401408x16, .f32⟩
  | 56 => ⟨S401408x16, .f32⟩
  | 57 => ⟨S401408x16, .f32⟩
  | 58 => ⟨S_, .f32⟩
  | 59 => ⟨S_, .f32⟩
  | 60 => ⟨S_, .f32⟩
  | 61 => ⟨S_, .f32⟩
  | 62 => ⟨S16, .f32⟩
  | 63 => ⟨S16, .f32⟩
  | 64 => ⟨S16, .f32⟩
  | 65 => ⟨S_, .f32⟩
  | 66 => ⟨S_, .i1⟩
  | 67 => ⟨S_, .f32⟩
  | 68 => ⟨S_, .f32⟩
  | 69 => ⟨S16, .f32⟩
  | 70 => ⟨S16, .f32⟩
  | 71 => ⟨S1x16, .f32⟩
  | 72 => ⟨S401408x16, .f32⟩
  | 73 => ⟨S401408x16, .f32⟩
  | 74 => ⟨S_, .f32⟩
  | 75 => ⟨S16, .f32⟩
  | 76 => ⟨S16, .f32⟩
  | 77 => ⟨S16, .f32⟩
  | 78 => ⟨S1x16, .f32⟩
  | 79 => ⟨S401408x16, .f32⟩
  | 80 => ⟨S401408x16, .f32⟩
  | 81 => ⟨S1x16, .f32⟩
  | 82 => ⟨S401408x16, .f32⟩
  | 83 => ⟨S401408x16, .f32⟩
  | 84 => ⟨S1x16, .f32⟩
  | 85 => ⟨S401408x16, .f32⟩
  | 86 => ⟨S401408x16, .f32⟩
  | 87 => ⟨S401408x100, .f32⟩
  | 88 => ⟨S1x100, .f32⟩
  | 89 => ⟨S401408x100, .f32⟩
  | 90 => ⟨S401408x100, .f32⟩
  | 91 => ⟨S401408x50, .f32⟩
  | 92 => ⟨S1x50, .f32⟩
  | 93 => ⟨S401408x50, .f32⟩
  | 94 => ⟨S401408x50, .f32⟩
  | 95 => ⟨S401408x2, .f32⟩
  | 96 => ⟨S1x2, .f32⟩
  | 97 => ⟨S401408x2, .f32⟩
  | 98 => ⟨S401408x2, .f32⟩
  | 99 => ⟨S8192x49x2, .f32⟩
  | 100 => ⟨S_, .f32⟩
  | 101 => ⟨S8192x2, .f32⟩
  | 102 => ⟨S_, .f32⟩
  | 103 => ⟨S8192x2, .f32⟩
  | 104 => ⟨S8192x2, .f32⟩
  | 105 => ⟨S8192x1x2, .f32⟩
  | 106 => ⟨S8192x49x2, .f32⟩
  | 107 => ⟨S8192x49x2, .f32⟩
  | 108 => ⟨S8192x49x2, .f32⟩
  | 109 => ⟨S_, .f32⟩
  | 110 => ⟨S8192x2, .f32⟩
  | 111 => ⟨S8192x1x2, .f32⟩
  | 112 => ⟨S8192x49x2, .f32⟩
  | 113 => ⟨S8192x49x2, .f32⟩
  | 114 => ⟨S8192x49x1, .f32⟩
  | 115 => ⟨S8192x49, .f32⟩
  | 116 => ⟨S8192x49x8, .f32⟩
  | 117 => ⟨S8192x49x8, .f32⟩
  | 118 => ⟨S8192x49x16, .f32⟩
  | 119 => ⟨S401408x16, .f32⟩
  | 120 => ⟨S_, .f32⟩
  | 121 => ⟨S16, .f32⟩
  | 122 => ⟨S_, .f32⟩
  | 123 => ⟨S16, .f32⟩
  | 124 => ⟨S16, .f32⟩
  | 125 => ⟨S_, .i32⟩
  | 126 => ⟨S_, .f32⟩
  | 127 => ⟨S16, .f32⟩
  | _ => ⟨S400x8192, .f32⟩

abbrev hbmTy0_1 (i : Nat) : BufTy := match i % 128 with
  | 0 => ⟨S1x16, .f32⟩
  | 1 => ⟨S_, .f32⟩
  | 2 => ⟨S1x16, .f32⟩
  | 3 => ⟨S1x16, .f32⟩
  | 4 => ⟨S401408x16, .f32⟩
  | 5 => ⟨S401408x16, .f32⟩
  | 6 => ⟨S401408x16, .f32⟩
  | 7 => ⟨S_, .f32⟩
  | 8 => ⟨S_, .f32⟩
  | 9 => ⟨S_, .f32⟩
  | 10 => ⟨S_, .f32⟩
  | 11 => ⟨S16, .f32⟩
  | 12 => ⟨S16, .f32⟩
  | 13 => ⟨S16, .f32⟩
  | 14 => ⟨S_, .f32⟩
  | 15 => ⟨S_, .i1⟩
  | 16 => ⟨S_, .f32⟩
  | 17 => ⟨S_, .f32⟩
  | 18 => ⟨S16, .f32⟩
  | 19 => ⟨S16, .f32⟩
  | 20 => ⟨S1x16, .f32⟩
  | 21 => ⟨S401408x16, .f32⟩
  | 22 => ⟨S401408x16, .f32⟩
  | 23 => ⟨S_, .f32⟩
  | 24 => ⟨S16, .f32⟩
  | 25 => ⟨S16, .f32⟩
  | 26 => ⟨S16, .f32⟩
  | 27 => ⟨S1x16, .f32⟩
  | 28 => ⟨S401408x16, .f32⟩
  | 29 => ⟨S401408x16, .f32⟩
  | 30 => ⟨S1x16, .f32⟩
  | 31 => ⟨S401408x16, .f32⟩
  | 32 => ⟨S401408x16, .f32⟩
  | 33 => ⟨S1x16, .f32⟩
  | 34 => ⟨S401408x16, .f32⟩
  | 35 => ⟨S401408x16, .f32⟩
  | 36 => ⟨S401408x100, .f32⟩
  | 37 => ⟨S1x100, .f32⟩
  | 38 => ⟨S401408x100, .f32⟩
  | 39 => ⟨S401408x100, .f32⟩
  | 40 => ⟨S401408x50, .f32⟩
  | 41 => ⟨S1x50, .f32⟩
  | 42 => ⟨S401408x50, .f32⟩
  | 43 => ⟨S401408x50, .f32⟩
  | 44 => ⟨S401408x2, .f32⟩
  | 45 => ⟨S1x2, .f32⟩
  | 46 => ⟨S401408x2, .f32⟩
  | 47 => ⟨S401408x2, .f32⟩
  | 48 => ⟨S8192x49x2, .f32⟩
  | 49 => ⟨S_, .f32⟩
  | 50 => ⟨S8192x2, .f32⟩
  | 51 => ⟨S_, .f32⟩
  | 52 => ⟨S8192x2, .f32⟩
  | 53 => ⟨S8192x2, .f32⟩
  | 54 => ⟨S8192x1x2, .f32⟩
  | 55 => ⟨S8192x49x2, .f32⟩
  | 56 => ⟨S8192x49x2, .f32⟩
  | 57 => ⟨S8192x49x2, .f32⟩
  | 58 => ⟨S_, .f32⟩
  | 59 => ⟨S8192x2, .f32⟩
  | 60 => ⟨S8192x1x2, .f32⟩
  | 61 => ⟨S8192x49x2, .f32⟩
  | 62 => ⟨S8192x49x2, .f32⟩
  | 63 => ⟨S8192x49x1, .f32⟩
  | 64 => ⟨S8192x49, .f32⟩
  | 65 => ⟨S8192x49, .f32⟩
  | 66 => ⟨S8192x49, .f32⟩
  | 67 => ⟨S8192x49, .f32⟩
  | 68 => ⟨S_, .f32⟩
  | 69 => ⟨S8192x49, .f32⟩
  | 70 => ⟨S8192x49, .f32⟩
  | 71 => ⟨S8192x49, .f32⟩
  | 72 => ⟨S8192x49, .f32⟩
  | 73 => ⟨S8192x49, .f32⟩
  | 74 => ⟨S8192x49, .f32⟩
  | 75 => ⟨S_, .f32⟩
  | 76 => ⟨S_, .f32⟩
  | 77 => ⟨S_, .f32⟩
  | 78 => ⟨S_, .f32⟩
  | 79 => ⟨S36x8192, .f32⟩
  | 80 => ⟨S8192x36, .f32⟩
  | 81 => ⟨S_, .f32⟩
  | 82 => ⟨S36, .f32⟩
  | 83 => ⟨S_, .f32⟩
  | 84 => ⟨S36, .f32⟩
  | 85 => ⟨S36, .f32⟩
  | 86 => ⟨S_, .i32⟩
  | 87 => ⟨S_, .f32⟩
  | 88 => ⟨S36, .f32⟩
  | 89 => ⟨S1x36, .f32⟩
  | 90 => ⟨S_, .f32⟩
  | 91 => ⟨S1x36, .f32⟩
  | 92 => ⟨S1x36, .f32⟩
  | 93 => ⟨S8192x36, .f32⟩
  | 94 => ⟨S8192x36, .f32⟩
  | 95 => ⟨S8192x36, .f32⟩
  | 96 => ⟨S_, .f32⟩
  | 97 => ⟨S_, .f32⟩
  | 98 => ⟨S_, .f32⟩
  | 99 => ⟨S_, .f32⟩
  | 100 => ⟨S36, .f32⟩
  | 101 => ⟨S36, .f32⟩
  | 102 => ⟨S36, .f32⟩
  | 103 => ⟨S_, .f32⟩
  | 104 => ⟨S_, .i1⟩
  | 105 => ⟨S_, .f32⟩
  | 106 => ⟨S_, .f32⟩
  | 107 => ⟨S36, .f32⟩
  | 108 => ⟨S36, .f32⟩
  | 109 => ⟨S1x36, .f32⟩
  | 110 => ⟨S8192x36, .f32⟩
  | 111 => ⟨S8192x36, .f32⟩
  | 112 => ⟨S_, .f32⟩
  | 113 => ⟨S36, .f32⟩
  | 114 => ⟨S36, .f32⟩
  | 115 => ⟨S36, .f32⟩
  | 116 => ⟨S1x36, .f32⟩
  | 117 => ⟨S8192x36, .f32⟩
  | 118 => ⟨S8192x36, .f32⟩
  | 119 => ⟨S1x36, .f32⟩
  | 120 => ⟨S8192x36, .f32⟩
  | 121 => ⟨S8192x36, .f32⟩
  | 122 => ⟨S1x36, .f32⟩
  | 123 => ⟨S8192x36, .f32⟩
  | 124 => ⟨S8192x36, .f32⟩
  | 125 => ⟨S8192x200, .f32⟩
  | 126 => ⟨S1x200, .f32⟩
  | 127 => ⟨S8192x200, .f32⟩
  | _ => ⟨S400x8192, .f32⟩

abbrev hbmTy0_2 (i : Nat) : BufTy := match i % 128 with
  | 0 => ⟨S8192x200, .f32⟩
  | 1 => ⟨S_, .f32⟩
  | 2 => ⟨S8192x200, .f32⟩
  | 3 => ⟨S8192x200, .f32⟩
  | 4 => ⟨S8192x80, .f32⟩
  | 5 => ⟨S1x80, .f32⟩
  | 6 => ⟨S8192x80, .f32⟩
  | 7 => ⟨S8192x80, .f32⟩
  | 8 => ⟨S_, .f32⟩
  | 9 => ⟨S8192x80, .f32⟩
  | 10 => ⟨S8192x80, .f32⟩
  | 11 => ⟨S8192x2, .f32⟩
  | 12 => ⟨S1x2, .f32⟩
  | 13 => ⟨S8192x2, .f32⟩
  | 14 => ⟨S8192x2, .f32⟩
  | 15 => ⟨S8192x1, .f32⟩
  | 16 => ⟨S1x1, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192, .f32⟩
  | _ => ⟨S400x8192, .f32⟩

abbrev hbmTy (i : Nat) : BufTy := match i / 128 with
  | 0 => hbmTy0_0 i
  | 1 => hbmTy0_1 i
  | 2 => hbmTy0_2 i
  | _ => ⟨S400x8192, .f32⟩

abbrev bufTy : (tb : Table) → Fin (tcTables nBuf tb) → BufTy
  | .hbm, ⟨i, _⟩ => hbmTy i
  | _, _ => ⟨S400x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_v20 : Ref sig .tc := ⟨.hbm, 47, rfl⟩
abbrev main_c : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_1 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_2 : Ref sig .tc := ⟨.hbm, 100, rfl⟩
abbrev main_v50 : Ref sig .tc := ⟨.hbm, 101, rfl⟩
abbrev main_cst_3 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_4 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_5 : Ref sig .tc := ⟨.hbm, 120, rfl⟩
abbrev main_v67 : Ref sig .tc := ⟨.hbm, 121, rfl⟩
abbrev main_cst_6 : Ref sig .tc := ⟨.hbm, 122, rfl⟩
abbrev main_v68 : Ref sig .tc := ⟨.hbm, 123, rfl⟩
abbrev main_v69 : Ref sig .tc := ⟨.hbm, 124, rfl⟩
abbrev main_c_7 : Ref sig .tc := ⟨.hbm, 125, rfl⟩
abbrev main_call1_cst : Ref sig .tc := ⟨.hbm, 126, rfl⟩
abbrev main_call1_v0 : Ref sig .tc := ⟨.hbm, 127, rfl⟩
abbrev main_call1_v1 : Ref sig .tc := ⟨.hbm, 128, rfl⟩
abbrev main_call1_cst_0 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_v6 : Ref sig .tc := ⟨.hbm, 134, rfl⟩
abbrev main_call1_v7 : Ref sig .tc := ⟨.hbm, 135, rfl⟩
abbrev main_call1_cst_1 : Ref sig .tc := ⟨.hbm, 136, rfl⟩
abbrev main_call1_v8 : Ref sig .tc := ⟨.hbm, 137, rfl⟩
abbrev main_call1_cst_2 : Ref sig .tc := ⟨.hbm, 138, rfl⟩
abbrev main_call1_v9 : Ref sig .tc := ⟨.hbm, 139, rfl⟩
abbrev main_call1_v10 : Ref sig .tc := ⟨.hbm, 140, rfl⟩
abbrev main_call1_v11 : Ref sig .tc := ⟨.hbm, 141, rfl⟩
abbrev main_call1_cst_3 : Ref sig .tc := ⟨.hbm, 142, rfl⟩
abbrev main_call1_v12 : Ref sig .tc := ⟨.hbm, 143, rfl⟩
abbrev main_call1_cst_4 : Ref sig .tc := ⟨.hbm, 144, rfl⟩
abbrev main_call1_call0_v0 : Ref sig .tc := ⟨.hbm, 145, rfl⟩
abbrev main_call1_call0_v1 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_cst_8 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_cst_9 : Ref sig .tc := ⟨.hbm, 177, rfl⟩
abbrev main_v99 : Ref sig .tc := ⟨.hbm, 178, rfl⟩
abbrev main_cst_10 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_cst_11 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_cst_12 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_cst_13 : Ref sig .tc := ⟨.hbm, 203, rfl⟩
abbrev main_v121 : Ref sig .tc := ⟨.hbm, 204, rfl⟩
abbrev main_cst_14 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_cst_15 : Ref sig .tc := ⟨.hbm, 209, rfl⟩
abbrev main_v125 : Ref sig .tc := ⟨.hbm, 210, rfl⟩
abbrev main_cst_16 : Ref sig .tc := ⟨.hbm, 211, rfl⟩
abbrev main_v126 : Ref sig .tc := ⟨.hbm, 212, rfl⟩
abbrev main_v127 : Ref sig .tc := ⟨.hbm, 213, rfl⟩
abbrev main_c_17 : Ref sig .tc := ⟨.hbm, 214, rfl⟩
abbrev main_call2_cst : Ref sig .tc := ⟨.hbm, 215, rfl⟩
abbrev main_call2_v0 : Ref sig .tc := ⟨.hbm, 216, rfl⟩
abbrev main_call2_v1 : Ref sig .tc := ⟨.hbm, 217, rfl⟩
abbrev main_call2_cst_0 : Ref sig .tc := ⟨.hbm, 218, rfl⟩
abbrev main_call2_v2 : Ref sig .tc := ⟨.hbm, 219, rfl⟩
abbrev main_call2_v3 : Ref sig .tc := ⟨.hbm, 220, rfl⟩
abbrev main_call2_v4 : Ref sig .tc := ⟨.hbm, 221, rfl⟩
abbrev main_call2_v5 : Ref sig .tc := ⟨.hbm, 222, rfl⟩
abbrev main_call2_v6 : Ref sig .tc := ⟨.hbm, 223, rfl⟩
abbrev main_call2_v7 : Ref sig .tc := ⟨.hbm, 224, rfl⟩
abbrev main_call2_cst_1 : Ref sig .tc := ⟨.hbm, 225, rfl⟩
abbrev main_call2_v8 : Ref sig .tc := ⟨.hbm, 226, rfl⟩
abbrev main_call2_cst_2 : Ref sig .tc := ⟨.hbm, 227, rfl⟩
abbrev main_call2_v9 : Ref sig .tc := ⟨.hbm, 228, rfl⟩
abbrev main_call2_v10 : Ref sig .tc := ⟨.hbm, 229, rfl⟩
abbrev main_call2_v11 : Ref sig .tc := ⟨.hbm, 230, rfl⟩
abbrev main_call2_cst_3 : Ref sig .tc := ⟨.hbm, 231, rfl⟩
abbrev main_call2_v12 : Ref sig .tc := ⟨.hbm, 232, rfl⟩
abbrev main_call2_cst_4 : Ref sig .tc := ⟨.hbm, 233, rfl⟩
abbrev main_call2_call0_v0 : Ref sig .tc := ⟨.hbm, 234, rfl⟩
abbrev main_call2_call0_v1 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_cst_18 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_call3_cst : Ref sig .tc := ⟨.hbm, 257, rfl⟩
abbrev main_call3_v0 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_call4_cst : Ref sig .tc := ⟨.hbm, 264, rfl⟩
abbrev main_call4_v0 : Ref sig .tc := ⟨.hbm, 265, rfl⟩
abbrev main_v153 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_cst_19 : Ref sig .tc := ⟨.hbm, 277, rfl⟩
abbrev main_v164 : Ref sig .tc := ⟨.hbm, 278, rfl⟩
abbrev main_v165 : Ref sig .tc := ⟨.hbm, 279, rfl⟩
abbrev main_cst_20 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩

abbrev nD : Nat := 1
abbrev τ : Topo := Topo.v7x

variable {F : FTy → Type} [FloatOps F]
-- ==== Pass1.lean ====
abbrev S400x8192 : Shape := ⟨2, ![400, 8192]⟩
abbrev S8192 : Shape := ⟨1, ![8192]⟩
abbrev S100001x4 : Shape := ⟨2, ![100001, 4]⟩
abbrev S1001x4 : Shape := ⟨2, ![1001, 4]⟩
abbrev S24x8 : Shape := ⟨2, ![24, 8]⟩
abbrev S24 : Shape := ⟨1, ![24]⟩
abbrev S8x8 : Shape := ⟨2, ![8, 8]⟩
abbrev S8 : Shape := ⟨1, ![8]⟩
abbrev S_ : Shape := ⟨0, ![]⟩
abbrev S32x80 : Shape := ⟨2, ![32, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S16x16 : Shape := ⟨2, ![16, 16]⟩
abbrev S16 : Shape := ⟨1, ![16]⟩
abbrev S16x8 : Shape := ⟨2, ![16, 8]⟩
abbrev S8192x1 : Shape := ⟨2, ![8192, 1]⟩
abbrev S8192x4 : Shape := ⟨2, ![8192, 4]⟩
abbrev S4x8192 : Shape := ⟨2, ![4, 8192]⟩
abbrev S8x8192 : Shape := ⟨2, ![8, 8192]⟩
abbrev S1x8192 : Shape := ⟨2, ![1, 8192]⟩
abbrev S80x32 : Shape := ⟨2, ![80, 32]⟩
abbrev S40x80 : Shape := ⟨2, ![40, 80]⟩
abbrev S1x40 : Shape := ⟨2, ![1, 40]⟩
abbrev S7x40 : Shape := ⟨2, ![7, 40]⟩
abbrev S8x40 : Shape := ⟨2, ![8, 40]⟩
abbrev S8x16 : Shape := ⟨2, ![8, 16]⟩
abbrev S1x1 : Shape := ⟨2, ![1, 1]⟩
abbrev S24x1 : Shape := ⟨2, ![24, 1]⟩
abbrev S8x1 : Shape := ⟨2, ![8, 1]⟩
abbrev S80x1 : Shape := ⟨2, ![80, 1]⟩
abbrev S16x1 : Shape := ⟨2, ![16, 1]⟩
abbrev S40x8192 : Shape := ⟨2, ![40, 8192]⟩
abbrev S4x48x1 : Shape := ⟨3, ![4, 48, 1]⟩
abbrev S4x80x1 : Shape := ⟨3, ![4, 80, 1]⟩
abbrev S400x2048 : Shape := ⟨2, ![400, 2048]⟩
abbrev S8x2048 : Shape := ⟨2, ![8, 2048]⟩
abbrev S40x2048 : Shape := ⟨2, ![40, 2048]⟩
abbrev S1x48x1 : Shape := ⟨3, ![1, 48, 1]⟩
abbrev S1x80x1 : Shape := ⟨3, ![1, 80, 1]⟩
abbrev S56x2048 : Shape := ⟨2, ![56, 2048]⟩
abbrev S1x2048 : Shape := ⟨2, ![1, 2048]⟩
abbrev S24x2048 : Shape := ⟨2, ![24, 2048]⟩
abbrev S80x8 : Shape := ⟨2, ![80, 8]⟩
abbrev S80x2048 : Shape := ⟨2, ![80, 2048]⟩
abbrev S2048 : Shape := ⟨1, ![2048]⟩
abbrev S16x2048 : Shape := ⟨2, ![16, 2048]⟩
abbrev S4x2048 : Shape := ⟨2, ![4, 2048]⟩
abbrev S48x1 : Shape := ⟨2, ![48, 1]⟩

abbrev nBuf : Space → Nat
  | .hbm => 95
  | .vmem => 37
  | .smem => 0
  | _ => 0

abbrev bufTy : (tb : Table) → Fin (tcTables nBuf tb) → BufTy
  | .hbm, ⟨0, _⟩ => ⟨S400x8192, .f32⟩
  | .hbm, ⟨1, _⟩ => ⟨S400x8192, .f32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S8192, .i32⟩
  | .hbm, ⟨6, _⟩ => ⟨S100001x4, .f32⟩
  | .hbm, ⟨7, _⟩ => ⟨S100001x4, .f32⟩
  | .hbm, ⟨8, _⟩ => ⟨S1001x4, .f32⟩
  | .hbm, ⟨9, _⟩ => ⟨S24x8, .f32⟩
  | .hbm, ⟨10, _⟩ => ⟨S24x8, .f32⟩
  | .hbm, ⟨11, _⟩ => ⟨S24, .f32⟩
  | .hbm, ⟨12, _⟩ => ⟨S24, .f32⟩
  | .hbm, ⟨13, _⟩ => ⟨S8x8, .f32⟩
  | .hbm, ⟨14, _⟩ => ⟨S8, .f32⟩
  | .hbm, ⟨15, _⟩ => ⟨S_, .f32⟩
  | .hbm, ⟨16, _⟩ => ⟨S32x80, .f32⟩
  | .hbm, ⟨17, _⟩ => ⟨S80, .f32⟩
  | .hbm, ⟨18, _⟩ => ⟨S80x40, .f32⟩
  | .hbm, ⟨19, _⟩ => ⟨S40, .f32⟩
  | .hbm, ⟨20, _⟩ => ⟨S40x1, .f32⟩
  | .hbm, ⟨21, _⟩ => ⟨S16x16, .f32⟩
  | .hbm, ⟨22, _⟩ => ⟨S16, .f32⟩
  | .hbm, ⟨23, _⟩ => ⟨S16x8, .f32⟩
  | .hbm, ⟨24, _⟩ => ⟨S8, .f32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x4, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S8x8192, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x4, .f32⟩
  | .hbm, ⟨47, _⟩ => ⟨S4x8192, .f32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S8192x4, .f32⟩
  | .hbm, ⟨57, _⟩ => ⟨S4x8192, .f32⟩
  | .hbm, ⟨58, _⟩ => ⟨S8x8192, .f32⟩
  | .hbm, ⟨59, _⟩ => ⟨S1x8192, .i32⟩
  | .hbm, ⟨60, _⟩ => ⟨S8x8192, .i32⟩
  | .hbm, ⟨61, _⟩ => ⟨S8x8, .f32⟩
  | .hbm, ⟨62, _⟩ => ⟨S80x32, .f32⟩
  | .hbm, ⟨63, _⟩ => ⟨S40x80, .f32⟩
  | .hbm, ⟨64, _⟩ => ⟨S1x40, .f32⟩
  | .hbm, ⟨65, _⟩ => ⟨S_, .f32⟩
  | .hbm, ⟨66, _⟩ => ⟨S7x40, .f32⟩
  | .hbm, ⟨67, _⟩ => ⟨S8x40, .f32⟩
  | .hbm, ⟨68, _⟩ => ⟨S8x16, .f32⟩
  | .hbm, ⟨69, _⟩ => ⟨S16x8, .f32⟩
  | .hbm, ⟨70, _⟩ => ⟨S8x16, .f32⟩
  | .hbm, ⟨71, _⟩ => ⟨S16x8, .f32⟩
  | .hbm, ⟨72, _⟩ => ⟨S8x8, .f32⟩
  | .hbm, ⟨73, _⟩ => ⟨S8x8, .f32⟩
  | .hbm, ⟨74, _⟩ => ⟨S8x8, .f32⟩
  | .hbm, ⟨75, _⟩ => ⟨S8x8, .f32⟩
  | .hbm, ⟨76, _⟩ => ⟨S1x1, .f32⟩
  | .hbm, ⟨77, _⟩ => ⟨S24x1, .f32⟩
  | .hbm, ⟨78, _⟩ => ⟨S24x1, .f32⟩
  | .hbm, ⟨79, _⟩ => ⟨S8x1, .f32⟩
  | .hbm, ⟨80, _⟩ => ⟨S80x1, .f32⟩
  | .hbm, ⟨81, _⟩ => ⟨S40x1, .f32⟩
  | .hbm, ⟨82, _⟩ => ⟨S16x1, .f32⟩
  | .hbm, ⟨83, _⟩ => ⟨S8x1, .f32⟩
  | .hbm, ⟨84, _⟩ => ⟨S24x1, .f32⟩
  | .hbm, ⟨85, _⟩ => ⟨S24x1, .f32⟩
  | .hbm, ⟨86, _⟩ => ⟨S8x1, .f32⟩
  | .hbm, ⟨87, _⟩ => ⟨S80x1, .f32⟩
  | .hbm, ⟨88, _⟩ => ⟨S40x1, .f32⟩
  | .hbm, ⟨89, _⟩ => ⟨S16x1, .f32⟩
  | .hbm, ⟨90, _⟩ => ⟨S8x1, .f32⟩
  | .hbm, ⟨91, _⟩ => ⟨S400x8192, .f32⟩
  | .hbm, ⟨92, _⟩ => ⟨S40x8192, .f32⟩
  | .hbm, ⟨93, _⟩ => ⟨S4x48x1, .f32⟩
  | .hbm, ⟨94, _⟩ => ⟨S4x80x1, .f32⟩
  | .local _ .vmem, ⟨0, _⟩ => ⟨S400x2048, .f32⟩
  | .local _ .vmem, ⟨1, _⟩ => ⟨S400x2048, .f32⟩
  | .local _ .vmem, ⟨2, _⟩ => ⟨S400x2048, .f32⟩
  | .local _ .vmem, ⟨3, _⟩ => ⟨S400x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .i32⟩
  | .local _ .vmem, ⟨9, _⟩ => ⟨S8x2048, .i32⟩
  | .local _ .vmem, ⟨10, _⟩ => ⟨S24x8, .f32⟩
  | .local _ .vmem, ⟨11, _⟩ => ⟨S24x8, .f32⟩
  | .local _ .vmem, ⟨12, _⟩ => ⟨S24x1, .f32⟩
  | .local _ .vmem, ⟨13, _⟩ => ⟨S24x1, .f32⟩
  | .local _ .vmem, ⟨14, _⟩ => ⟨S8x8, .f32⟩
  | .local _ .vmem, ⟨15, _⟩ => ⟨S8x1, .f32⟩
  | .local _ .vmem, ⟨16, _⟩ => ⟨S1x1, .f32⟩
  | .local _ .vmem, ⟨17, _⟩ => ⟨S80x32, .f32⟩
  | .local _ .vmem, ⟨18, _⟩ => ⟨S80x1, .f32⟩
  | .local _ .vmem, ⟨19, _⟩ => ⟨S40x80, .f32⟩
  | .local _ .vmem, ⟨20, _⟩ => ⟨S40x1, .f32⟩
  | .local _ .vmem, ⟨21, _⟩ => ⟨S8x40, .f32⟩
  | .local _ .vmem, ⟨22, _⟩ => ⟨S16x8, .f32⟩
  | .local _ .vmem, ⟨23, _⟩ => ⟨S16x8, .f32⟩
  | .local _ .vmem, ⟨24, _⟩ => ⟨S16x1, .f32⟩
  | .local _ .vmem, ⟨25, _⟩ => ⟨S8x8, .f32⟩
  | .local _ .vmem, ⟨26, _⟩ => ⟨S8x8, .f32⟩
  | .local _ .vmem, ⟨27, _⟩ => ⟨S8x1, .f32⟩
  | .local _ .vmem, ⟨28, _⟩ => ⟨S400x2048, .f32⟩
  | .local _ .vmem, ⟨29, _⟩ => ⟨S400x2048, .f32⟩
  | .local _ .vmem, ⟨30, _⟩ => ⟨S40x2048, .f32⟩
  | .local _ .vmem, ⟨31, _⟩ => ⟨S40x2048, .f32⟩
  | .local _ .vmem, ⟨32, _⟩ => ⟨S1x48x1, .f32⟩
  | .local _ .vmem, ⟨33, _⟩ => ⟨S1x48x1, .f32⟩
  | .local _ .vmem, ⟨34, _⟩ => ⟨S1x80x1, .f32⟩
  | .local _ .vmem, ⟨35, _⟩ => ⟨S1x80x1, .f32⟩
  | .local _ .vmem, ⟨36, _⟩ => ⟨S56x2048, .f32⟩
  | _, _ => ⟨S400x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_v10 : Ref sig .tc := ⟨.hbm, 39, rfl⟩
abbrev main_v11 : Ref sig .tc := ⟨.hbm, 40, rfl⟩
abbrev main_c_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58_0 : Ref sig .tc := ⟨.hbm, 91, rfl⟩
abbrev main_v58_1 : Ref sig .tc := ⟨.hbm, 92, rfl⟩
abbrev main_v58_2 : Ref sig .tc := ⟨.hbm, 93, rfl⟩
abbrev main_v58_3 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_stg26_0 : Ref sig .tc := ⟨.vmem, 34, rfl⟩
abbrev cc0_stg26_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33
abbrev cc0_sem26_0 : DmaSem sig := 34
abbrev cc0_sem26_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S24x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S80x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S80x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S40x80 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S40x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x40 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S400x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S40x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x48x1 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x80x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Pass1Ideal.lean ====
variable {F : FTy → Type} [FloatOps F] [Named F]
def κ : String → Option EReal := fun
  | "mask" => some ⊥
  | _ => none
-- ==== Proof.FirstPassIdeal.lean ====
/- The frame of the first pass, as Proof.lean uses it over the reals: what its four output arrays hold after a point of the grid, that the body runs at
   every point from what the library hands it, and that the launch ends with its arguments unchanged and its semaphores at
   zero. It follows the generated set-up of the launch; the body's run itself is `kernelRun0_A`. -/
module

public import proofs.«01_k».proof.Proof.Gen.Pass1Ideal.Frame.RunA
public import Idealize.ShloMosaic.Lib.Claim

@[expose] public section

set_option maxRecDepth 16384

noncomputable section

namespace Cert.Pass1Ideal.Run

open Cert.Pass1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The stores of a point fill the whole block of array 23. -/
theorem cover0_A_23 (c : Dev nD) (i : grid0.Coords) (arg1 : Memref sig .tc .vmem S400x2048 .f32) (harg1 : arg1.IsWhole) (arg2 : Memref sig .tc .vmem S400x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S24x8 .f32) (harg6 : arg6.IsWhole) (arg7 : Memref sig .tc .vmem S24x8 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S8x8 .f32) (harg10 : arg10.IsWhole) (arg11 : Memref sig .tc .vmem S8x1 .f32) (harg11 : arg11.IsWhole) (arg12 : Memref sig .tc .vmem S1x1 .f32) (harg12 : arg12.IsWhole) (arg13 : Memref sig .tc .vmem S80x32 .f32) (harg13 : arg13.IsWhole) (arg14 : Memref sig .tc .vmem S80x1 .f32) (harg14 : arg14.IsWhole) (arg15 : Memref sig .tc .vmem S40x80 .f32) (harg15 : arg15.IsWhole) (arg16 : Memref sig .tc .vmem S40x1 .f32) (harg16 : arg16.IsWhole) (arg17 : Memref sig .tc .vmem S8x40 .f32) (harg17 : arg17.IsWhole) (arg18 : Memref sig .tc .vmem S16x8 .f32) (harg18 : arg18.IsWhole) (arg19 : Memref sig .tc .vmem S16x8 .f32) (harg19 : arg19.IsWhole) (arg20 : Memref sig .tc .vmem S16x1 .f32) (harg20 : arg20.IsWhole) (arg21 : Memref sig .tc .vmem S8x8 .f32) (harg21 : arg21.IsWhole) (arg22 : Memref sig .tc .vmem S8x8 .f32) (harg22 : arg22.IsWhole) (arg23 : Memref sig .tc .vmem S8x1 .f32) (harg23 : arg23.IsWhole) (arg24 : Memref sig .tc .vmem S400x2048 .f32) (harg24 : arg24.IsWhole) (arg25 : Memref sig .tc .vmem S40x2048 .f32) (harg25 : arg25.IsWhole) (arg26 : Memref sig .tc .vmem S1x48x1 .f32) (harg26 : arg26.IsWhole) (arg27 : Memref sig .tc .vmem S1x80x1 .f32) (harg27 : arg27.IsWhole) (arg28 : Memref sig .tc .vmem S56x2048 .f32) (harg28 : arg28.IsWhole)
    (x0 : Vec F S400x2048 .f32) (x1 : Vec F S400x2048 .f32) (x2 : Vec F S8x2048 .f32) (x3 : Vec F S8x2048 .f32) (x4 : Vec F S8x2048 .i32) (x5 : Vec F S24x8 .f32) (x6 : Vec F S24x8 .f32) (x7 : Vec F S24x1 .f32) (x8 : Vec F S24x1 .f32) (x9 : Vec F S8x8 .f32) (x10 : Vec F S8x1 .f32) (x11 : Vec F S1x1 .f32) (x12 : Vec F S80x32 .f32) (x13 : Vec F S80x1 .f32) (x14 : Vec F S40x80 .f32) (x15 : Vec F S40x1 .f32) (x16 : Vec F S8x40 .f32) (x17 : Vec F S16x8 .f32) (x18 : Vec F S16x8 .f32) (x19 : Vec F S16x1 .f32) (x20 : Vec F S8x8 .f32) (x21 : Vec F S8x8 .f32) (x22 : Vec F S8x1 .f32) (y : S400x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).1 S8x2048.size (by sl_kernel_rfl) y

/-- What a point leaves in its block of array 23: its stores, read back. -/
def out0_A_23 (c : Dev nD) (i : grid0.Coords) (arg1 : Memref sig .tc .vmem S400x2048 .f32) (harg1 : arg1.IsWhole) (arg2 : Memref sig .tc .vmem S400x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S24x8 .f32) (harg6 : arg6.IsWhole) (arg7 : Memref sig .tc .vmem S24x8 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S8x8 .f32) (harg10 : arg10.IsWhole) (arg11 : Memref sig .tc .vmem S8x1 .f32) (harg11 : arg11.IsWhole) (arg12 : Memref sig .tc .vmem S1x1 .f32) (harg12 : arg12.IsWhole) (arg13 : Memref sig .tc .vmem S80x32 .f32) (harg13 : arg13.IsWhole) (arg14 : Memref sig .tc .vmem S80x1 .f32) (harg14 : arg14.IsWhole) (arg15 : Memref sig .tc .vmem S40x80 .f32) (harg15 : arg15.IsWhole) (arg16 : Memref sig .tc .vmem S40x1 .f32) (harg16 : arg16.IsWhole) (arg17 : Memref sig .tc .vmem S8x40 .f32) (harg17 : arg17.IsWhole) (arg18 : Memref sig .tc .vmem S16x8 .f32) (harg18 : arg18.IsWhole) (arg19 : Memref sig .tc .vmem S16x8 .f32) (harg19 : arg19.IsWhole) (arg20 : Memref sig .tc .vmem S16x1 .f32) (harg20 : arg20.IsWhole) (arg21 : Memref sig .tc .vmem S8x8 .f32) (harg21 : arg21.IsWhole) (arg22 : Memref sig .tc .vmem S8x8 .f32) (harg22 : arg22.IsWhole) (arg23 : Memref sig .tc .vmem S8x1 .f32) (harg23 : arg23.IsWhole) (arg24 : Memref sig .tc .vmem S400x2048 .f32) (harg24 : arg24.IsWhole) (arg25 : Memref sig .tc .vmem S40x2048 .f32) (harg25 : arg25.IsWhole) (arg26 : Memref sig .tc .vmem S1x48x1 .f32) (harg26 : arg26.IsWhole) (arg27 : Memref sig .tc .vmem S1x80x1 .f32) (harg27 : arg27.IsWhole) (arg28 : Memref sig .tc .vmem S56x2048 .f32) (harg28 : arg28.IsWhole)
    (x0 : Vec F S400x2048 .f32) (x1 : Vec F S400x2048 .f32) (x2 : Vec F S8x2048 .f32) (x3 : Vec F S8x2048 .f32) (x4 : Vec F S8x2048 .i32) (x5 : Vec F S24x8 .f32) (x6 : Vec F S24x8 .f32) (x7 : Vec F S24x1 .f32) (x8 : Vec F S24x1 .f32) (x9 : Vec F S8x8 .f32) (x10 : Vec F S8x1 .f32) (x11 : Vec F S1x1 .f32) (x12 : Vec F S80x32 .f32) (x13 : Vec F S80x1 .f32) (x14 : Vec F S40x80 .f32) (x15 : Vec F S40x1 .f32) (x16 : Vec F S8x40 .f32) (x17 : Vec F S16x8 .f32) (x18 : Vec F S16x8 .f32) (x19 : Vec F S16x1 .f32) (x20 : Vec F S8x8 .f32) (x21 : Vec F S8x8 .f32) (x22 : Vec F S8x1 .f32) : Vec F S400x2048 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).1)

/-- The stores of a point fill the whole block of array 24. -/
theorem cover0_A_24 (c : Dev nD) (i : grid0.Coords) (arg1 : Memref sig .tc .vmem S400x2048 .f32) (harg1 : arg1.IsWhole) (arg2 : Memref sig .tc .vmem S400x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S24x8 .f32) (harg6 : arg6.IsWhole) (arg7 : Memref sig .tc .vmem S24x8 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S8x8 .f32) (harg10 : arg10.IsWhole) (arg11 : Memref sig .tc .vmem S8x1 .f32) (harg11 : arg11.IsWhole) (arg12 : Memref sig .tc .vmem S1x1 .f32) (harg12 : arg12.IsWhole) (arg13 : Memref sig .tc .vmem S80x32 .f32) (harg13 : arg13.IsWhole) (arg14 : Memref sig .tc .vmem S80x1 .f32) (harg14 : arg14.IsWhole) (arg15 : Memref sig .tc .vmem S40x80 .f32) (harg15 : arg15.IsWhole) (arg16 : Memref sig .tc .vmem S40x1 .f32) (harg16 : arg16.IsWhole) (arg17 : Memref sig .tc .vmem S8x40 .f32) (harg17 : arg17.IsWhole) (arg18 : Memref sig .tc .vmem S16x8 .f32) (harg18 : arg18.IsWhole) (arg19 : Memref sig .tc .vmem S16x8 .f32) (harg19 : arg19.IsWhole) (arg20 : Memref sig .tc .vmem S16x1 .f32) (harg20 : arg20.IsWhole) (arg21 : Memref sig .tc .vmem S8x8 .f32) (harg21 : arg21.IsWhole) (arg22 : Memref sig .tc .vmem S8x8 .f32) (harg22 : arg22.IsWhole) (arg23 : Memref sig .tc .vmem S8x1 .f32) (harg23 : arg23.IsWhole) (arg24 : Memref sig .tc .vmem S400x2048 .f32) (harg24 : arg24.IsWhole) (arg25 : Memref sig .tc .vmem S40x2048 .f32) (harg25 : arg25.IsWhole) (arg26 : Memref sig .tc .vmem S1x48x1 .f32) (harg26 : arg26.IsWhole) (arg27 : Memref sig .tc .vmem S1x80x1 .f32) (harg27 : arg27.IsWhole) (arg28 : Memref sig .tc .vmem S56x2048 .f32) (harg28 : arg28.IsWhole)
    (x0 : Vec F S400x2048 .f32) (x1 : Vec F S400x2048 .f32) (x2 : Vec F S8x2048 .f32) (x3 : Vec F S8x2048 .f32) (x4 : Vec F S8x2048 .i32) (x5 : Vec F S24x8 .f32) (x6 : Vec F S24x8 .f32) (x7 : Vec F S24x1 .f32) (x8 : Vec F S24x1 .f32) (x9 : Vec F S8x8 .f32) (x10 : Vec F S8x1 .f32) (x11 : Vec F S1x1 .f32) (x12 : Vec F S80x32 .f32) (x13 : Vec F S80x1 .f32) (x14 : Vec F S40x80 .f32) (x15 : Vec F S40x1 .f32) (x16 : Vec F S8x40 .f32) (x17 : Vec F S16x8 .f32) (x18 : Vec F S16x8 .f32) (x19 : Vec F S16x1 .f32) (x20 : Vec F S8x8 .f32) (x21 : Vec F S8x8 .f32) (x22 : Vec F S8x1 .f32) (y : S40x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).2.1 S40x2048.size (by sl_kernel_rfl) y

/-- What a point leaves in its block of array 24: its stores, read back. -/
def out0_A_24 (c : Dev nD) (i : grid0.Coords) (arg1 : Memref sig .tc .vmem S400x2048 .f32) (harg1 : arg1.IsWhole) (arg2 : Memref sig .tc .vmem S400x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S24x8 .f32) (harg6 : arg6.IsWhole) (arg7 : Memref sig .tc .vmem S24x8 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S8x8 .f32) (harg10 : arg10.IsWhole) (arg11 : Memref sig .tc .vmem S8x1 .f32) (harg11 : arg11.IsWhole) (arg12 : Memref sig .tc .vmem S1x1 .f32) (harg12 : arg12.IsWhole) (arg13 : Memref sig .tc .vmem S80x32 .f32) (harg13 : arg13.IsWhole) (arg14 : Memref sig .tc .vmem S80x1 .f32) (harg14 : arg14.IsWhole) (arg15 : Memref sig .tc .vmem S40x80 .f32) (harg15 : arg15.IsWhole) (arg16 : Memref sig .tc .vmem S40x1 .f32) (harg16 : arg16.IsWhole) (arg17 : Memref sig .tc .vmem S8x40 .f32) (harg17 : arg17.IsWhole) (arg18 : Memref sig .tc .vmem S16x8 .f32) (harg18 : arg18.IsWhole) (arg19 : Memref sig .tc .vmem S16x8 .f32) (harg19 : arg19.IsWhole) (arg20 : Memref sig .tc .vmem S16x1 .f32) (harg20 : arg20.IsWhole) (arg21 : Memref sig .tc .vmem S8x8 .f32) (harg21 : arg21.IsWhole) (arg22 : Memref sig .tc .vmem S8x8 .f32) (harg22 : arg22.IsWhole) (arg23 : Memref sig .tc .vmem S8x1 .f32) (harg23 : arg23.IsWhole) (arg24 : Memref sig .tc .vmem S400x2048 .f32) (harg24 : arg24.IsWhole) (arg25 : Memref sig .tc .vmem S40x2048 .f32) (harg25 : arg25.IsWhole) (arg26 : Memref sig .tc .vmem S1x48x1 .f32) (harg26 : arg26.IsWhole) (arg27 : Memref sig .tc .vmem S1x80x1 .f32) (harg27 : arg27.IsWhole) (arg28 : Memref sig .tc .vmem S56x2048 .f32) (harg28 : arg28.IsWhole)
    (x0 : Vec F S400x2048 .f32) (x1 : Vec F S400x2048 .f32) (x2 : Vec F S8x2048 .f32) (x3 : Vec F S8x2048 .f32) (x4 : Vec F S8x2048 .i32) (x5 : Vec F S24x8 .f32) (x6 : Vec F S24x8 .f32) (x7 : Vec F S24x1 .f32) (x8 : Vec F S24x1 .f32) (x9 : Vec F S8x8 .f32) (x10 : Vec F S8x1 .f32) (x11 : Vec F S1x1 .f32) (x12 : Vec F S80x32 .f32) (x13 : Vec F S80x1 .f32) (x14 : Vec F S40x80 .f32) (x15 : Vec F S40x1 .f32) (x16 : Vec F S8x40 .f32) (x17 : Vec F S16x8 .f32) (x18 : Vec F S16x8 .f32) (x19 : Vec F S16x1 .f32) (x20 : Vec F S8x8 .f32) (x21 : Vec F S8x8 .f32) (x22 : Vec F S8x1 .f32) : Vec F S40x2048 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).2.1)

/-- The stores of a point fill the whole block of array 25. -/
theorem cover0_A_25 (c : Dev nD) (i : grid0.Coords) (arg1 : Memref sig .tc .vmem S400x2048 .f32) (harg1 : arg1.IsWhole) (arg2 : Memref sig .tc .vmem S400x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S24x8 .f32) (harg6 : arg6.IsWhole) (arg7 : Memref sig .tc .vmem S24x8 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S8x8 .f32) (harg10 : arg10.IsWhole) (arg11 : Memref sig .tc .vmem S8x1 .f32) (harg11 : arg11.IsWhole) (arg12 : Memref sig .tc .vmem S1x1 .f32) (harg12 : arg12.IsWhole) (arg13 : Memref sig .tc .vmem S80x32 .f32) (harg13 : arg13.IsWhole) (arg14 : Memref sig .tc .vmem S80x1 .f32) (harg14 : arg14.IsWhole) (arg15 : Memref sig .tc .vmem S40x80 .f32) (harg15 : arg15.IsWhole) (arg16 : Memref sig .tc .vmem S40x1 .f32) (harg16 : arg16.IsWhole) (arg17 : Memref sig .tc .vmem S8x40 .f32) (harg17 : arg17.IsWhole) (arg18 : Memref sig .tc .vmem S16x8 .f32) (harg18 : arg18.IsWhole) (arg19 : Memref sig .tc .vmem S16x8 .f32) (harg19 : arg19.IsWhole) (arg20 : Memref sig .tc .vmem S16x1 .f32) (harg20 : arg20.IsWhole) (arg21 : Memref sig .tc .vmem S8x8 .f32) (harg21 : arg21.IsWhole) (arg22 : Memref sig .tc .vmem S8x8 .f32) (harg22 : arg22.IsWhole) (arg23 : Memref sig .tc .vmem S8x1 .f32) (harg23 : arg23.IsWhole) (arg24 : Memref sig .tc .vmem S400x2048 .f32) (harg24 : arg24.IsWhole) (arg25 : Memref sig .tc .vmem S40x2048 .f32) (harg25 : arg25.IsWhole) (arg26 : Memref sig .tc .vmem S1x48x1 .f32) (harg26 : arg26.IsWhole) (arg27 : Memref sig .tc .vmem S1x80x1 .f32) (harg27 : arg27.IsWhole) (arg28 : Memref sig .tc .vmem S56x2048 .f32) (harg28 : arg28.IsWhole)
    (x0 : Vec F S400x2048 .f32) (x1 : Vec F S400x2048 .f32) (x2 : Vec F S8x2048 .f32) (x3 : Vec F S8x2048 .f32) (x4 : Vec F S8x2048 .i32) (x5 : Vec F S24x8 .f32) (x6 : Vec F S24x8 .f32) (x7 : Vec F S24x1 .f32) (x8 : Vec F S24x1 .f32) (x9 : Vec F S8x8 .f32) (x10 : Vec F S8x1 .f32) (x11 : Vec F S1x1 .f32) (x12 : Vec F S80x32 .f32) (x13 : Vec F S80x1 .f32) (x14 : Vec F S40x80 .f32) (x15 : Vec F S40x1 .f32) (x16 : Vec F S8x40 .f32) (x17 : Vec F S16x8 .f32) (x18 : Vec F S16x8 .f32) (x19 : Vec F S16x1 .f32) (x20 : Vec F S8x8 .f32) (x21 : Vec F S8x8 .f32) (x22 : Vec F S8x1 .f32) (y : S1x48x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).2.2.1 S1x48x1.size (by sl_kernel_rfl) y

/-- What a point leaves in its block of array 25: its stores, read back. -/
def out0_A_25 (c : Dev nD) (i : grid0.Coords) (arg1 : Memref sig .tc .vmem S400x2048 .f32) (harg1 : arg1.IsWhole) (arg2 : Memref sig .tc .vmem S400x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S24x8 .f32) (harg6 : arg6.IsWhole) (arg7 : Memref sig .tc .vmem S24x8 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S8x8 .f32) (harg10 : arg10.IsWhole) (arg11 : Memref sig .tc .vmem S8x1 .f32) (harg11 : arg11.IsWhole) (arg12 : Memref sig .tc .vmem S1x1 .f32) (harg12 : arg12.IsWhole) (arg13 : Memref sig .tc .vmem S80x32 .f32) (harg13 : arg13.IsWhole) (arg14 : Memref sig .tc .vmem S80x1 .f32) (harg14 : arg14.IsWhole) (arg15 : Memref sig .tc .vmem S40x80 .f32) (harg15 : arg15.IsWhole) (arg16 : Memref sig .tc .vmem S40x1 .f32) (harg16 : arg16.IsWhole) (arg17 : Memref sig .tc .vmem S8x40 .f32) (harg17 : arg17.IsWhole) (arg18 : Memref sig .tc .vmem S16x8 .f32) (harg18 : arg18.IsWhole) (arg19 : Memref sig .tc .vmem S16x8 .f32) (harg19 : arg19.IsWhole) (arg20 : Memref sig .tc .vmem S16x1 .f32) (harg20 : arg20.IsWhole) (arg21 : Memref sig .tc .vmem S8x8 .f32) (harg21 : arg21.IsWhole) (arg22 : Memref sig .tc .vmem S8x8 .f32) (harg22 : arg22.IsWhole) (arg23 : Memref sig .tc .vmem S8x1 .f32) (harg23 : arg23.IsWhole) (arg24 : Memref sig .tc .vmem S400x2048 .f32) (harg24 : arg24.IsWhole) (arg25 : Memref sig .tc .vmem S40x2048 .f32) (harg25 : arg25.IsWhole) (arg26 : Memref sig .tc .vmem S1x48x1 .f32) (harg26 : arg26.IsWhole) (arg27 : Memref sig .tc .vmem S1x80x1 .f32) (harg27 : arg27.IsWhole) (arg28 : Memref sig .tc .vmem S56x2048 .f32) (harg28 : arg28.IsWhole)
    (x0 : Vec F S400x2048 .f32) (x1 : Vec F S400x2048 .f32) (x2 : Vec F S8x2048 .f32) (x3 : Vec F S8x2048 .f32) (x4 : Vec F S8x2048 .i32) (x5 : Vec F S24x8 .f32) (x6 : Vec F S24x8 .f32) (x7 : Vec F S24x1 .f32) (x8 : Vec F S24x1 .f32) (x9 : Vec F S8x8 .f32) (x10 : Vec F S8x1 .f32) (x11 : Vec F S1x1 .f32) (x12 : Vec F S80x32 .f32) (x13 : Vec F S80x1 .f32) (x14 : Vec F S40x80 .f32) (x15 : Vec F S40x1 .f32) (x16 : Vec F S8x40 .f32) (x17 : Vec F S16x8 .f32) (x18 : Vec F S16x8 .f32) (x19 : Vec F S16x1 .f32) (x20 : Vec F S8x8 .f32) (x21 : Vec F S8x8 .f32) (x22 : Vec F S8x1 .f32) : Vec F S1x48x1 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).2.2.1)

/-- The stores of a point fill the whole block of array 26. -/
theorem cover0_A_26 (c : Dev nD) (i : grid0.Coords) (arg1 : Memref sig .tc .vmem S400x2048 .f32) (harg1 : arg1.IsWhole) (arg2 : Memref sig .tc .vmem S400x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S24x8 .f32) (harg6 : arg6.IsWhole) (arg7 : Memref sig .tc .vmem S24x8 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S8x8 .f32) (harg10 : arg10.IsWhole) (arg11 : Memref sig .tc .vmem S8x1 .f32) (harg11 : arg11.IsWhole) (arg12 : Memref sig .tc .vmem S1x1 .f32) (harg12 : arg12.IsWhole) (arg13 : Memref sig .tc .vmem S80x32 .f32) (harg13 : arg13.IsWhole) (arg14 : Memref sig .tc .vmem S80x1 .f32) (harg14 : arg14.IsWhole) (arg15 : Memref sig .tc .vmem S40x80 .f32) (harg15 : arg15.IsWhole) (arg16 : Memref sig .tc .vmem S40x1 .f32) (harg16 : arg16.IsWhole) (arg17 : Memref sig .tc .vmem S8x40 .f32) (harg17 : arg17.IsWhole) (arg18 : Memref sig .tc .vmem S16x8 .f32) (harg18 : arg18.IsWhole) (arg19 : Memref sig .tc .vmem S16x8 .f32) (harg19 : arg19.IsWhole) (arg20 : Memref sig .tc .vmem S16x1 .f32) (harg20 : arg20.IsWhole) (arg21 : Memref sig .tc .vmem S8x8 .f32) (harg21 : arg21.IsWhole) (arg22 : Memref sig .tc .vmem S8x8 .f32) (harg22 : arg22.IsWhole) (arg23 : Memref sig .tc .vmem S8x1 .f32) (harg23 : arg23.IsWhole) (arg24 : Memref sig .tc .vmem S400x2048 .f32) (harg24 : arg24.IsWhole) (arg25 : Memref sig .tc .vmem S40x2048 .f32) (harg25 : arg25.IsWhole) (arg26 : Memref sig .tc .vmem S1x48x1 .f32) (harg26 : arg26.IsWhole) (arg27 : Memref sig .tc .vmem S1x80x1 .f32) (harg27 : arg27.IsWhole) (arg28 : Memref sig .tc .vmem S56x2048 .f32) (harg28 : arg28.IsWhole)
    (x0 : Vec F S400x2048 .f32) (x1 : Vec F S400x2048 .f32) (x2 : Vec F S8x2048 .f32) (x3 : Vec F S8x2048 .f32) (x4 : Vec F S8x2048 .i32) (x5 : Vec F S24x8 .f32) (x6 : Vec F S24x8 .f32) (x7 : Vec F S24x1 .f32) (x8 : Vec F S24x1 .f32) (x9 : Vec F S8x8 .f32) (x10 : Vec F S8x1 .f32) (x11 : Vec F S1x1 .f32) (x12 : Vec F S80x32 .f32) (x13 : Vec F S80x1 .f32) (x14 : Vec F S40x80 .f32) (x15 : Vec F S40x1 .f32) (x16 : Vec F S8x40 .f32) (x17 : Vec F S16x8 .f32) (x18 : Vec F S16x8 .f32) (x19 : Vec F S16x1 .f32) (x20 : Vec F S8x8 .f32) (x21 : Vec F S8x8 .f32) (x22 : Vec F S8x1 .f32) (y : S1x80x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).2.2.2.1 S1x80x1.size (by sl_kernel_rfl) y

/-- What a point leaves in its block of array 26: its stores, read back. -/
def out0_A_26 (c : Dev nD) (i : grid0.Coords) (arg1 : Memref sig .tc .vmem S400x2048 .f32) (harg1 : arg1.IsWhole) (arg2 : Memref sig .tc .vmem S400x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .i32) (harg5 : arg5.IsWhole) (arg6 : Memref sig .tc .vmem S24x8 .f32) (harg6 : arg6.IsWhole) (arg7 : Memref sig .tc .vmem S24x8 .f32) (harg7 : arg7.IsWhole) (arg8 : Memref sig .tc .vmem S24x1 .f32) (harg8 : arg8.IsWhole) (arg9 : Memref sig .tc .vmem S24x1 .f32) (harg9 : arg9.IsWhole) (arg10 : Memref sig .tc .vmem S8x8 .f32) (harg10 : arg10.IsWhole) (arg11 : Memref sig .tc .vmem S8x1 .f32) (harg11 : arg11.IsWhole) (arg12 : Memref sig .tc .vmem S1x1 .f32) (harg12 : arg12.IsWhole) (arg13 : Memref sig .tc .vmem S80x32 .f32) (harg13 : arg13.IsWhole) (arg14 : Memref sig .tc .vmem S80x1 .f32) (harg14 : arg14.IsWhole) (arg15 : Memref sig .tc .vmem S40x80 .f32) (harg15 : arg15.IsWhole) (arg16 : Memref sig .tc .vmem S40x1 .f32) (harg16 : arg16.IsWhole) (arg17 : Memref sig .tc .vmem S8x40 .f32) (harg17 : arg17.IsWhole) (arg18 : Memref sig .tc .vmem S16x8 .f32) (harg18 : arg18.IsWhole) (arg19 : Memref sig .tc .vmem S16x8 .f32) (harg19 : arg19.IsWhole) (arg20 : Memref sig .tc .vmem S16x1 .f32) (harg20 : arg20.IsWhole) (arg21 : Memref sig .tc .vmem S8x8 .f32) (harg21 : arg21.IsWhole) (arg22 : Memref sig .tc .vmem S8x8 .f32) (harg22 : arg22.IsWhole) (arg23 : Memref sig .tc .vmem S8x1 .f32) (harg23 : arg23.IsWhole) (arg24 : Memref sig .tc .vmem S400x2048 .f32) (harg24 : arg24.IsWhole) (arg25 : Memref sig .tc .vmem S40x2048 .f32) (harg25 : arg25.IsWhole) (arg26 : Memref sig .tc .vmem S1x48x1 .f32) (harg26 : arg26.IsWhole) (arg27 : Memref sig .tc .vmem S1x80x1 .f32) (harg27 : arg27.IsWhole) (arg28 : Memref sig .tc .vmem S56x2048 .f32) (harg28 : arg28.IsWhole)
    (x0 : Vec F S400x2048 .f32) (x1 : Vec F S400x2048 .f32) (x2 : Vec F S8x2048 .f32) (x3 : Vec F S8x2048 .f32) (x4 : Vec F S8x2048 .i32) (x5 : Vec F S24x8 .f32) (x6 : Vec F S24x8 .f32) (x7 : Vec F S24x1 .f32) (x8 : Vec F S24x1 .f32) (x9 : Vec F S8x8 .f32) (x10 : Vec F S8x1 .f32) (x11 : Vec F S1x1 .f32) (x12 : Vec F S80x32 .f32) (x13 : Vec F S80x1 .f32) (x14 : Vec F S40x80 .f32) (x15 : Vec F S40x1 .f32) (x16 : Vec F S8x40 .f32) (x17 : Vec F S16x8 .f32) (x18 : Vec F S16x8 .f32) (x19 : Vec F S16x1 .f32) (x20 : Vec F S8x8 .f32) (x21 : Vec F S8x8 .f32) (x22 : Vec F S8x1 .f32) : Vec F S1x80x1 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).2.2.2.1)

/-! ## What the outputs hold after each point -/

/-- What the four output blocks hold after point `t`, as a tuple. -/
def outsAt0 (c : Dev nD) (t : Fin cfg0.N) : Vec F S400x2048 .f32 × Vec F S40x2048 .f32 × Vec F S1x48x1 .f32 × Vec F S1x80x1 .f32 :=
  (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t))

/-! ## The pipeline's proof data -/

/-- What each array's block holds after a point: an input's is as it was, an output's is `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t).1
    | ⟨24, _⟩ => (outsAt0 m c t).2.1
    | ⟨25, _⟩ => (outsAt0 m c t).2.2.1
    | ⟨26, _⟩ => (outsAt0 m c t).2.2.2
    | ⟨_ + 27, h⟩ => absurd h (Nat.not_lt.2 (Nat.le_add_left _ _))
  Φ _ := Pipeline.ΦA spec0 c
  q _ := fullShare
  owed _ := 0

/-- The arrays of `dats` are those that the launch finds. -/
theorem A_eq (c : Dev nD) (w : Fin cfg0.W) : (dats m 0 c).A w = V m c (Pipeline.arrRef spec0 w) := by
  dsimp only [dats]

/-- What block 0 holds after point `t`. -/
theorem after0_0 (c : Dev nD) (t : Fin cfg0.N) : (dats m 0 c).after 0 t = iblk m c 0 t := by dsimp only [dats]
/-- What block 1 holds after point `t`. -/
theorem after0_1 (c : Dev nD) (t : Fin cfg0.N) : (dats m 0 c).after 1 t = iblk m c 1 t := by dsimp only [dats]
/-- What block 2 holds after point `t`. -/
theorem after0_2 (c : Dev nD) (t : Fin cfg0.N) : (dats m 0 c).after 2 t = iblk m c 2 t := by dsimp only [dats]
/-- What block 3 holds after point `t`. -/
theorem after0_3 (c : Dev nD) (t : Fin cfg0.N) : (dats m 0 c).after 3 t = iblk m c 3 t := by dsimp only [dats]
/-- What block 4 holds after point `t`. -/
theorem after0_4 (c : Dev nD) (t : Fin cfg0.N) : (dats m 0 c).after 4 t = iblk m c 4 t := by dsimp only [dats]
/-- What block 5 holds after point `t`. -/
theorem after0_5 (c : Dev nD) (t : Fin cfg0.N) : (dats m 0 c).after 5 t = iblk m c 5 t := by dsimp only [dats]
/-- What block 6 holds after point `t`. -/
theorem after0_6 (c : Dev nD) (t : Fin cfg0.N) : (dats m 0 c).after 6 t = iblk m c 6 t := by dsimp only [dats]
/-- What block 7 holds after point `t`. -/
theorem after0_7 (c : Dev nD) (t : Fin cfg0.N) : (dats m 0 c).after 7 t = iblk m c 7 t := by dsimp only [dats]
/-- What block 8 holds after point `t`. -/
theorem after0_8 (c : Dev nD) (t : Fin cfg0.N) : (dats m 0 c).after 8 t = iblk m c 8 t := by dsimp only [dats]
/-- What block 9 holds after point `t`. -/
theorem after0_9 (c : Dev nD) (t : Fin cfg0.N) : (dats m 0 c).after 9 t = iblk m c 9 t := by dsimp only [dats]
/-- What block 10 holds after point `t`. -/
theorem after0_10 (c : Dev nD) (t : Fin cfg0.N) : (dats m 0 c).after 10 t = iblk m c 10 t := by dsimp only [dats]
/-- What block 11 holds after point `t`. -/
theorem after0_11 (c : Dev nD) (t : Fin cfg0.N) : (dats m 0 c).after 11 t = iblk m c 11 t := by dsimp only [dats]
/-- What block 12 holds after point `t`. -/
theorem after0_12 (c : Dev nD) (t : Fin cfg0.N) : (dats m 0 c).after 12 t = iblk m c 12 t := by dsimp only [dats]
/-- What block 13 holds after point `t`. -/
theorem after0_13 (c : Dev nD) (t : Fin cfg0.N) : (dats m 0 c).after 13 t = iblk m c 13 t := by dsimp only [dats]
/-- What block 14 holds after point `t`. -/
theorem after0_14 (c : Dev nD) (t : Fin cfg0.N) : (dats m 0 c).after 14 t = iblk m c 14 t := by dsimp only [dats]
/-- What block 15 holds after point `t`. -/
theorem after0_15 (c : Dev nD) (t : Fin cfg0.N) : (dats m 0 c).after 15 t = iblk m c 15 t := by dsimp only [dats]
/-- What block 16 holds after point `t`. -/
theorem after0_16 (c : Dev nD) (t : Fin cfg0.N) : (dats m 0 c).after 16 t = iblk m c 16 t := by dsimp only [dats]
/-- What block 17 holds after point `t`. -/
theorem after0_17 (c : Dev nD) (t : Fin cfg0.N) : (dats m 0 c).after 17 t = iblk m c 17 t := by dsimp only [dats]
/-- What block 18 holds after point `t`. -/
theorem after0_18 (c : Dev nD) (t : Fin cfg0.N) : (dats m 0 c).after 18 t = iblk m c 18 t := by dsimp only [dats]
/-- What block 19 holds after point `t`. -/
theorem after0_19 (c : Dev nD) (t : Fin cfg0.N) : (dats m 0 c).after 19 t = iblk m c 19 t := by dsimp only [dats]
/-- What block 20 holds after point `t`. -/
theorem after0_20 (c : Dev nD) (t : Fin cfg0.N) : (dats m 0 c).after 20 t = iblk m c 20 t := by dsimp only [dats]
/-- What block 21 holds after point `t`. -/
theorem after0_21 (c : Dev nD) (t : Fin cfg0.N) : (dats m 0 c).after 21 t = iblk m c 21 t := by dsimp only [dats]
/-- What block 22 holds after point `t`. -/
theorem after0_22 (c : Dev nD) (t : Fin cfg0.N) : (dats m 0 c).after 22 t = iblk m c 22 t := by dsimp only [dats]
/-- What block 23 holds after point `t`. -/
theorem after0_23 (c : Dev nD) (t : Fin cfg0.N) : (dats m 0 c).after 23 t = (outsAt0 m c t).1 := by dsimp only [dats]
/-- What block 24 holds after point `t`. -/
theorem after0_24 (c : Dev nD) (t : Fin cfg0.N) : (dats m 0 c).after 24 t = (outsAt0 m c t).2.1 := by dsimp only [dats]
/-- What block 25 holds after point `t`. -/
theorem after0_25 (c : Dev nD) (t : Fin cfg0.N) : (dats m 0 c).after 25 t = (outsAt0 m c t).2.2.1 := by dsimp only [dats]
/-- What block 26 holds after point `t`. -/
theorem after0_26 (c : Dev nD) (t : Fin cfg0.N) : (dats m 0 c).after 26 t = (outsAt0 m c t).2.2.2 := by dsimp only [dats]

/-- Input block 0 before point `t` is the array's block. -/
theorem before0_0 (c : Dev nD) (t : Fin cfg0.N) (d) : (dats m 0 c).before 0 t d = iblk m c 0 t :=
  before0_0_of m (dats m 0 c) (A_eq m c 0) (after0_0 m c) t d
/-- Input block 1 before point `t` is the array's block. -/
theorem before0_1 (c : Dev nD) (t : Fin cfg0.N) (d) : (dats m 0 c).before 1 t d = iblk m c 1 t :=
  before0_1_of m (dats m 0 c) (A_eq m c 1) (after0_1 m c) t d
/-- Input block 2 before point `t` is the array's block. -/
theorem before0_2 (c : Dev nD) (t : Fin cfg0.N) (d) : (dats m 0 c).before 2 t d = iblk m c 2 t :=
  before0_2_of m (dats m 0 c) (A_eq m c 2) (after0_2 m c) t d
/-- Input block 3 before point `t` is the array's block. -/
theorem before0_3 (c : Dev nD) (t : Fin cfg0.N) (d) : (dats m 0 c).before 3 t d = iblk m c 3 t :=
  before0_3_of m (dats m 0 c) (A_eq m c 3) (after0_3 m c) t d
/-- Input block 4 before point `t` is the array's block. -/
theorem before0_4 (c : Dev nD) (t : Fin cfg0.N) (d) : (dats m 0 c).before 4 t d = iblk m c 4 t :=
  before0_4_of m (dats m 0 c) (A_eq m c 4) (after0_4 m c) t d
/-- Input block 5 before point `t` is the array's block. -/
theorem before0_5 (c : Dev nD) (t : Fin cfg0.N) (d) : (dats m 0 c).before 5 t d = iblk m c 5 t :=
  before0_5_of m (dats m 0 c) (A_eq m c 5) (after0_5 m c) t d
/-- Input block 6 before point `t` is the array's block. -/
theorem before0_6 (c : Dev nD) (t : Fin cfg0.N) (d) : (dats m 0 c).before 6 t d = iblk m c 6 t :=
  before0_6_of m (dats m 0 c) (A_eq m c 6) (after0_6 m c) t d
/-- Input block 7 before point `t` is the array's block. -/
theorem before0_7 (c : Dev nD) (t : Fin cfg0.N) (d) : (dats m 0 c).before 7 t d = iblk m c 7 t :=
  before0_7_of m (dats m 0 c) (A_eq m c 7) (after0_7 m c) t d
/-- Input block 8 before point `t` is the array's block. -/
theorem before0_8 (c : Dev nD) (t : Fin cfg0.N) (d) : (dats m 0 c).before 8 t d = iblk m c 8 t :=
  before0_8_of m (dats m 0 c) (A_eq m c 8) (after0_8 m c) t d
/-- Input block 9 before point `t` is the array's block. -/
theorem before0_9 (c : Dev nD) (t : Fin cfg0.N) (d) : (dats m 0 c).before 9 t d = iblk m c 9 t :=
  before0_9_of m (dats m 0 c) (A_eq m c 9) (after0_9 m c) t d
/-- Input block 10 before point `t` is the array's block. -/
theorem before0_10 (c : Dev nD) (t : Fin cfg0.N) (d) : (dats m 0 c).before 10 t d = iblk m c 10 t :=
  before0_10_of m (dats m 0 c) (A_eq m c 10) (after0_10 m c) t d
/-- Input block 11 before point `t` is the array's block. -/
theorem before0_11 (c : Dev nD) (t : Fin cfg0.N) (d) : (dats m 0 c).before 11 t d = iblk m c 11 t :=
  before0_11_of m (dats m 0 c) (A_eq m c 11) (after0_11 m c) t d
/-- Input block 12 before point `t` is the array's block. -/
theorem before0_12 (c : Dev nD) (t : Fin cfg0.N) (d) : (dats m 0 c).before 12 t d = iblk m c 12 t :=
  before0_12_of m (dats m 0 c) (A_eq m c 12) (after0_12 m c) t d
/-- Input block 13 before point `t` is the array's block. -/
theorem before0_13 (c : Dev nD) (t : Fin cfg0.N) (d) : (dats m 0 c).before 13 t d = iblk m c 13 t :=
  before0_13_of m (dats m 0 c) (A_eq m c 13) (after0_13 m c) t d
/-- Input block 14 before point `t` is the array's block. -/
theorem before0_14 (c : Dev nD) (t : Fin cfg0.N) (d) : (dats m 0 c).before 14 t d = iblk m c 14 t :=
  before0_14_of m (dats m 0 c) (A_eq m c 14) (after0_14 m c) t d
/-- Input block 15 before point `t` is the array's block. -/
theorem before0_15 (c : Dev nD) (t : Fin cfg0.N) (d) : (dats m 0 c).before 15 t d = iblk m c 15 t :=
  before0_15_of m (dats m 0 c) (A_eq m c 15) (after0_15 m c) t d
/-- Input block 16 before point `t` is the array's block. -/
theorem before0_16 (c : Dev nD) (t : Fin cfg0.N) (d) : (dats m 0 c).before 16 t d = iblk m c 16 t :=
  before0_16_of m (dats m 0 c) (A_eq m c 16) (after0_16 m c) t d
/-- Input block 17 before point `t` is the array's block. -/
theorem before0_17 (c : Dev nD) (t : Fin cfg0.N) (d) : (dats m 0 c).before 17 t d = iblk m c 17 t :=
  before0_17_of m (dats m 0 c) (A_eq m c 17) (after0_17 m c) t d
/-- Input block 18 before point `t` is the array's block. -/
theorem before0_18 (c : Dev nD) (t : Fin cfg0.N) (d) : (dats m 0 c).before 18 t d = iblk m c 18 t :=
  before0_18_of m (dats m 0 c) (A_eq m c 18) (after0_18 m c) t d
/-- Input block 19 before point `t` is the array's block. -/
theorem before0_19 (c : Dev nD) (t : Fin cfg0.N) (d) : (dats m 0 c).before 19 t d = iblk m c 19 t :=
  before0_19_of m (dats m 0 c) (A_eq m c 19) (after0_19 m c) t d
/-- Input block 20 before point `t` is the array's block. -/
theorem before0_20 (c : Dev nD) (t : Fin cfg0.N) (d) : (dats m 0 c).before 20 t d = iblk m c 20 t :=
  before0_20_of m (dats m 0 c) (A_eq m c 20) (after0_20 m c) t d
/-- Input block 21 before point `t` is the array's block. -/
theorem before0_21 (c : Dev nD) (t : Fin cfg0.N) (d) : (dats m 0 c).before 21 t d = iblk m c 21 t :=
  before0_21_of m (dats m 0 c) (A_eq m c 21) (after0_21 m c) t d
/-- Input block 22 before point `t` is the array's block. -/
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is given at point `t`: its scratch, and each block. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2800000 in
/-- The body runs at every point, from what it is given to what it gives back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.castSucc = Pipeline.ΦA spec0 c from rfl, PhiA0_eq]
  unfold outsAt0
  unfold out0_A_23 out0_A_24 out0_A_25 out0_A_26; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [HS0]; · iexact HS0
  iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the launch calls at point `t` is `bodyAt0 t`. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- `sound_body` in the library's form, with the blocks as one product over the arrays. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch ends with every array as `dats` says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch ends with every array as `dats` says. -/
theorem run_main : θ_run defs (onTc (τ := τ) (main (F := F))) (s₀ m ρ) (Pipeline.FramePost cfgs (dats m) 0 (V m)) :=
  (θ_run defs _ _).mono (fun _ h => h.1) (run_main_quiescent m ρ)

/-- The launch ends with its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

/-- The launch ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (unchanged m ρ) ((θ_run defs _ _).mono (fun _ h => h.2) (run_main_quiescent m ρ))

end Cert.Pass1Ideal.Run

end
-- ==== Proof.Reals.lean ====
module

public import Idealize.ShloMosaic.PureOps.Ideal
public import Idealize.ShloMosaic.Lib.IdealHost
public import Mathlib.Analysis.SpecialFunctions.Log.Basic
public import Mathlib.Algebra.BigOperators.Fin

/-!
The operations of the exact reading on finite values, and the sums of exponentials of the auxiliary loss.

Everything the two programs compute from finite arguments is finite, so that every value is the
coercion of a real number. The lemmas of the first part push a coercion through one operation; those of the
second part are about real numbers only.
-/

@[expose] public section

noncomputable section

namespace Cert.Reals

open Idealize.ShloMosaic

/-! ### Coercions through one operation -/

/-- A finite sum of finite values is the coercion of the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a finite value. -/
theorem exp_coe (x : ℝ) : Ideal.exp (x : EReal) = (Real.exp x : EReal) := rfl

/-- The exponential of minus infinity is zero. -/
theorem exp_bot : Ideal.exp (⊥ : EReal) = 0 := rfl

/-- The logarithm of a positive finite value. -/
theorem log_coe {x : ℝ} (h : 0 < x) : Ideal.log (x : EReal) = (Real.log x : EReal) := by
  show (if x ≤ 0 then (⊥ : EReal) else _) = _
  rw [if_neg (not_le.mpr h)]

/-- The quotient of two finite values, the divisor not zero. -/
theorem div_coe {y : ℝ} (h : y ≠ 0) (x : ℝ) : Ideal.div (x : EReal) (y : EReal) = ((x / y : ℝ) : EReal) := by
  rw [Ideal.div_coe h, ← EReal.coe_mul]; congr 1; ring

/-- The root of a finite value that is not negative. -/
theorem sqrt_coe {x : ℝ} (h : 0 ≤ x) : Ideal.sqrt (x : EReal) = (Real.sqrt x : EReal) := by
  show (if x < 0 then (⊥ : EReal) else _) = _
  rw [if_neg (not_lt.mpr h)]

/-- The logistic function of a finite value. -/
theorem logistic_coe (x : ℝ) : Ideal.logistic (x : EReal) = ((1 / (1 + Real.exp (-x)) : ℝ) : EReal) := by
  have h : (1 + Real.exp (-x)) ≠ 0 := by positivity
  show Ideal.div 1 (1 + Ideal.exp (-(x : EReal))) = _
  rw [← EReal.coe_neg, exp_coe, ← EReal.coe_one, ← EReal.coe_add, div_coe h]

/-- The greater of two finite values. -/
theorem max_coe (x y : ℝ) : max (x : EReal) (y : EReal) = ((max x y : ℝ) : EReal) :=
  (EReal.coe_strictMono.monotone.map_max).symm

/-- A value that is neither infinity is the coercion of a real number. -/
theorem exists_coe {x : EReal} (h : x ≠ ⊤) (h' : x ≠ ⊥) : ∃ r : ℝ, x = (r : EReal) :=
  ⟨x.toReal, (EReal.coe_toReal h h').symm⟩

/-- The greatest of values below plus infinity, one of which is above minus infinity, is finite. -/
theorem fold_max_coe {ι : Type*} [Fintype ι] (f : ι → EReal) (h : ∀ i, f i ≠ ⊤) (i₀ : ι) (h₀ : f i₀ ≠ ⊥) :
    ∃ r : ℝ, Finset.univ.fold max (⊥ : EReal) f = (r : EReal) := by
  refine exists_coe (ne_of_lt ?_) (ne_of_gt ?_)
  · exact (Finset.fold_max_lt _).mpr ⟨bot_lt_top, fun i _ => lt_top_iff_ne_top.mpr (h i)⟩
  · exact (Finset.lt_fold_max _).mpr (Or.inr ⟨i₀, Finset.mem_univ _, bot_lt_iff_ne_bot.mpr h₀⟩)

/-! ### Sums of exponentials over the 49 steps -/

/-- The logarithm of the sum of the exponentials of the scores of one sequence. -/
def lse (u : Fin 49 → ℝ) : ℝ := Real.log (∑ i, Real.exp (u i))

/-- What one step adds to the auxiliary loss: minus the logarithm of the probability the clicked scores
give to the step, minus the logarithm of one less the probability the other scores give to it. -/
def term (uc un : Fin 49 → ℝ) (i : Fin 49) : ℝ := (lse uc - uc i) - Real.log (1 - Real.exp (un i - lse un))

/-- The sum of the exponentials is positive. -/
theorem sum_exp_pos (u : Fin 49 → ℝ) : 0 < ∑ i, Real.exp (u i) :=
  Finset.sum_pos (fun _ _ => Real.exp_pos _) ⟨0, Finset.mem_univ _⟩

/-- Taking any number off the scores and adding it back outside leaves the logarithm of the sum. -/
theorem lse_shift (u : Fin 49 → ℝ) (m : ℝ) : m + Real.log (∑ i, Real.exp (u i - m)) = lse u := by
  have h : ∑ i, Real.exp (u i - m) = (∑ i, Real.exp (u i)) * Real.exp (-m) := by
    rw [Finset.sum_mul]; exact Finset.sum_congr rfl fun i _ => by rw [← Real.exp_add]; ring_nf
  rw [h, Real.log_mul (sum_exp_pos u).ne' (Real.exp_pos _).ne', Real.log_exp]
  unfold lse; ring

/-- The exponential of a score less the logarithm of the sum is the score's share of the sum. -/
theorem exp_sub_lse (u : Fin 49 → ℝ) (i : Fin 49) : Real.exp (u i - lse u) = Real.exp (u i) / ∑ j, Real.exp (u j) := by
  rw [Real.exp_sub]; unfold lse; rw [Real.exp_log (sum_exp_pos u)]

/-- With more than one step no share is the whole. -/
theorem share_lt_one (u : Fin 49 → ℝ) (i : Fin 49) : Real.exp (u i) / ∑ j, Real.exp (u j) < 1 := by
  rw [div_lt_one (sum_exp_pos u)]
  obtain ⟨k, hk⟩ : ∃ k : Fin 49, k ≠ i := exists_ne i
  calc Real.exp (u i) < Real.exp (u i) + Real.exp (u k) := lt_add_of_pos_right _ (Real.exp_pos _)
    _ = ∑ j ∈ ({i, k} : Finset (Fin 49)), Real.exp (u j) := (Finset.sum_pair (f := fun j => Real.exp (u j)) hk.symm).symm
    _ ≤ ∑ j, Real.exp (u j) := Finset.sum_le_univ_sum_of_nonneg fun _ => (Real.exp_pos _).le

/-- Of at least two steps none has the whole probability. -/
theorem one_sub_exp_pos (u : Fin 49 → ℝ) (i : Fin 49) : 0 < 1 - Real.exp (u i - lse u) := by
  rw [exp_sub_lse]; linarith [share_lt_one u i]

/-- The softmax of scores shifted by a constant, taken less any number, is the score's share of the sum. -/
theorem softmax_shift (u y : Fin 49 → ℝ) (c m : ℝ) (h : ∀ i, y i = u i + c) (i : Fin 49) :
    Real.exp (y i - m) / ∑ j, Real.exp (y j - m) = Real.exp (u i - lse u) := by
  have e : ∀ j, Real.exp (y j - m) = Real.exp (u j) * Real.exp (c - m) := fun j => by
    rw [← Real.exp_add, h]; ring_nf
  rw [exp_sub_lse, e, Finset.sum_congr rfl fun j _ => e j, ← Finset.sum_mul,
    mul_div_mul_right _ _ (Real.exp_pos _).ne']

/-- Minus the logarithm of a score's share. -/
theorem neg_log_exp (u : Fin 49 → ℝ) (i : Fin 49) : -Real.log (Real.exp (u i - lse u)) = lse u - u i := by
  rw [Real.log_exp]; ring

/-! ### Normalisation by the moments -/

/-- The mean of the squares less the square of the mean is the mean of the squared deviations. -/
theorem var_eq {ι : Type*} [Fintype ι] (x : ι → ℝ) (N : ℝ) (hN : N ≠ 0) (hc : (Fintype.card ι : ℝ) = N) :
    (∑ i, x i * x i) / N - (∑ i, x i) / N * ((∑ i, x i) / N)
      = (∑ i, (x i - (∑ j, x j) / N) * (x i - (∑ j, x j) / N)) / N := by
  set m := (∑ j, x j) / N with hm
  have hs : ∑ j, x j = m * N := by rw [hm]; field_simp
  have : ∑ i, (x i - m) * (x i - m) = (∑ i, x i * x i) - 2 * m * (∑ i, x i) + N * (m * m) := by
    have e : ∀ i, (x i - m) * (x i - m) = x i * x i - 2 * m * x i + m * m := fun i => by ring
    rw [Finset.sum_congr rfl fun i _ => e i, Finset.sum_add_distrib, Finset.sum_sub_distrib, ← Finset.mul_sum,
      Finset.sum_const, Finset.card_univ, nsmul_eq_mul, hc]
  rw [this, hs]; field_simp; ring

/-- A mean of squares is not negative. -/
theorem var_nonneg {ι : Type*} [Fintype ι] (x : ι → ℝ) (m N : ℝ) (hN : 0 < N) :
    0 ≤ (∑ i, (x i - m) * (x i - m)) / N :=
  div_nonneg (Finset.sum_nonneg fun _ _ => mul_self_nonneg _) hN.le

/-- The normalised value is an affine function of the value. -/
theorem norm_affine (x m s g b : ℝ) : (x - m) / s * g + b = x * (g / s) + (b - m * (g / s)) := by
  ring

/-! ### The auxiliary network is affine -/

/-- The first column of the product of the three weight matrices. -/
def w0 (w1 : Fin 16 → Fin 100 → ℝ) (w2 : Fin 100 → Fin 50 → ℝ) (w3 : Fin 50 → ℝ) (c : Fin 16) : ℝ :=
  ∑ q, (∑ p, w1 c p * w2 p q) * w3 q

/-- The three layers applied to normalised inputs are a weighted sum of the inputs and a number that does not
depend on them. -/
theorem net_affine (w1 : Fin 16 → Fin 100 → ℝ) (b1 : Fin 100 → ℝ) (w2 : Fin 100 → Fin 50 → ℝ) (b2 : Fin 50 → ℝ)
    (w3 : Fin 50 → ℝ) (b3 : ℝ) (m s g b : Fin 16 → ℝ) :
    ∃ C : ℝ, ∀ x : Fin 16 → ℝ,
      (∑ q, (∑ p, (∑ c, ((x c - m c) / s c * g c + b c) * w1 c p + b1 p) * w2 p q + b2 q) * w3 q) + b3
        = (∑ c, x c * (g c * w0 w1 w2 w3 c / s c)) + C := by
  refine ⟨(∑ c, (b c - m c * (g c / s c)) * w0 w1 w2 w3 c) + (∑ q, (∑ p, b1 p * w2 p q + b2 q) * w3 q) + b3, fun x => ?_⟩
  have key : ∀ z : Fin 16 → ℝ, ∑ q, (∑ p, (∑ c, z c * w1 c p + b1 p) * w2 p q + b2 q) * w3 q
      = (∑ c, z c * w0 w1 w2 w3 c) + ∑ q, (∑ p, b1 p * w2 p q + b2 q) * w3 q := by
    intro z
    have h1 : ∀ q, ∑ p, (∑ c, z c * w1 c p + b1 p) * w2 p q = (∑ c, z c * ∑ p, w1 c p * w2 p q) + ∑ p, b1 p * w2 p q := by
      intro q
      simp only [add_mul, Finset.sum_add_distrib, Finset.sum_mul, Finset.mul_sum]
      rw [Finset.sum_comm]; simp only [mul_assoc]
    have h2 : ∀ q, (∑ p, (∑ c, z c * w1 c p + b1 p) * w2 p q + b2 q) * w3 q
        = (∑ c, z c * ((∑ p, w1 c p * w2 p q) * w3 q)) + (∑ p, b1 p * w2 p q + b2 q) * w3 q := by
      intro q; rw [h1, add_assoc, add_mul, Finset.sum_mul]; simp only [mul_assoc]
    rw [Finset.sum_congr rfl fun q _ => h2 q, Finset.sum_add_distrib, Finset.sum_comm]
    congr 1; refine Finset.sum_congr rfl fun c _ => ?_
    rw [w0, Finset.mul_sum]
  rw [key, Finset.sum_congr rfl fun c _ => by rw [norm_affine, add_mul], Finset.sum_add_distrib]
  have : ∀ c, x c * (g c / s c) * w0 w1 w2 w3 c = x c * (g c * w0 w1 w2 w3 c / s c) := fun c => by ring
  simp only [this]; ring

end Cert.Reals

end
-- ==== Proof.PayLoss.lean ====
module

public import proofs.«01_k».proof.Proof.Reals
public import proofs.«01_k».proof.Proof.Gen.Pass2Ideal.Skeleton
public import Idealize.ShloMosaic.Lib.Pointwise
public import Idealize.ShloMosaic.Lib.WordCmp

/-!
What one grid point writes, on finite inputs: the auxiliary loss of its 2048 sequences, from the two scratch
arrays of scores it filled, and their probabilities.
-/

@[expose] public section

set_option maxRecDepth 16384

noncomputable section

namespace Cert.PayLoss

open Idealize.ShloMosaic Cert.Reals Cert.Pass2Ideal Cert.Pass2Ideal.Gen

/-- The auxiliary loss of one sequence of the given length: the steps `i` with `i + 1` below the length count. -/
def seqLoss (len : BitVec 32) (uc un : Fin 49 → ℝ) : ℝ := ∑ i, if (i.val : ℤ) + 1 < len.toInt then term uc un i else 0

/-- The word of a row number, one added, read as an integer. -/
theorem succ_toInt (i : ℕ) (h : i < 56) : (IntOp.addi (BitVec.ofNat 32 i) 1#32).toInt = (i : ℤ) + 1 := by
  show (BitVec.ofNat 32 i + 1#32).toInt = _
  rw [← BitVec.ofNat_add, BitVec.toInt_eq_toNat_of_lt (by rw [BitVec.toNat_ofNat]; omega), BitVec.toNat_ofNat]; omega

/-- Picking by a signed comparison. -/
theorem select_slt {α : Type} (x y : BitVec 32) (a b : α) :
    Scalar.select (IntOp.cmpi .slt x y) a b = if x.toInt < y.toInt then a else b := by
  rw [show IntOp.cmpi .slt x y = BitVec.ofBool (decide (x.toInt < y.toInt)) from rfl]
  by_cases h : x.toInt < y.toInt <;> simp [h, Scalar.select]

/-- The greatest of the 56 rows of a column of scores, the last seven of them minus infinity, is finite. -/
theorem fold_rows (u : Fin 49 → ℝ) (f : Fin 56 → EReal)
    (hf : ∀ i : Fin 56, f i = if h : i.val < 49 then ((u ⟨i.val, h⟩ : ℝ) : EReal) else ⊥) :
    ∃ m : ℝ, Finset.univ.fold max (⊥ : EReal) f = (m : EReal) := by
  refine fold_max_coe f (fun i => ?_) 0 ?_
  · rw [hf]; split_ifs
    · exact EReal.coe_ne_top _
    · exact bot_ne_top
  · rw [hf, dif_pos (by decide)]; exact EReal.coe_ne_bot _

/-- A sum over 56 rows, the last seven of which add nothing. -/
theorem sum_rows (g : Fin 56 → EReal) (r : Fin 49 → ℝ)
    (hg : ∀ i : Fin 56, g i = if h : i.val < 49 then ((r ⟨i.val, h⟩ : ℝ) : EReal) else 0) :
    ∑ i, g i = ((∑ i, r i : ℝ) : EReal) := by
  rw [show (∑ i, g i) = ∑ i : Fin (49 + 7), g i from rfl, Fin.sum_univ_add, coe_sum]
  have h1 : ∀ i : Fin 49, g (Fin.castAdd 7 i) = (r i : EReal) := fun i => by rw [hg, dif_pos (by exact i.isLt)]; rfl
  have h2 : ∀ i : Fin 7, g (Fin.natAdd 49 i) = 0 := fun i => by
    rw [hg, dif_neg (by show ¬ (49 + i.val < 49); omega)]
  simp [h1, h2]

/-- The greatest score plus the logarithm of the sum of the exponentials of what the scores lack of it. -/
theorem lse_rows (u : Fin 49 → ℝ) (f : Fin 56 → EReal)
    (hf : ∀ i : Fin 56, f i = if h : i.val < 49 then ((u ⟨i.val, h⟩ : ℝ) : EReal) else ⊥) :
    Finset.univ.fold max (⊥ : EReal) f + Ideal.log (∑ i, Ideal.exp (f i - Finset.univ.fold max (⊥ : EReal) f))
      = (lse u : EReal) := by
  obtain ⟨m, hm⟩ := fold_rows u f hf
  rw [hm, sum_rows (fun i => Ideal.exp (f i - (m : EReal))) (fun i => Real.exp (u i - m)), log_coe, ← EReal.coe_add, lse_shift]
  · exact Finset.sum_pos (fun _ _ => Real.exp_pos _) ⟨0, Finset.mem_univ _⟩
  · intro i; rw [hf]; split_ifs
    · rw [← EReal.coe_sub, exp_coe]
    · rw [EReal.bot_sub, exp_bot]

/-- The word of minus infinity. -/
theorem ofBits_neg_inf : Ideal.ofBits .f32 0xFF800000#32 = ⊥ := by
  simp [Ideal.ofBits, Ideal.ieee]

/-- What a grid point writes to the array of losses. -/
theorem pay113_apply (s : IVec S1x2048 32) (uc un : Vec Ideal S56x2048 .f32) (c n : Fin 2048 → Fin 49 → ℝ)
    (hc : ∀ (i : Fin 56) (j : Fin 2048), uc (ix2 i j) = if h : i.val < 49 then ((c j ⟨i.val, h⟩ : ℝ) : EReal) else ⊥)
    (hn : ∀ (i : Fin 56) (j : Fin 2048), un (ix2 i j) = if h : i.val < 49 then ((n j ⟨i.val, h⟩ : ℝ) : EReal) else ⊥)
    (hs : ∀ j, (s (ix2 0 j)).toInt ≤ 50) (r : Fin 8) :
    k0_pay113 (F := Ideal) s uc un (k0_pay112 uc) (ix3 0 r 0)
      = ((∑ j, seqLoss (s (ix2 0 j)) (c j) (n j) : ℝ) : EReal) := by
  pointwise [k0_pay113, k0_pay112]
  simp only [ofBits_neg_inf]
  rw [Finset.sum_comm, coe_sum]
  refine Finset.sum_congr rfl fun j _ => ?_
  simp only [lse_rows (c j) (fun x => uc (ix2 x j)) (fun i => hc i j),
    lse_rows (n j) (fun x => un (ix2 x j)) (fun i => hn i j)]
  refine sum_rows _ _ fun i => ?_
  rw [select_slt, succ_toInt _ i.isLt]
  by_cases h : i.val < 49
  · rw [dif_pos h]
    simp only [hc, hn, dif_pos h]
    have hp := one_sub_exp_pos (n j) ⟨i.val, h⟩
    split_ifs with hl
    · rw [← EReal.coe_sub, ← EReal.coe_sub, exp_coe, ← EReal.coe_zero, ← EReal.coe_sub, Ideal.log1p, ← EReal.coe_one,
        ← EReal.coe_add, show 1 + (0 - Real.exp (n j ⟨i.val, h⟩ - lse (n j))) = 1 - Real.exp (n j ⟨i.val, h⟩ - lse (n j)) by ring,
        log_coe hp, ← EReal.coe_sub]
      rfl
    · rfl
  · rw [dif_neg h, if_neg]
    have := hs j; omega

/-- The last layers of one sequence as the kernel computes them. -/
def topRow (t sc sh : Fin 40 → ℝ) (w1 : Fin 200 → Fin 40 → ℝ) (b1 : Fin 200 → ℝ) (w2 : Fin 80 → Fin 200 → ℝ) (b2 : Fin 80 → ℝ)
    (w3 : Fin 80 → ℝ) (b3 : ℝ) : ℝ :=
  (∑ x, w3 x * max ((∑ y, w2 x y * max ((∑ f, w1 y f * (t f * sc f + sh f)) + b1 y) 0) + b2 x) 0) + b3

/-- What a grid point writes to the array of probabilities. -/
theorem pay1_apply (t : Vec Ideal S40x2048 .f32) (sc sh : Vec Ideal S40x1 .f32) (w1 : Vec Ideal S200x40 .f32) (b1 : Vec Ideal S200x1 .f32)
    (w2 : Vec Ideal S80x200 .f32) (b2 : Vec Ideal S80x1 .f32) (w3 : Vec Ideal S8x80 .f32) (b3 : Vec Ideal S1x1 .f32) (j : Fin 2048)
    (T SC SH : Fin 40 → ℝ) (W1 : Fin 200 → Fin 40 → ℝ) (B1 : Fin 200 → ℝ) (W2 : Fin 80 → Fin 200 → ℝ) (B2 : Fin 80 → ℝ)
    (W3 : Fin 80 → ℝ) (B3 : ℝ)
    (ht : ∀ f, t (ix2 f j) = (T f : EReal)) (hsc : ∀ f, sc (ix2 f 0) = (SC f : EReal)) (hsh : ∀ f, sh (ix2 f 0) = (SH f : EReal))
    (hw1 : ∀ y f, w1 (ix2 y f) = (W1 y f : EReal)) (hb1 : ∀ y, b1 (ix2 y 0) = (B1 y : EReal))
    (hw2 : ∀ x y, w2 (ix2 x y) = (W2 x y : EReal)) (hb2 : ∀ x, b2 (ix2 x 0) = (B2 x : EReal))
    (hw3 : ∀ x, w3 (ix2 0 x) = (W3 x : EReal)) (hb3 : b3 (ix2 0 0) = (B3 : EReal)) :
    k0_pay1 (F := Ideal) (k0_pay114 t sc sh w1 b1 w2 b2) w3 b3 (ix2 0 j)
      = ((1 / (1 + Real.exp (-topRow T SC SH W1 B1 W2 B2 W3 B3)) : ℝ) : EReal) := by
  pointwise [k0_pay1, k0_pay114]
  simp only [ht, hsc, hsh, hw1, hb1, hw2, hb2, hw3, hb3, ← EReal.coe_mul, ← EReal.coe_add, ← coe_sum, ← EReal.coe_zero, max_coe,
    logistic_coe]
  rfl

end Cert.PayLoss

end
-- ==== Proof.Point.lean ====
module

public import proofs.«01_k».proof.Proof.PayLoss
public import proofs.«01_k».proof.Proof.Gen.Pass2Ideal.Frame
public import Idealize.ShloMosaic.Lib.Pipeline.Value
public import Idealize.ShloMosaic.Lib.Pipeline.ValueKit

@[expose] public section

set_option maxRecDepth 16384

noncomputable section

namespace Cert.Point

open Idealize.ShloMosaic Idealize.ShloMosaic.TcCoe Idealize.SL.Sem Cert.Pass2Ideal Cert.Pass2Ideal.Gen

variable (m : (ℓ : Loc nD τ sig) → Buf (Elt Ideal) ℓ)

/-- The start of a rectangle that takes a whole two-axis array. -/
theorem start2 : (![0, 0] : Fin 2 → Nat) = fun _ => 0 := by
  funext a; fin_cases a <;> rfl

/-- The start of a rectangle that takes a whole three-axis array. -/
theorem start3 : (![0, 0, 0] : Fin 3 → Nat) = fun _ => 0 := by
  funext a; fin_cases a <;> rfl

/-- The block of predictions that a grid point stores is the top network's last payload applied to the point's
    input blocks. -/
theorem out1 (c : Dev nD) (t : Fin cfg0.N) :
    (outsAt0 m c t).1 = k0_pay1 (F := Ideal) (k0_pay114 (iblk m c 3 t) (iblk m c 9 t) (iblk m c 10 t)
      (iblk m c 11 t) (iblk m c 12 t) (iblk m c 13 t) (iblk m c 14 t)) (iblk m c 15 t) (iblk m c 16 t) := by
  unfold outsAt0 out0_A_17
  dsimp only
  rw [View.read_writes_junk_eq_canon]
  unfold kernelRun0_A
  dsimp only
  sl_unfold_words
  simp only [View.readAt_eq_ld, (hs0_3 t).read_unread, (hs0_9 t).read_unread, (hs0_10 t).read_unread,
    (hs0_11 t).read_unread, (hs0_12 t).read_unread, (hs0_13 t).read_unread, (hs0_14 t).read_unread,
    (hs0_15 t).read_unread, (hs0_16 t).read_unread]
  rw [View.canon_unit_zero (S := S8x2048) start2, View.ld_unit_zero (S := S40x2048) start2,
    View.ld_unit_zero (S := S40x1) start2, View.ld_unit_zero (S := S40x1) start2,
    View.ld_unit_zero (S := S200x40) start2, View.ld_unit_zero (S := S200x1) start2,
    View.ld_unit_zero (S := S80x200) start2, View.ld_unit_zero (S := S80x1) start2,
    View.ld_unit_zero (S := S8x80) start2, View.ld_unit_zero (S := S1x1) start2]

/-- The entry of scratch row `n` and column `l`: the row's dot product with the collapsed auxiliary weights, the
    first half of the features from block `n` of `a` and the second from block `n + 1` of `b`. The rows from 49 on
    hold -∞. -/
def rowAt (v h : Vec Ideal S8x1 .f32) (a b : Vec Ideal S400x2048 .f32) (n : Nat) (l : Fin 2048) : EReal :=
  if hn : n < 49 then
    ∑ k : Fin 8, (v (ix2 k 0) * a (ix2 ⟨8 * n + k.val, by omega⟩ l)
      + h (ix2 k 0) * b (ix2 ⟨8 * (n + 1) + k.val, by omega⟩ l))
  else ⊥

/-- A row that stands for a step is the weighted sum of its eight rows in each array. -/
theorem rowAt_of_lt (v h : Vec Ideal S8x1 .f32) (a b : Vec Ideal S400x2048 .f32) (n : Nat) (l : Fin 2048) (hn : n < 49) :
    rowAt v h a b n l = ∑ k : Fin 8, (v (ix2 k 0) * a (ix2 ⟨8 * n + k.val, by omega⟩ l)
      + h (ix2 k 0) * b (ix2 ⟨8 * (n + 1) + k.val, by omega⟩ l)) := dif_pos hn

/-- A padding row is the mask's constant. -/
theorem rowAt_of_ge (v h : Vec Ideal S8x1 .f32) (a b : Vec Ideal S400x2048 .f32) (n : Nat) (l : Fin 2048)
    (hn : 49 ≤ n) : rowAt v h a b n l = ⊥ := dif_neg (by omega)

/-- The name of the mask constant stands for -∞. -/
theorem mask_eq : Named.named (F := Ideal) (φ := .f32) Cert.Pass2Ideal.κ "mask" 0xCF800000#32 = (⊥ : EReal) :=
  IdealRules.named_const.ideal_named_scalar _ _ _ _ rfl

/-- The eight entries of a concatenation of eight rows. -/
theorem cat_rows (R0 R1 R2 R3 R4 R5 R6 R7 : Vec Ideal S1x2048 .f32) (l : Fin 2048) (P : Fin 8 → EReal)
    (h : ∀ k, (![R0, R1, R2, R3, R4, R5, R6, R7] k) (ix2 0 l) = P k) (k : Fin 8) :
    shapeCast S8x2048 (concatenate S8x2048 0 [⟨S1x2048, R0⟩, ⟨S1x2048, R1⟩, ⟨S1x2048, R2⟩, ⟨S1x2048, R3⟩, ⟨S1x2048, R4⟩,
      ⟨S1x2048, R5⟩, ⟨S1x2048, R6⟩, ⟨S1x2048, R7⟩] concatenates_S1x2048_S1x2048_S1x2048_S1x2048_S1x2048_S1x2048_S1x2048_S1x2048_S8x2048_d0)
      shapeCasts_S8x2048_S8x2048 (ix2 k l) = P k := by
  rw [← h]
  fin_cases k
  all_goals
    pointwise

/-- A tile made of eight rows, each the row that `rowAt` names. -/
theorem tile_cat (v h : Vec Ideal S8x1 .f32) (a b : Vec Ideal S400x2048 .f32) (n : Nat)
    (inb : ∀ d, (![n, 0] : Fin 2 → Nat) d + S8x2048.size d ≤ S56x2048.size d)
    (R0 R1 R2 R3 R4 R5 R6 R7 : Vec Ideal S1x2048 .f32)
    (h0 : ∀ l, R0 (ix2 0 l) = rowAt v h a b n l) (h1 : ∀ l, R1 (ix2 0 l) = rowAt v h a b (n + 1) l)
    (h2 : ∀ l, R2 (ix2 0 l) = rowAt v h a b (n + 2) l) (h3 : ∀ l, R3 (ix2 0 l) = rowAt v h a b (n + 3) l)
    (h4 : ∀ l, R4 (ix2 0 l) = rowAt v h a b (n + 4) l) (h5 : ∀ l, R5 (ix2 0 l) = rowAt v h a b (n + 5) l)
    (h6 : ∀ l, R6 (ix2 0 l) = rowAt v h a b (n + 6) l) (h7 : ∀ l, R7 (ix2 0 l) = rowAt v h a b (n + 7) l)
    (x : (Rect.unit (s := S56x2048) ![n, 0] S8x2048.size inb).shape.Idx) :
    shapeCast S8x2048 (concatenate S8x2048 0 [⟨S1x2048, R0⟩, ⟨S1x2048, R1⟩, ⟨S1x2048, R2⟩, ⟨S1x2048, R3⟩, ⟨S1x2048, R4⟩,
      ⟨S1x2048, R5⟩, ⟨S1x2048, R6⟩, ⟨S1x2048, R7⟩] concatenates_S1x2048_S1x2048_S1x2048_S1x2048_S1x2048_S1x2048_S1x2048_S1x2048_S8x2048_d0) shapeCasts_S8x2048_S8x2048 x
      = rowAt v h a b ((Rect.unit (s := S56x2048) ![n, 0] S8x2048.size inb).emb x 0).val
      ((Rect.unit (s := S56x2048) ![n, 0] S8x2048.size inb).emb x 1) := by
  obtain ⟨r, l, rfl⟩ : ∃ (r : Fin 8) (l : Fin 2048), x = ix2 r l := ⟨x 0, x 1, by
    funext d; fin_cases d <;> rfl⟩
  have e0 : ((Rect.unit (s := S56x2048) ![n, 0] S8x2048.size inb).emb (ix2 r l) 0).val = n + r.val :=
    ValueKit.rect_emb_unit_val _ _ _ _ _
  have e1 : (Rect.unit (s := S56x2048) ![n, 0] S8x2048.size inb).emb (ix2 r l) 1 = l :=
    Fin.ext ((ValueKit.rect_emb_unit_val _ _ _ _ _).trans (Nat.zero_add _))
  rw [e0, e1]
  refine cat_rows R0 R1 R2 R3 R4 R5 R6 R7 l (fun k => rowAt v h a b (n + k.val) l) ?_ r
  intro k
  fin_cases k
  exacts [h0 l, h1 l, h2 l, h3 l, h4 l, h5 l, h6 l, h7 l]

/-- One row as the kernel computes it, from loads of the point's input blocks, is the row that `rowAt` names. -/
theorem row_apply (v h v' h' : Vec Ideal S8x1 .f32) (a b a' b' : Vec Ideal S400x2048 .f32) (n : Nat) (hn : n < 49)
    (o1 o2 : Nat) (ev : v' = v) (eh : h' = h) (ea : a' = a) (eb : b' = b) (e1 : o1 = 8 * n) (e2 : o2 = 8 * (n + 1)) (i1 i2 j1 j2) (l : Fin 2048) :
    shapeCast S1x2048 (multiReduction (F := Ideal) .add [0] S2048
      (addf
        (mulf (broadcastTo S8x2048 (shapeCast S8x1 (View.ld (Val := Elt Ideal) (e' := .f32) v' (Rect.unit (s := S8x1) ![0, 0] ![8, 1] j1)) shapeCasts_S8x1_S8x1)
          broadcasts_S8x1_S8x2048) (View.ld (Val := Elt Ideal) (e' := .f32) a' (Rect.unit (s := S400x2048) ![o1, 0] ![8, 2048] i1)))
        (mulf (broadcastTo S8x2048 (shapeCast S8x1 (View.ld (Val := Elt Ideal) (e' := .f32) h' (Rect.unit (s := S8x1) ![0, 0] ![8, 1] j2)) shapeCasts_S8x1_S8x1)
          broadcasts_S8x1_S8x2048) (View.ld (Val := Elt Ideal) (e' := .f32) b' (Rect.unit (s := S400x2048) ![o2, 0] ![8, 2048] i2))))
      0x00000000#32 reduces_S8x2048_S2048 (.inl rfl) rfl) shapeCasts_S2048_S1x2048 (ix2 0 l) = rowAt v h a b n l := by
  subst e1 e2 ev eh ea eb
  rw [rowAt_of_lt _ _ _ _ _ _ hn]
  pointwise

/-- A row of the mask. -/
theorem mask_apply (v h : Vec Ideal S8x1 .f32) (a b : Vec Ideal S400x2048 .f32) (n : Nat) (hn : 49 ≤ n) (l : Fin 2048) :
    (broadcast S1x2048 (Named.named (F := Ideal) (φ := .f32) Cert.Pass2Ideal.κ "mask" 0xCF800000#32) : Vec Ideal S1x2048 .f32) (ix2 0 l)
      = rowAt v h a b n l := by
  rw [rowAt_of_ge _ _ _ _ _ _ hn]
  exact mask_eq

/-- A scratch array written in tiles, each tile the entries `rowAt` names, read whole. -/
theorem canon_rows (v h : Vec Ideal S8x1 .f32) (a b : Vec Ideal S400x2048 .f32)
    (L : List (View.Piece (Elt Ideal) S56x2048 .f32)) (ht : View.Piece.tiledL L S8x2048.size = true)
    (hL : ∀ p ∈ L, ∀ x : p.1.shape.Idx, p.2 x = rowAt v h a b (p.1.emb x 0).val (p.1.emb x 1)) (i : Fin 56)
    (j : Fin 2048) :
    View.canon L ((Rect.unit (s := S56x2048) ![0, 0] S56x2048.size inb_S56x2048_S56x2048_0_0).toLoadRect.idx (ix2 i j))
      = rowAt v h a b i.val j := by
  refine (View.canon_apply_of_pieces (S := S56x2048) (e := .f32) (Val := Elt Ideal)
    (fun y : S56x2048.Idx => rowAt v h a b (y 0).val (y 1)) L hL _ (View.cover_of_tiledL (s := S56x2048) L _ ht _)).trans ?_
  refine congrArg₂ _ ?_ (Fin.ext ?_)
  · exact (Rect.idx_unit_val (s := S56x2048) ![0, 0] S56x2048.size inb_S56x2048_S56x2048_0_0 (ix2 i j) 0).trans (Nat.zero_add _)
  · exact (Rect.idx_unit_val (s := S56x2048) ![0, 0] S56x2048.size inb_S56x2048_S56x2048_0_0 (ix2 i j) 1).trans (Nat.zero_add _)

set_option maxHeartbeats 4000000 in
/-- What a point leaves in the loss's block: the masked sum over the two scratch arrays of scores. -/
theorem out2 (c : Dev nD) (t : Fin cfg0.N) : ∃ (s : Vec Ideal S1x2048 .i32) (U N : Vec Ideal S56x2048 .f32),
    (outsAt0 m c t).2 = k0_pay113 (F := Ideal) s U N (k0_pay112 U)
    ∧ (∀ j, s (ix2 0 j) = iblk m c 4 t (ix2 0 j))
    ∧ (∀ i j, U (ix2 i j) = rowAt (iblk m c 5 t) (iblk m c 6 t) (iblk m c 0 t) (iblk m c 1 t) i.val j)
    ∧ (∀ i j, N (ix2 i j) = rowAt (iblk m c 7 t) (iblk m c 8 t) (iblk m c 0 t) (iblk m c 2 t) i.val j) := by
  unfold outsAt0 out0_A_18
  dsimp only
  rw [View.read_writes_junk_eq_canon]
  unfold kernelRun0_A
  dsimp only
  sl_unfold_run_names
  rw [View.canon_unit_zero (S := S1x8x1) start3]
  generalize hU : scM0_0.view.readCov (Val := Elt Ideal) _ _ = U
  generalize hN : scM0_1.view.readCov (Val := Elt Ideal) _ _ = N
  generalize hs : View.readAt (Elt Ideal) (ms0_4 t).view _ _ = s
  refine ⟨shapeCast S1x2048 s (by decide), U, N, ?_, ?_, ?_, ?_⟩
  · clear hU hN hs; rfl
  · intro j
    rw [← hs, View.readAt_eq_ld, (hs0_4 t).read_unread]
    pointwise
  all_goals
    intro i j
    first
      | rw [← hU, View.readCov_eq_canon']
      | rw [← hN, View.readCov_eq_canon']
    clear hU hN hs
    refine canon_rows _ _ _ _ _ ?_ ?_ i j
    · sl_kernel_rfl
    · intro p hp
      simp only [List.mem_cons, List.not_mem_nil, or_false] at hp
      rcases hp with rfl | rfl | rfl | rfl | rfl | rfl | rfl
      all_goals
        try unfold k0_pay110
        try unfold k0_pay111
        dsimp only
        simp only [View.readAt_eq_ld]
        refine tile_cat _ _ _ _ _ _ _ _ _ _ _ _ _ _ ?_ ?_ ?_ ?_ ?_ ?_ ?_ ?_
      all_goals
        first
          | (refine row_apply _ _ _ _ _ _ _ _ _ (by decide) _ _ ?_ ?_ ?_ ?_ ?_ ?_ _ _ _ _
             rotate_right 2
             · rfl
             · rfl
             all_goals exact Memref.IsWhole.read_unread _ _)
          | exact mask_apply _ _ _ _ _ (by decide)
end Cert.Point

end
-- ==== Proof.Spec.lean ====
module

public import proofs.«01_k».proof.Proof.PayLoss
public import Mathlib.Algebra.BigOperators.Fin

/-!
What both programs compute, over the real numbers.

The kernel and the reference take the same arrays. On the arrays the claim admits every entry is a real number,
and the two results are real numbers given by the formulas of this file: `Args.prob` and `Args.loss`.
-/

@[expose] public section

set_option maxRecDepth 16384

noncomputable section

namespace Cert.Spec

open Idealize.ShloMosaic Cert.Reals Cert.PayLoss

/-- The number added to a variance: the 32-bit float nearest to one hundred-thousandth. -/
def eps : ℝ := 10995116 / 2 ^ 40

/-- It is positive. -/
theorem eps_pos : 0 < eps := by unfold eps; positivity

/-- The float word of the normalisation's constant. -/
theorem ofBits_eps : Ideal.ofBits .f32 0x3727C5AC#32 = (eps : EReal) := by
  unfold eps; simp [Ideal.ofBits, Ideal.ieee, -EReal.coe_mul]; norm_num

/-- The float word of the number of steps of the batch, 8192 · 49. -/
theorem ofBits_steps : Ideal.ofBits .f32 0x48C40000#32 = ((401408 : ℝ) : EReal) := by
  simp [Ideal.ofBits, Ideal.ieee, -EReal.coe_mul]; norm_num

/-- The float word of the number of elements of the batch. -/
theorem ofBits_batch : Ideal.ofBits .f32 0x46000000#32 = ((8192 : ℝ) : EReal) := by
  simp [Ideal.ofBits, Ideal.ieee, -EReal.coe_mul]; norm_num

/-- The mean of a family over `N` entries. -/
def mean {ι : Type*} [Fintype ι] (N : ℝ) (x : ι → ℝ) : ℝ := (∑ i, x i) / N

/-- The mean of the squared deviations. -/
def var {ι : Type*} [Fintype ι] (N : ℝ) (x : ι → ℝ) : ℝ := (∑ i, (x i - mean N x) * (x i - mean N x)) / N

/-- The standard deviation the normalisation divides by. -/
def dev {ι : Type*} [Fintype ι] (N : ℝ) (x : ι → ℝ) : ℝ := Real.sqrt (var N x + eps)

/-- A variance is not negative. -/
theorem var_nonneg' {ι : Type*} [Fintype ι] {N : ℝ} (hN : 0 < N) (x : ι → ℝ) : 0 ≤ var N x := var_nonneg x _ N hN

/-- A deviation is positive. -/
theorem dev_pos {ι : Type*} [Fintype ι] {N : ℝ} (hN : 0 < N) (x : ι → ℝ) : 0 < dev N x :=
  Real.sqrt_pos.mpr (add_pos_of_nonneg_of_pos (var_nonneg' hN x) eps_pos)

/-- The contents of the argument arrays, all real but the lengths. -/
structure Args where
  rnn : Fin 400 → Fin 8192 → ℝ
  his : Fin 400 → Fin 8192 → ℝ
  noc : Fin 400 → Fin 8192 → ℝ
  top : Fin 40 → Fin 8192 → ℝ
  len : Fin 8192 → BitVec 32
  ag : Fin 16 → ℝ
  ab : Fin 16 → ℝ
  aw1 : Fin 16 → Fin 100 → ℝ
  ab1 : Fin 100 → ℝ
  aw2 : Fin 100 → Fin 50 → ℝ
  ab2 : Fin 50 → ℝ
  aw3 : Fin 50 → Fin 2 → ℝ
  ab3 : Fin 2 → ℝ
  tg : Fin 36 → ℝ
  tb : Fin 36 → ℝ
  tw1 : Fin 36 → Fin 200 → ℝ
  tb1 : Fin 200 → ℝ
  tw2 : Fin 200 → Fin 80 → ℝ
  tb2 : Fin 80 → ℝ
  tw3 : Fin 80 → Fin 2 → ℝ
  tb3 : Fin 2 → ℝ
  twl : Fin 2 → ℝ
  tbl : ℝ

/-- The row of step `i` of sequence `b` among the rows of all sequences. -/
def row (b : Fin 8192) (i : Fin 49) : Fin 401408 := ⟨49 * b.val + i.val, by omega⟩

/-- The input of one step: eight entries of the state at the step and eight entries of the behaviour at the next. -/
def inp (a h : Fin 400 → Fin 8192 → ℝ) (r : Fin 401408) (k : Fin 16) : ℝ :=
  if k.val < 8 then a ⟨8 * (r.val % 49) + k.val % 8, by omega⟩ ⟨r.val / 49, by omega⟩
  else h ⟨8 * (r.val % 49 + 1) + k.val % 8, by omega⟩ ⟨r.val / 49, by omega⟩

namespace Args

variable (R : Args)

/-- The weight of input `k` in the score of a step, `h` being the behaviour read. -/
def weight (h : Fin 400 → Fin 8192 → ℝ) (k : Fin 16) : ℝ :=
  R.ag k * w0 R.aw1 R.aw2 (fun q => R.aw3 q 0) k / dev 401408 (fun r => inp R.rnn h r k)

/-- The score of a step, up to a number that is the same for every step. -/
def score (h : Fin 400 → Fin 8192 → ℝ) (b : Fin 8192) (i : Fin 49) : ℝ :=
  ∑ k, inp R.rnn h (row b i) k * R.weight h k

/-- The auxiliary loss. -/
def loss : ℝ := (∑ b, seqLoss (R.len b) (R.score R.his b) (R.score R.noc b)) / 401408

/-- The normalised top features. -/
def z (b : Fin 8192) (f : Fin 36) : ℝ :=
  (R.top ⟨f.val, by omega⟩ b - mean 8192 (R.top ⟨f.val, by omega⟩)) / dev 8192 (R.top ⟨f.val, by omega⟩) * R.tg f + R.tb f

/-- The last value before the logistic function. -/
def logit (b : Fin 8192) : ℝ :=
  (∑ o, ((∑ x, max ((∑ y, max ((∑ f, R.z b f * R.tw1 f y) + R.tb1 y) 0 * R.tw2 y x) + R.tb2 x) 0 * R.tw3 x o) + R.tb3 o) * R.twl o)
    + R.tbl

/-- The probability. -/
def prob (b : Fin 8192) : ℝ := 1 / (1 + Real.exp (-R.logit b))

end Args

/-! ### Sums over tiles -/

/-- A sum over all rows, tile of sequences by tile. -/
theorem sum_rows (F : Fin 8192 → Fin 49 → ℝ) :
    ∑ r : Fin 401408, F ⟨r.val / 49, by omega⟩ ⟨r.val % 49, by omega⟩ = ∑ b, ∑ i, F b i := by
  rw [← Fintype.sum_prod_type']
  refine (Fintype.sum_equiv (finProdFinEquiv : Fin 8192 × Fin 49 ≃ Fin (8192 * 49)) (fun p => F p.1 p.2)
    (fun r : Fin 401408 => F ⟨r.val / 49, by omega⟩ ⟨r.val % 49, by omega⟩) fun p => ?_).symm
  have h : (finProdFinEquiv p : Fin (8192 * 49)).val = p.2.val + 49 * p.1.val := rfl
  congr 1 <;> refine Fin.ext ?_
  · show p.1.val = (finProdFinEquiv p : Fin (8192 * 49)).val / 49; omega
  · show p.2.val = (finProdFinEquiv p : Fin (8192 * 49)).val % 49; omega

/-- A sum over all sequences, tile by tile. -/
theorem sum_tiles (F : Fin 8192 → ℝ) : ∑ t : Fin 4, ∑ l : Fin 2048, F ⟨2048 * t.val + l.val, by omega⟩ = ∑ b, F b := by
  rw [← Fintype.sum_prod_type']
  refine (Fintype.sum_equiv (finProdFinEquiv : Fin 4 × Fin 2048 ≃ Fin (4 * 2048)) (fun p => F ⟨2048 * p.1.val + p.2.val, by omega⟩)
    (fun r : Fin 8192 => F r) fun p => ?_)
  have h : (finProdFinEquiv p : Fin (4 * 2048)).val = p.2.val + 2048 * p.1.val := rfl
  congr 1; refine Fin.ext ?_
  show 2048 * p.1.val + p.2.val = (finProdFinEquiv p : Fin (4 * 2048)).val; omega

/-- A sum over the inputs of the first eight columns, from its parts over the tiles. -/
theorem sum_lo (φ : ℝ → ℝ) (a h : Fin 400 → Fin 8192 → ℝ) (k : Fin 16) (hk : k.val < 8) :
    ∑ t : Fin 4, ∑ i : Fin 49, ∑ l : Fin 2048, φ (a ⟨8 * i.val + k.val, by omega⟩ ⟨2048 * t.val + l.val, by omega⟩)
      = ∑ r, φ (inp a h r k) := by
  have e : ∀ r : Fin 401408, φ (inp a h r k)
      = (fun (b : Fin 8192) (i : Fin 49) => φ (a ⟨8 * i.val + k.val, by omega⟩ b)) ⟨r.val / 49, by omega⟩ ⟨r.val % 49, by omega⟩ := by
    intro r; unfold inp; rw [if_pos hk]; simp only [Nat.mod_eq_of_lt hk]
  rw [Finset.sum_congr rfl fun r _ => e r]
  refine Eq.trans ?_ (sum_rows fun b i => φ (a ⟨8 * i.val + k.val, by omega⟩ b)).symm
  rw [← sum_tiles]
  exact Finset.sum_congr rfl fun t _ => Finset.sum_comm

/-- A sum over the inputs of the last eight columns, from its parts over the tiles. -/
theorem sum_hi (φ : ℝ → ℝ) (a h : Fin 400 → Fin 8192 → ℝ) (k : Fin 16) (j : Fin 8) (hk : k.val = 8 + j.val) :
    ∑ t : Fin 4, ∑ i : Fin 49, ∑ l : Fin 2048, φ (h ⟨8 * (i.val + 1) + j.val, by omega⟩ ⟨2048 * t.val + l.val, by omega⟩)
      = ∑ r, φ (inp a h r k) := by
  have e : ∀ r : Fin 401408, φ (inp a h r k)
      = (fun (b : Fin 8192) (i : Fin 49) => φ (h ⟨8 * (i.val + 1) + j.val, by omega⟩ b)) ⟨r.val / 49, by omega⟩ ⟨r.val % 49, by omega⟩ := by
    intro r; unfold inp; rw [if_neg (by omega)]; simp only [show k.val % 8 = j.val by omega]
  rw [Finset.sum_congr rfl fun r _ => e r]
  refine Eq.trans ?_ (sum_rows fun b i => φ (h ⟨8 * (i.val + 1) + j.val, by omega⟩ b)).symm
  rw [← sum_tiles]
  exact Finset.sum_congr rfl fun t _ => Finset.sum_comm

/-- The score as a sum of eight pairs, as the kernel takes it. -/
theorem score_pairs (R : Args) (h : Fin 400 → Fin 8192 → ℝ) (b : Fin 8192) (i : Fin 49) :
    ∑ k : Fin 8, (R.weight h ⟨k.val, by omega⟩ * R.rnn ⟨8 * i.val + k.val, by omega⟩ b
        + R.weight h ⟨8 + k.val, by omega⟩ * h ⟨8 * (i.val + 1) + k.val, by omega⟩ b) = R.score h b i := by
  unfold Args.score
  rw [show (∑ k : Fin 16, inp R.rnn h (row b i) k * R.weight h k)
      = ∑ k : Fin (8 + 8), inp R.rnn h (row b i) k * R.weight h k from rfl, Fin.sum_univ_add, ← Finset.sum_add_distrib]
  refine Finset.sum_congr rfl fun k _ => ?_
  have h1 : (row b i).val % 49 = i.val := by show (49 * b.val + i.val) % 49 = i.val; omega
  have h2 : (row b i).val / 49 = b.val := by show (49 * b.val + i.val) / 49 = b.val; omega
  have e1 : inp R.rnn h (row b i) (Fin.castAdd 8 k) = R.rnn ⟨8 * i.val + k.val, by omega⟩ b := by
    unfold inp; rw [if_pos (by show k.val < 8; omega)]
    congr 1 <;> refine Fin.ext ?_
    · show 8 * ((row b i).val % 49) + k.val % 8 = _; rw [h1]; show _ = 8 * i.val + k.val; omega
    · exact h2
  have e2 : inp R.rnn h (row b i) (Fin.natAdd 8 k) = h ⟨8 * (i.val + 1) + k.val, by omega⟩ b := by
    unfold inp; rw [if_neg (by show ¬ 8 + k.val < 8; omega)]
    congr 1 <;> refine Fin.ext ?_
    · show 8 * ((row b i).val % 49 + 1) + (8 + k.val) % 8 = _; rw [h1]; show _ = 8 * (i.val + 1) + k.val; omega
    · exact h2
  rw [e1, e2, mul_comm, mul_comm (R.weight h _) (h _ _)]; rfl

/-- The variance from the sums of the entries and of their squares. -/
theorem dev_eq {ι : Type*} [Fintype ι] (N : ℝ) (hN : N ≠ 0) (hc : (Fintype.card ι : ℝ) = N) (x : ι → ℝ) :
    (∑ i, x i * x i) / N - (∑ i, x i) / N * ((∑ i, x i) / N) = var N x := var_eq x N hN hc

/-! ### The top layers as the kernel takes them -/

/-- The scale of a normalised top feature, the four columns of zeros included. -/
def Args.scale (R : Args) (f : Fin 40) : ℝ := (if h : f.val < 36 then R.tg ⟨f.val, h⟩ else 0) / dev 8192 (R.top f)

/-- The kernel's last layers give the reference's value. -/
theorem topRow_eq (R : Args) (b : Fin 8192) :
    topRow (fun f => R.top f b) R.scale
      (fun f => (if h : f.val < 36 then R.tb ⟨f.val, h⟩ else 0) - mean 8192 (R.top f) * R.scale f)
      (fun y f => if h : f.val < 36 then R.tw1 ⟨f.val, h⟩ y else 0) R.tb1 (fun x y => R.tw2 y x) R.tb2
      (fun x => ∑ o, R.tw3 x o * R.twl o) ((∑ o, R.tb3 o * R.twl o) + R.tbl) = R.logit b := by
  unfold topRow Args.logit
  have hz : ∀ y, (∑ f : Fin 40, (if h : f.val < 36 then R.tw1 ⟨f.val, h⟩ y else 0)
      * (R.top f b * R.scale f + ((if h : f.val < 36 then R.tb ⟨f.val, h⟩ else 0) - mean 8192 (R.top f) * R.scale f)))
      = ∑ f, R.z b f * R.tw1 f y := by
    intro y
    rw [show ∀ F : Fin 40 → ℝ, ∑ f, F f = ∑ f : Fin (36 + 4), F f from fun _ => rfl, Fin.sum_univ_add]
    rw [Finset.sum_eq_zero (s := (Finset.univ : Finset (Fin 4))) (fun f _ => by
      rw [dif_neg (by show ¬ 36 + f.val < 36; omega), zero_mul]), add_zero]
    refine Finset.sum_congr rfl fun f _ => ?_
    have hf : (Fin.castAdd 4 f : Fin 40).val < 36 := f.isLt
    unfold Args.scale Args.z
    rw [dif_pos hf, dif_pos hf, dif_pos hf, show (⟨(Fin.castAdd 4 f : Fin 40).val, hf⟩ : Fin 36) = f from rfl,
      show (⟨f.val, by omega⟩ : Fin 40) = Fin.castAdd 4 f from rfl]
    ring
  simp only [hz]
  have hc : ∀ y x, R.tw2 y x * max ((∑ f, R.z b f * R.tw1 f y) + R.tb1 y) 0 = max ((∑ f, R.z b f * R.tw1 f y) + R.tb1 y) 0 * R.tw2 y x :=
    fun _ _ => mul_comm _ _
  simp only [hc]
  generalize (fun x => max ((∑ y, max ((∑ f, R.z b f * R.tw1 f y) + R.tb1 y) 0 * R.tw2 y x) + R.tb2 x) 0) = d2
  have hd : ∀ d : Fin 80 → ℝ, (∑ x, (∑ o, R.tw3 x o * R.twl o) * d x) + ((∑ o, R.tb3 o * R.twl o) + R.tbl)
      = (∑ o, ((∑ x, d x * R.tw3 x o) + R.tb3 o) * R.twl o) + R.tbl := by
    intro d
    simp only [Fin.sum_univ_two, add_mul, Finset.sum_mul, Finset.sum_add_distrib]
    have e : ∀ o : Fin 2, ∑ x, R.tw3 x o * R.twl o * d x = ∑ x, d x * R.tw3 x o * R.twl o :=
      fun o => Finset.sum_congr rfl fun x _ => by ring
    rw [e, e]; ring
  exact hd _

/-! ### Arrays that hold such contents -/

open Cert.Pass2Ideal in
/-- The argument arrays hold the real contents `R`, no length exceeds the number of steps, and the two arrays of
moments hold the sums over the tiles of sequences. -/
structure Reads (x0 x1 x2 : Vec Ideal S400x8192 .f32) (x3 : Vec Ideal S40x8192 .f32) (x4 : Vec Ideal S4x48x1 .f32)
    (x5 : Vec Ideal S4x80x1 .f32) (x6 : Vec Ideal S8192 .i32) (x7 x8 : Vec Ideal S16 .f32) (x9 : Vec Ideal S16x100 .f32)
    (x10 : Vec Ideal S100 .f32) (x11 : Vec Ideal S100x50 .f32) (x12 : Vec Ideal S50 .f32) (x13 : Vec Ideal S50x2 .f32)
    (x14 : Vec Ideal S2 .f32) (x15 x16 : Vec Ideal S36 .f32) (x17 : Vec Ideal S36x200 .f32) (x18 : Vec Ideal S200 .f32)
    (x19 : Vec Ideal S200x80 .f32) (x20 : Vec Ideal S80 .f32) (x21 : Vec Ideal S80x2 .f32) (x22 : Vec Ideal S2 .f32)
    (x23 : Vec Ideal S2x1 .f32) (x24 : Vec Ideal S1 .f32) (R : Args) : Prop where
  rnn : ∀ i b, x0 (ix2 i b) = (R.rnn i b : EReal)
  his : ∀ i b, x1 (ix2 i b) = (R.his i b : EReal)
  noc : ∀ i b, x2 (ix2 i b) = (R.noc i b : EReal)
  top : ∀ i b, x3 (ix2 i b) = (R.top i b : EReal)
  len : ∀ b, x6 (ix1 b) = R.len b
  len_le : ∀ b, (R.len b).toInt ≤ 50
  rnn1 : ∀ (t : Fin 4) (k : Fin 8), x4 (ix3 t ⟨k.val, by omega⟩ 0)
    = ((∑ i : Fin 49, ∑ l : Fin 2048, R.rnn ⟨8 * i.val + k.val, by omega⟩ ⟨2048 * t.val + l.val, by omega⟩ : ℝ) : EReal)
  rnn2 : ∀ (t : Fin 4) (k : Fin 8), x4 (ix3 t ⟨8 + k.val, by omega⟩ 0)
    = ((∑ i : Fin 49, ∑ l : Fin 2048, R.rnn ⟨8 * i.val + k.val, by omega⟩ ⟨2048 * t.val + l.val, by omega⟩
        * R.rnn ⟨8 * i.val + k.val, by omega⟩ ⟨2048 * t.val + l.val, by omega⟩ : ℝ) : EReal)
  his1 : ∀ (t : Fin 4) (k : Fin 8), x4 (ix3 t ⟨16 + k.val, by omega⟩ 0)
    = ((∑ i : Fin 49, ∑ l : Fin 2048, R.his ⟨8 * (i.val + 1) + k.val, by omega⟩ ⟨2048 * t.val + l.val, by omega⟩ : ℝ) : EReal)
  his2 : ∀ (t : Fin 4) (k : Fin 8), x4 (ix3 t ⟨24 + k.val, by omega⟩ 0)
    = ((∑ i : Fin 49, ∑ l : Fin 2048, R.his ⟨8 * (i.val + 1) + k.val, by omega⟩ ⟨2048 * t.val + l.val, by omega⟩
        * R.his ⟨8 * (i.val + 1) + k.val, by omega⟩ ⟨2048 * t.val + l.val, by omega⟩ : ℝ) : EReal)
  noc1 : ∀ (t : Fin 4) (k : Fin 8), x4 (ix3 t ⟨32 + k.val, by omega⟩ 0)
    = ((∑ i : Fin 49, ∑ l : Fin 2048, R.noc ⟨8 * (i.val + 1) + k.val, by omega⟩ ⟨2048 * t.val + l.val, by omega⟩ : ℝ) : EReal)
  noc2 : ∀ (t : Fin 4) (k : Fin 8), x4 (ix3 t ⟨40 + k.val, by omega⟩ 0)
    = ((∑ i : Fin 49, ∑ l : Fin 2048, R.noc ⟨8 * (i.val + 1) + k.val, by omega⟩ ⟨2048 * t.val + l.val, by omega⟩
        * R.noc ⟨8 * (i.val + 1) + k.val, by omega⟩ ⟨2048 * t.val + l.val, by omega⟩ : ℝ) : EReal)
  top1 : ∀ (t : Fin 4) (f : Fin 40), x5 (ix3 t ⟨f.val, by omega⟩ 0)
    = ((∑ l : Fin 2048, R.top f ⟨2048 * t.val + l.val, by omega⟩ : ℝ) : EReal)
  top2 : ∀ (t : Fin 4) (f : Fin 40), x5 (ix3 t ⟨40 + f.val, by omega⟩ 0)
    = ((∑ l : Fin 2048, R.top f ⟨2048 * t.val + l.val, by omega⟩ * R.top f ⟨2048 * t.val + l.val, by omega⟩ : ℝ) : EReal)
  ag : ∀ k, x7 (ix1 k) = (R.ag k : EReal)
  ab : ∀ k, x8 (ix1 k) = (R.ab k : EReal)
  aw1 : ∀ k p, x9 (ix2 k p) = (R.aw1 k p : EReal)
  ab1 : ∀ p, x10 (ix1 p) = (R.ab1 p : EReal)
  aw2 : ∀ p q, x11 (ix2 p q) = (R.aw2 p q : EReal)
  ab2 : ∀ q, x12 (ix1 q) = (R.ab2 q : EReal)
  aw3 : ∀ q o, x13 (ix2 q o) = (R.aw3 q o : EReal)
  ab3 : ∀ o, x14 (ix1 o) = (R.ab3 o : EReal)
  tg : ∀ f, x15 (ix1 f) = (R.tg f : EReal)
  tb : ∀ f, x16 (ix1 f) = (R.tb f : EReal)
  tw1 : ∀ f y, x17 (ix2 f y) = (R.tw1 f y : EReal)
  tb1 : ∀ y, x18 (ix1 y) = (R.tb1 y : EReal)
  tw2 : ∀ y x, x19 (ix2 y x) = (R.tw2 y x : EReal)
  tb2 : ∀ x, x20 (ix1 x) = (R.tb2 x : EReal)
  tw3 : ∀ x o, x21 (ix2 x o) = (R.tw3 x o : EReal)
  tb3 : ∀ o, x22 (ix1 o) = (R.tb3 o : EReal)
  twl : ∀ o, x23 (ix2 o 0) = (R.twl o : EReal)
  tbl : x24 (ix1 0) = (R.tbl : EReal)

end Cert.Spec

end
-- ==== Proof.Arrays.lean ====
module

public import proofs.«01_k».proof.Proof.Point
public import proofs.«01_k».proof.Proof.Spec
public import Idealize.ShloMosaic.Lib.Claim
public import Idealize.ShloMosaic.Lib.Pointwise
public import Idealize.ShloMosaic.Lib.StableHlo.RunRead

@[expose] public section

set_option maxRecDepth 16384

noncomputable section

namespace Cert.Kernel

open Idealize.ShloMosaic Idealize.ShloMosaic.TcCoe Cert.Reals Cert.Spec Idealize.SL.Sem Cert.Pass2Ideal Cert.Pass2Ideal.Gen

variable (m : (ℓ : Loc nD τ sig) → Buf (Elt Ideal) ℓ)

/-- The grid has four points. -/
theorem N4 : cfg0.N = 4 := N_0

/-- The grid point whose tile holds column `b`. -/
def pt (b : Fin 8192) : Fin cfg0.N := ⟨b.val / 2048, by rw [N4]; omega⟩

/-- A column's place in its tile. -/
def lane (b : Fin 8192) : Fin 2048 := ⟨b.val % 2048, Nat.mod_lt _ (by norm_num)⟩

/-- The column at place `l` of the tile of point `t`. -/
def col (t : Fin cfg0.N) (l : Fin 2048) : Fin 8192 :=
  ⟨2048 * t.val + l.val, by have h : t.val < 4 := lt_of_lt_of_eq t.isLt N4; omega⟩

/-- An element is its point's lane. -/
theorem col_lane (b : Fin 8192) : col (pt b) (lane b) = b :=
  Fin.ext (by show 2048 * (b.val / 2048) + b.val % 2048 = b.val; omega)

/-- The probability array after the run: column `b` of its first row is what the point of `b` wrote. -/
theorem arr17 (c : Dev nD) (b : Fin 8192) : ((dats m 0 c).arrAt 17 cfg0.N : Vec Ideal S8x8192 .f32) (ix2 0 b)
    = (outsAt0 m c (pt b)).1 (ix2 0 (lane b)) := by
  have h : (dats m 0 c).arrAt 17 cfg0.N = (fun i : S8x8192.Idx => (outsAt0 m c (pt (i 1))).1 (ix2 (i 0) (lane (i 1)))) := by
    refine (dats m 0 c).arrAt_eq_of_covers 17 _ (by decide +kernel) fun t hf y => ?_
    blk_simp
    rw [after0_17]
    have hx : ∀ t : Fin cfg0.N, win0_17.index t 0 = 0 ∧ win0_17.index t 1 = t.val := by decide +kernel
    have h0 : (((win0_17.blk t).view.emb y) 0 : ℕ) = (y 0 : ℕ) := by blk_simp [(hx t).1]
    have h1 : (((win0_17.blk t).view.emb y) 1 : ℕ) = t.val * 2048 + (y 1 : ℕ) := by blk_simp [(hx t).2]
    have hy : (y 1 : ℕ) < 2048 := (y 1).isLt
    have ht : pt ((win0_17.blk t).view.emb y 1) = t := Fin.ext (by show (((win0_17.blk t).view.emb y) 1 : ℕ) / 2048 = t.val; rw [h1]; omega)
    rw [ht]
    refine congrArg (outsAt0 m c t).1 (funext fun a => Fin.ext ?_)
    match a with
    | ⟨0, _⟩ => exact h0.symm
    | ⟨1, _⟩ => show (y 1 : ℕ) = (((win0_17.blk t).view.emb y) 1 : ℕ) % 2048; rw [h1]; omega
  exact congrFun h (ix2 0 b)

/-- The array of partial losses after the run: entry `t` is what point `t` wrote. -/
theorem arr18 (c : Dev nD) (t : Fin cfg0.N) : ((dats m 0 c).arrAt 18 cfg0.N : Vec Ideal S4x8x1 .f32) (ix3 (t.cast N4) 0 0)
    = (outsAt0 m c t).2 (ix3 0 0 0) := by
  have h : (dats m 0 c).arrAt 18 cfg0.N = (fun i : S4x8x1.Idx => (outsAt0 m c ((i 0).cast N4.symm)).2 (ix3 0 (i 1) (i 2))) := by
    refine (dats m 0 c).arrAt_eq_of_covers 18 _ (by decide +kernel) fun t hf y => ?_
    blk_simp
    rw [after0_18]
    have hx : ∀ t : Fin cfg0.N, win0_18.index t 0 = t.val ∧ win0_18.index t 1 = 0 ∧ win0_18.index t 2 = 0 := by decide +kernel
    have hy : (y 0 : ℕ) < 1 := (y 0).isLt
    have h0 : (((win0_18.blk t).view.emb y) 0 : ℕ) = t.val + (y 0 : ℕ) := by blk_simp [(hx t).1]
    have h1 : (((win0_18.blk t).view.emb y) 1 : ℕ) = (y 1 : ℕ) := by blk_simp [(hx t).2.1]
    have h2 : (((win0_18.blk t).view.emb y) 2 : ℕ) = (y 2 : ℕ) := by blk_simp [(hx t).2.2]
    have ht : ((win0_18.blk t).view.emb y 0).cast N4.symm = t := Fin.ext (by show (((win0_18.blk t).view.emb y) 0 : ℕ) = t.val; rw [h0]; omega)
    rw [ht]
    refine congrArg (outsAt0 m c t).2 (funext fun a => Fin.ext ?_)
    match a with
    | ⟨0, _⟩ => show (y 0 : ℕ) = 0; omega
    | ⟨1, _⟩ => exact h1.symm
    | ⟨2, _⟩ => exact h2.symm
  exact congrFun h (ix3 (t.cast N4) 0 0)

/-! ### The tiles of the argument arrays -/

/-- A point's block of the states. -/
theorem blk0 (c : Dev nD) (t : Fin cfg0.N) (i : Fin 400) (l : Fin 2048) : (iblk m c 0 t : Vec Ideal S400x2048 .f32) (ix2 i l)
   = (m (c.tc.loc main_arg0) : Vec Ideal S400x8192 .f32) (ix2 i (col t l)) := by
  have hx : ∀ t : Fin cfg0.N, win0_0.index t 0 = 0 ∧ win0_0.index t 1 = t.val := by decide +kernel
  blk_ext [iblk, V, (hx t).1, (hx t).2, col]

/-- A point's block of the clicked behaviours. -/
theorem blk1 (c : Dev nD) (t : Fin cfg0.N) (i : Fin 400) (l : Fin 2048) : (iblk m c 1 t : Vec Ideal S400x2048 .f32) (ix2 i l)
   = (m (c.tc.loc main_arg1) : Vec Ideal S400x8192 .f32) (ix2 i (col t l)) := by
  have hx : ∀ t : Fin cfg0.N, win0_1.index t 0 = 0 ∧ win0_1.index t 1 = t.val := by decide +kernel
  blk_ext [iblk, V, (hx t).1, (hx t).2, col]

/-- A point's block of the behaviours not clicked. -/
theorem blk2 (c : Dev nD) (t : Fin cfg0.N) (i : Fin 400) (l : Fin 2048) : (iblk m c 2 t : Vec Ideal S400x2048 .f32) (ix2 i l)
   = (m (c.tc.loc main_arg2) : Vec Ideal S400x8192 .f32) (ix2 i (col t l)) := by
  have hx : ∀ t : Fin cfg0.N, win0_2.index t 0 = 0 ∧ win0_2.index t 1 = t.val := by decide +kernel
  blk_ext [iblk, V, (hx t).1, (hx t).2, col]

/-- A point's block of the top features. -/
theorem blk3 (c : Dev nD) (t : Fin cfg0.N) (i : Fin 40) (l : Fin 2048) : (iblk m c 3 t : Vec Ideal S40x2048 .f32) (ix2 i l)
   = (m (c.tc.loc main_arg3) : Vec Ideal S40x8192 .f32) (ix2 i (col t l)) := by
  have hx : ∀ t : Fin cfg0.N, win0_3.index t 0 = 0 ∧ win0_3.index t 1 = t.val := by decide +kernel
  blk_ext [iblk, V, (hx t).1, (hx t).2, col]

/-- Every row of the broadcast lengths is the lengths. -/
theorem entry1 (c : Dev nD) (i : Fin 8) (b : Fin 8192) : (V m c main_v1 : Vec Ideal S8x8192 .i32) (ix2 i b)
    = (m (c.tc.loc main_arg6) : Vec Ideal S8192 .i32) (ix1 b) := by
  unfold_abbrev_sides
  after_reads_simp
  pointwise

/-- A point's block of the lengths. -/
theorem blk4 (c : Dev nD) (t : Fin cfg0.N) (i : Fin 8) (l : Fin 2048) : (iblk m c 4 t : Vec Ideal S8x2048 .i32) (ix2 i l)
   = (m (c.tc.loc main_arg6) : Vec Ideal S8192 .i32) (ix1 (col t l)) := by
  have hx : ∀ t : Fin cfg0.N, win0_4.index t 0 = 0 ∧ win0_4.index t 1 = t.val := by decide +kernel
  rw [← entry1 m c i (col t l)]
  blk_simp [iblk]
  refine congrArg (V m c main_v1) (funext fun a => Fin.ext ?_)
  match a with
  | ⟨0, _⟩ => blk_simp [(hx t).1]
  | ⟨1, _⟩ => blk_simp [(hx t).2, col]; show t.val * 2048 + l.val = 2048 * t.val + l.val; omega

end Cert.Kernel

end
-- ==== Proof.Operands.lean ====
module

public import proofs.«01_k».proof.Proof.Arrays
public import proofs.«01_k».proof.Proof.Spec
public import Idealize.ShloMosaic.Lib.Claim
public import Idealize.ShloMosaic.Lib.Pointwise
public import Idealize.ShloMosaic.Lib.StableHlo.RunRead

@[expose] public section

set_option maxRecDepth 16384

noncomputable section

namespace Cert.Kernel

open Idealize.ShloMosaic Idealize.ShloMosaic.TcCoe Cert.Reals Cert.Spec Idealize.SL.Sem Cert.Pass2Ideal Cert.Pass2Ideal.Gen

variable (m : (ℓ : Loc nD τ sig) → Buf (Elt Ideal) ℓ)

variable {m} {R : Args}

/-- The kernel's argument arrays hold the contents `R`. -/
abbrev Holds (m : (ℓ : Loc nD τ sig) → Buf (Elt Ideal) ℓ) (c : Dev nD) (R : Args) : Prop :=
  Reads (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) (m (c.tc.loc main_arg13)) (m (c.tc.loc main_arg14))
    (m (c.tc.loc main_arg15)) (m (c.tc.loc main_arg16)) (m (c.tc.loc main_arg17)) (m (c.tc.loc main_arg18)) (m (c.tc.loc main_arg19))
    (m (c.tc.loc main_arg20)) (m (c.tc.loc main_arg21)) (m (c.tc.loc main_arg22)) (m (c.tc.loc main_arg23)) (m (c.tc.loc main_arg24)) R

/-- A variance and a root of it, as the host computes them from the sums of the tiles. -/
theorem dev_read {ι : Type*} [Fintype ι] {N : ℝ} (hN : 0 < N) (hc : (Fintype.card ι : ℝ) = N) (x : ι → ℝ)
    (s1 s2 : Fin 4 → EReal) (S1 S2 : Fin 4 → ℝ) (h1 : ∀ t, s1 t = (S1 t : EReal)) (h2 : ∀ t, s2 t = (S2 t : EReal))
    (e1 : ∑ t, S1 t = ∑ i, x i) (e2 : ∑ t, S2 t = ∑ i, x i * x i) :
    Ideal.sqrt (Ideal.div (∑ t, s2 t) (N : EReal) - Ideal.div (∑ t, s1 t) (N : EReal) * Ideal.div (∑ t, s1 t) (N : EReal) + (eps : EReal))
      = (dev N x : EReal) := by
  simp only [h1, h2, ← coe_sum, e1, e2, div_coe hN.ne', ← EReal.coe_mul, ← EReal.coe_sub, ← EReal.coe_add]
  rw [dev_eq N hN.ne' hc x, sqrt_coe (add_nonneg (var_nonneg' hN x) eps_pos.le)]
  rfl

/-- The weight of one input as the host computes it. -/
theorem weight_read (R : Args) (h : Fin 400 → Fin 8192 → ℝ) (k : Fin 16) (s1 s2 : Fin 4 → EReal) (S1 S2 : Fin 4 → ℝ)
    (h1 : ∀ t, s1 t = (S1 t : EReal)) (h2 : ∀ t, s2 t = (S2 t : EReal)) (e1 : ∑ t, S1 t = ∑ r, inp R.rnn h r k)
    (e2 : ∑ t, S2 t = ∑ r, inp R.rnn h r k * inp R.rnn h r k) (g : EReal) (hg : g = (R.ag k : EReal))
    (w1 : Fin 100 → EReal) (hw1 : ∀ p, w1 p = (R.aw1 k p : EReal)) (w2 : Fin 100 → Fin 50 → EReal) (hw2 : ∀ p q, w2 p q = (R.aw2 p q : EReal))
    (w3 : Fin 50 → EReal) (hw3 : ∀ q, w3 q = (R.aw3 q 0 : EReal)) :
    Ideal.div (g * ∑ q, (∑ p, w1 p * w2 p q) * w3 q)
      (Ideal.sqrt (Ideal.div (∑ t, s2 t) (Ideal.ofBits .f32 0x48C40000#32)
        - Ideal.div (∑ t, s1 t) (Ideal.ofBits .f32 0x48C40000#32) * Ideal.div (∑ t, s1 t) (Ideal.ofBits .f32 0x48C40000#32)
        + Ideal.ofBits .f32 0x3727C5AC#32)) = (R.weight h k : EReal) := by
  rw [ofBits_steps, ofBits_eps, dev_read (by norm_num) (by norm_num) (fun r => inp R.rnn h r k) s1 s2 S1 S2 h1 h2 e1 e2]
  simp only [hg, hw1, hw2, hw3, ← EReal.coe_mul, ← coe_sum]
  rw [div_coe (dev_pos (by norm_num) _).ne']
  rfl

/-- Operand 5 holds the weights of the states beside the clicked behaviours. -/
theorem op5 {c : Dev nD} (hR : Holds m c R) (t : Fin cfg0.N) (k : Fin 8) :
    (iblk m c 5 t : Vec Ideal S8x1 .f32) (ix2 k 0) = (R.weight R.his ⟨k.val, by omega⟩ : EReal) := by
  have hx : ∀ t : Fin cfg0.N, win0_5.index t 0 = 0 ∧ win0_5.index t 1 = 0 := by decide +kernel
  refine Eq.trans (show _ = (V m c main_v86 : Vec Ideal S8x1 .f32) (ix2 k 0) from by blk_ext [iblk, (hx t).1, (hx t).2]) ?_
  unfold_abbrev_sides
  after_reads_simp
  pointwise
  after_reads_simp
  pointwise
  exact weight_read R R.his ⟨k.val, by omega⟩ _ _ _ _ (fun t => hR.rnn1 t k) (fun t => hR.rnn2 t k)
    (sum_lo (fun x => x) R.rnn R.his ⟨k.val, by omega⟩ k.isLt) (sum_lo (fun x => x * x) R.rnn R.his ⟨k.val, by omega⟩ k.isLt) _ (hR.ag _) _ (fun p => hR.aw1 _ p)
    _ hR.aw2 _ (fun q => hR.aw3 q 0)

/-- Operand 6 holds the weights of the clicked behaviours. -/
theorem op6 {c : Dev nD} (hR : Holds m c R) (t : Fin cfg0.N) (k : Fin 8) :
    (iblk m c 6 t : Vec Ideal S8x1 .f32) (ix2 k 0) = (R.weight R.his ⟨8 + k.val, by omega⟩ : EReal) := by
  have hx : ∀ t : Fin cfg0.N, win0_6.index t 0 = 0 ∧ win0_6.index t 1 = 0 := by decide +kernel
  refine Eq.trans (show _ = (V m c main_v88 : Vec Ideal S8x1 .f32) (ix2 k 0) from by blk_ext [iblk, (hx t).1, (hx t).2]) ?_
  unfold_abbrev_sides
  after_reads_simp
  pointwise
  after_reads_simp
  pointwise
  exact weight_read R R.his ⟨8 + k.val, by omega⟩ _ _ _ _ (fun t => hR.his1 t k) (fun t => hR.his2 t k)
    (sum_hi (fun x => x) R.rnn R.his ⟨8 + k.val, by omega⟩ k rfl) (sum_hi (fun x => x * x) R.rnn R.his ⟨8 + k.val, by omega⟩ k rfl) _ (hR.ag _) _ (fun p => hR.aw1 _ p)
    _ hR.aw2 _ (fun q => hR.aw3 q 0)

/-- Operand 7 holds the weights of the states beside the behaviours not clicked. -/
theorem op7 {c : Dev nD} (hR : Holds m c R) (t : Fin cfg0.N) (k : Fin 8) :
    (iblk m c 7 t : Vec Ideal S8x1 .f32) (ix2 k 0) = (R.weight R.noc ⟨k.val, by omega⟩ : EReal) := by
  have hx : ∀ t : Fin cfg0.N, win0_7.index t 0 = 0 ∧ win0_7.index t 1 = 0 := by decide +kernel
  refine Eq.trans (show _ = (V m c main_v90 : Vec Ideal S8x1 .f32) (ix2 k 0) from by blk_ext [iblk, (hx t).1, (hx t).2]) ?_
  unfold_abbrev_sides
  after_reads_simp
  pointwise
  after_reads_simp
  pointwise
  exact weight_read R R.noc ⟨k.val, by omega⟩ _ _ _ _ (fun t => hR.rnn1 t k) (fun t => hR.rnn2 t k)
    (sum_lo (fun x => x) R.rnn R.noc ⟨k.val, by omega⟩ k.isLt) (sum_lo (fun x => x * x) R.rnn R.noc ⟨k.val, by omega⟩ k.isLt) _ (hR.ag _) _ (fun p => hR.aw1 _ p)
    _ hR.aw2 _ (fun q => hR.aw3 q 0)

/-- Operand 8 holds the weights of the behaviours not clicked. -/
theorem op8 {c : Dev nD} (hR : Holds m c R) (t : Fin cfg0.N) (k : Fin 8) :
    (iblk m c 8 t : Vec Ideal S8x1 .f32) (ix2 k 0) = (R.weight R.noc ⟨8 + k.val, by omega⟩ : EReal) := by
  have hx : ∀ t : Fin cfg0.N, win0_8.index t 0 = 0 ∧ win0_8.index t 1 = 0 := by decide +kernel
  refine Eq.trans (show _ = (V m c main_v92 : Vec Ideal S8x1 .f32) (ix2 k 0) from by blk_ext [iblk, (hx t).1, (hx t).2]) ?_
  unfold_abbrev_sides
  after_reads_simp
  pointwise
  after_reads_simp
  pointwise
  exact weight_read R R.noc ⟨8 + k.val, by omega⟩ _ _ _ _ (fun t => hR.noc1 t k) (fun t => hR.noc2 t k)
    (sum_hi (fun x => x) R.rnn R.noc ⟨8 + k.val, by omega⟩ k rfl) (sum_hi (fun x => x * x) R.rnn R.noc ⟨8 + k.val, by omega⟩ k rfl) _ (hR.ag _) _ (fun p => hR.aw1 _ p)
    _ hR.aw2 _ (fun q => hR.aw3 q 0)

/-- A sum of products of two real entries. -/
theorem products_read {A B : Fin 2 → ℝ} (a b : Fin 2 → EReal) (ha : ∀ o, a o = (A o : EReal)) (hb : ∀ o, b o = (B o : EReal)) :
    ∑ o, a o * b o = ((∑ o, A o * B o : ℝ) : EReal) := by
  rw [coe_sum]
  exact Finset.sum_congr rfl fun o _ => by rw [ha, hb, EReal.coe_mul]

/-- Four zeros after 36 entries. -/
theorem pad_read (f : Fin 40) {X : Fin 36 → ℝ} (x : Vec Ideal S36 .f32) (hX : ∀ f, x (ix1 f) = (X f : EReal)) :
    (if h : f.val < 36 then x (ix1 ⟨f.val, h⟩) else (0 : EReal)) = ((if h : f.val < 36 then X ⟨f.val, h⟩ else 0 : ℝ) : EReal) := by
  split_ifs with h
  · exact hX _
  · rfl

/-- The scale of one top feature as the host computes it. -/
theorem scale_read (R : Args) (f : Fin 40) (s1 s2 : Fin 4 → EReal)
    (h1 : ∀ t : Fin 4, s1 t = ((∑ l : Fin 2048, R.top f ⟨2048 * t.val + l.val, by omega⟩ : ℝ) : EReal))
    (h2 : ∀ t : Fin 4, s2 t = ((∑ l : Fin 2048, R.top f ⟨2048 * t.val + l.val, by omega⟩ * R.top f ⟨2048 * t.val + l.val, by omega⟩ : ℝ) : EReal))
    (g : Vec Ideal S36 .f32) (hg : ∀ f, g (ix1 f) = (R.tg f : EReal)) :
    Ideal.div (if h : f.val < 36 then g (ix1 ⟨f.val, h⟩) else 0)
      (Ideal.sqrt (Ideal.div (∑ t, s2 t) (Ideal.ofBits .f32 0x46000000#32)
        - Ideal.div (∑ t, s1 t) (Ideal.ofBits .f32 0x46000000#32) * Ideal.div (∑ t, s1 t) (Ideal.ofBits .f32 0x46000000#32)
        + Ideal.ofBits .f32 0x3727C5AC#32)) = (R.scale f : EReal) := by
  rw [ofBits_batch, ofBits_eps, dev_read (by norm_num) (by norm_num) (R.top f) s1 s2 _ _ h1 h2 (sum_tiles (R.top f))
    (sum_tiles fun b => R.top f b * R.top f b), pad_read f g hg, div_coe (dev_pos (by norm_num) _).ne']
  rfl

/-- Operand 9 holds the scales of the top features. -/
theorem op9 {c : Dev nD} (hR : Holds m c R) (t : Fin cfg0.N) (f : Fin 40) :
    (iblk m c 9 t : Vec Ideal S40x1 .f32) (ix2 f 0) = (R.scale f : EReal) := by
  have hx : ∀ t : Fin cfg0.N, win0_9.index t 0 = 0 ∧ win0_9.index t 1 = 0 := by decide +kernel
  refine Eq.trans (show _ = (V m c main_v93 : Vec Ideal S40x1 .f32) (ix2 f 0) from by blk_ext [iblk, (hx t).1, (hx t).2]) ?_
  unfold_abbrev_sides
  after_reads_simp
  pointwise
  after_reads_simp
  pointwise
  exact scale_read R f _ _ (hR.top1 · f) (hR.top2 · f) _ hR.tg

/-- Operand 10 holds the shifts of the top features. -/
theorem op10 {c : Dev nD} (hR : Holds m c R) (t : Fin cfg0.N) (f : Fin 40) :
    (iblk m c 10 t : Vec Ideal S40x1 .f32) (ix2 f 0)
      = (((if h : f.val < 36 then R.tb ⟨f.val, h⟩ else 0) - mean 8192 (R.top f) * R.scale f : ℝ) : EReal) := by
  have hx : ∀ t : Fin cfg0.N, win0_10.index t 0 = 0 ∧ win0_10.index t 1 = 0 := by decide +kernel
  refine Eq.trans (show _ = (V m c main_v94 : Vec Ideal S40x1 .f32) (ix2 f 0) from by blk_ext [iblk, (hx t).1, (hx t).2]) ?_
  unfold_abbrev_sides
  after_reads_simp
  pointwise
  after_reads_simp
  pointwise
  refine (congrArg₂ (fun a b => a - Ideal.div (∑ t : Fin 4, m (c.tc.loc main_arg5) (ix3 t ⟨f.val, by omega⟩ 0)) (Ideal.ofBits .f32 0x46000000#32) * b)
    (pad_read f _ hR.tb) (scale_read R f _ _ (hR.top1 · f) (hR.top2 · f) _ hR.tg)).trans ?_
  rw [ofBits_batch, Finset.sum_congr rfl fun t _ => hR.top1 t f, ← coe_sum, sum_tiles (R.top f), div_coe (by norm_num), ← EReal.coe_mul, ← EReal.coe_sub]
  rfl

/-- Operand 11 holds the first top weights, transposed, with four columns of zeros. -/
theorem op11 {c : Dev nD} (hR : Holds m c R) (t : Fin cfg0.N) (y : Fin 200) (f : Fin 40) :
    (iblk m c 11 t : Vec Ideal S200x40 .f32) (ix2 y f) = ((if h : f.val < 36 then R.tw1 ⟨f.val, h⟩ y else 0 : ℝ) : EReal) := by
  have hx : ∀ t : Fin cfg0.N, win0_11.index t 0 = 0 ∧ win0_11.index t 1 = 0 := by decide +kernel
  refine Eq.trans (show _ = (V m c main_v64 : Vec Ideal S200x40 .f32) (ix2 y f) from by blk_ext [iblk, (hx t).1, (hx t).2]) ?_
  unfold_abbrev_sides
  after_reads_simp
  pointwise
  split_ifs with h
  · exact hR.tw1 _ y
  · rfl

/-- Operand 12 holds the first top offsets. -/
theorem op12 {c : Dev nD} (hR : Holds m c R) (t : Fin cfg0.N) (y : Fin 200) :
    (iblk m c 12 t : Vec Ideal S200x1 .f32) (ix2 y 0) = (R.tb1 y : EReal) := by
  have hx : ∀ t : Fin cfg0.N, win0_12.index t 0 = 0 ∧ win0_12.index t 1 = 0 := by decide +kernel
  refine Eq.trans (show _ = (V m c main_v95 : Vec Ideal S200x1 .f32) (ix2 y 0) from by blk_ext [iblk, (hx t).1, (hx t).2]) ?_
  unfold_abbrev_sides
  after_reads_simp
  pointwise
  exact hR.tb1 y

/-- Operand 13 holds the second top weights, transposed. -/
theorem op13 {c : Dev nD} (hR : Holds m c R) (t : Fin cfg0.N) (x : Fin 80) (y : Fin 200) :
    (iblk m c 13 t : Vec Ideal S80x200 .f32) (ix2 x y) = (R.tw2 y x : EReal) := by
  have hx : ∀ t : Fin cfg0.N, win0_13.index t 0 = 0 ∧ win0_13.index t 1 = 0 := by decide +kernel
  refine Eq.trans (show _ = (V m c main_v65 : Vec Ideal S80x200 .f32) (ix2 x y) from by blk_ext [iblk, (hx t).1, (hx t).2]) ?_
  unfold_abbrev_sides
  after_reads_simp
  pointwise
  exact hR.tw2 y x

/-- Operand 14 holds the second top offsets. -/
theorem op14 {c : Dev nD} (hR : Holds m c R) (t : Fin cfg0.N) (x : Fin 80) :
    (iblk m c 14 t : Vec Ideal S80x1 .f32) (ix2 x 0) = (R.tb2 x : EReal) := by
  have hx : ∀ t : Fin cfg0.N, win0_14.index t 0 = 0 ∧ win0_14.index t 1 = 0 := by decide +kernel
  refine Eq.trans (show _ = (V m c main_v96 : Vec Ideal S80x1 .f32) (ix2 x 0) from by blk_ext [iblk, (hx t).1, (hx t).2]) ?_
  unfold_abbrev_sides
  after_reads_simp
  pointwise
  exact hR.tb2 x

/-- The first row of operand 15 holds the last two layers' weights. -/
theorem op15 {c : Dev nD} (hR : Holds m c R) (t : Fin cfg0.N) (x : Fin 80) :
    (iblk m c 15 t : Vec Ideal S8x80 .f32) (ix2 0 x) = ((∑ o, R.tw3 x o * R.twl o : ℝ) : EReal) := by
  have hx : ∀ t : Fin cfg0.N, win0_15.index t 0 = 0 ∧ win0_15.index t 1 = 0 := by decide +kernel
  refine Eq.trans (show _ = (V m c main_v69 : Vec Ideal S8x80 .f32) (ix2 0 x) from by blk_ext [iblk, (hx t).1, (hx t).2]) ?_
  unfold_abbrev_sides
  after_reads_simp
  pointwise
  exact products_read (fun o => m (c.tc.loc main_arg21) (ix2 x o)) (fun o => m (c.tc.loc main_arg23) (ix2 o 0)) (hR.tw3 x) hR.twl

/-- Operand 16 holds the last two layers' offset. -/
theorem op16 {c : Dev nD} (hR : Holds m c R) (t : Fin cfg0.N) :
    (iblk m c 16 t : Vec Ideal S1x1 .f32) (ix2 0 0) = (((∑ o, R.tb3 o * R.twl o) + R.tbl : ℝ) : EReal) := by
  have hx : ∀ t : Fin cfg0.N, win0_16.index t 0 = 0 ∧ win0_16.index t 1 = 0 := by decide +kernel
  refine Eq.trans (show _ = (V m c main_v72 : Vec Ideal S1x1 .f32) (ix2 0 0) from by blk_ext [iblk, (hx t).1, (hx t).2]) ?_
  unfold_abbrev_sides
  after_reads_simp
  pointwise
  rw [EReal.coe_add]
  exact congrArg₂ (fun a b : EReal => a + b)
    (products_read (fun o => m (c.tc.loc main_arg22) (ix1 o)) (fun o => m (c.tc.loc main_arg23) (ix2 o 0)) hR.tb3 hR.twl) hR.tbl

end Cert.Kernel

end
-- ==== Proof.Result.lean ====
module

public import proofs.«01_k».proof.Proof.Operands
public import proofs.«01_k».proof.Proof.Spec
public import Idealize.ShloMosaic.Lib.Claim
public import Idealize.ShloMosaic.Lib.Pointwise
public import Idealize.ShloMosaic.Lib.StableHlo.RunRead

@[expose] public section

set_option maxRecDepth 16384

noncomputable section

namespace Cert.Kernel

open Idealize.ShloMosaic Idealize.ShloMosaic.TcCoe Cert.Reals Cert.Spec Cert.Point Cert.PayLoss Idealize.SL.Sem Cert.Pass2Ideal Cert.Pass2Ideal.Gen

variable (m : (ℓ : Loc nD τ sig) → Buf (Elt Ideal) ℓ)

variable {m} {R : Args}

/-- What each point writes of the first result: the probabilities of its columns. -/
theorem prob_point {c : Dev nD} (hR : Holds m c R) (t : Fin cfg0.N) (l : Fin 2048) :
    (outsAt0 m c t).1 (ix2 0 l) = (R.prob (col t l) : EReal) := by
  rw [out1]
  refine (pay1_apply (iblk m c 3 t) (iblk m c 9 t) (iblk m c 10 t) (iblk m c 11 t) (iblk m c 12 t) (iblk m c 13 t) (iblk m c 14 t)
    (iblk m c 15 t) (iblk m c 16 t) l _ _ _ _ _ _ _ _ _ (fun f => (blk3 m c t f l).trans (hR.top f (col t l)))
    (op9 hR t) (op10 hR t) (op11 hR t) (op12 hR t) (op13 hR t) (op14 hR t) (op15 hR t) (op16 hR t)).trans ?_
  rw [topRow_eq R (col t l)]
  rfl

/-- One row of scores in a tile, read from the operands. -/
theorem rowAt_score (h : Fin 400 → Fin 8192 → ℝ) (v w : Vec Ideal S8x1 .f32) (a b : Vec Ideal S400x2048 .f32) (d : Fin 8192) (l : Fin 2048)
    (hv : ∀ k : Fin 8, v (ix2 k 0) = (R.weight h ⟨k.val, by omega⟩ : EReal))
    (hw : ∀ k : Fin 8, w (ix2 k 0) = (R.weight h ⟨8 + k.val, by omega⟩ : EReal))
    (ha : ∀ i, a (ix2 i l) = (R.rnn i d : EReal)) (hb : ∀ i, b (ix2 i l) = (h i d : EReal)) (n : Nat) :
    rowAt v w a b n l = if hn : n < 49 then (R.score h d ⟨n, hn⟩ : EReal) else ⊥ := by
  split_ifs with hn
  · rw [rowAt_of_lt v w a b n l hn, ← score_pairs R h d ⟨n, hn⟩, coe_sum]
    refine Finset.sum_congr rfl fun k _ => ?_
    rw [hv, hw, ha, hb, EReal.coe_add, EReal.coe_mul, EReal.coe_mul]
  · exact rowAt_of_ge v w a b n l (by omega)

/-- What each point writes of the second result: the losses of its columns, summed. -/
theorem loss_point {c : Dev nD} (hR : Holds m c R) (t : Fin cfg0.N) :
    (outsAt0 m c t).2 (ix3 0 0 0)
      = ((∑ l, seqLoss (R.len (col t l)) (R.score R.his (col t l)) (R.score R.noc (col t l)) : ℝ) : EReal) := by
  obtain ⟨s, U, N, e, hs, hU, hN⟩ := out2 m c t
  have hlen : ∀ l, s (ix2 0 l) = R.len (col t l) := fun l => (hs l).trans ((blk4 m c t 0 l).trans (hR.len (col t l)))
  rw [e]
  refine (pay113_apply s U N (fun l => R.score R.his (col t l)) (fun l => R.score R.noc (col t l))
    (fun i j => (hU i j).trans (rowAt_score R.his _ _ _ _ (col t j) j (op5 hR t) (op6 hR t)
      (fun i => (blk0 m c t i j).trans (hR.rnn i _)) (fun i => (blk1 m c t i j).trans (hR.his i _)) i.val))
    (fun i j => (hN i j).trans (rowAt_score R.noc _ _ _ _ (col t j) j (op7 hR t) (op8 hR t)
      (fun i => (blk0 m c t i j).trans (hR.rnn i _)) (fun i => (blk2 m c t i j).trans (hR.noc i _)) i.val))
    (fun j => by rw [hlen]; exact hR.len_le _) 0).trans ?_
  simp only [hlen]

/-- The probability array of the run. -/
theorem arr17_prob {c : Dev nD} (hR : Holds m c R) (b : Fin 8192) :
    ((dats m 0 c).arrAt 17 cfg0.N : Vec Ideal S8x8192 .f32) (ix2 0 b) = (R.prob b : EReal) := by
  rw [arr17, prob_point hR, col_lane]

/-- The sum of the loss array of the run. -/
theorem arr18_loss {c : Dev nD} (hR : Holds m c R) :
    Ideal.div (∑ t : Fin 4, ((dats m 0 c).arrAt 18 cfg0.N : Vec Ideal S4x8x1 .f32) (ix3 t 0 0)) (Ideal.ofBits .f32 0x48C40000#32)
      = (R.loss : EReal) := by
  have h : ∀ t : Fin 4, ((dats m 0 c).arrAt 18 cfg0.N : Vec Ideal S4x8x1 .f32) (ix3 t 0 0)
      = ((∑ l : Fin 2048, (fun b => seqLoss (R.len b) (R.score R.his b) (R.score R.noc b)) ⟨2048 * t.val + l.val, by omega⟩ : ℝ) : EReal) :=
    fun t => (arr18 m c (t.cast N4.symm)).trans (loss_point hR _)
  simp only [h, ← coe_sum]
  rw [sum_tiles (fun b => seqLoss (R.len b) (R.score R.his b) (R.score R.noc b)), ofBits_steps, div_coe (by norm_num)]
  rfl

end Cert.Kernel

end
-- ==== Proof.Tail.lean ====
module

public import proofs.«01_k».proof.Defs
public import proofs.«01_k».proof.Proof.Result
public import Idealize.ShloMosaic.Lib.Claim
public import Idealize.ShloMosaic.Lib.Pointwise
public import Idealize.ShloMosaic.Lib.StableHlo.RunRead

@[expose] public section

set_option maxRecDepth 16384

noncomputable section

namespace Cert.Kernel

open Idealize.ShloMosaic Idealize.ShloMosaic.TcCoe Cert.Reals Cert.Spec Idealize.SL.Sem Cert.Pass2Ideal Cert.Pass2Ideal.Gen

variable (m : (ℓ : Loc nD τ sig) → Buf (Elt Ideal) ℓ) (c : Dev nD)

/-- What the probabilities' array holds after the host operations behind the launch. -/
theorem tail_prob {R : Args} (hR : Holds m c R) : (Pipeline.afterTail₀ cfgs (dats m) 0 (V0 m) [hostOps1] c main_v99 : Vec Ideal S8192 .f32)
    = fun j => (R.prob (j 0) : EReal) := by
  funext j
  obtain ⟨b, rfl⟩ : ∃ b, j = ix1 b := ⟨j 0, by funext a; match a with | ⟨0, _⟩ => rfl⟩
  have e := arr17_prob hR b
  unfold Pipeline.afterTail₀
  simp only [List.flatten_cons, List.flatten_nil, List.append_nil]
  after_reads_simp
  pointwise
  exact (congrFun (Pipeline.withArrays_arr cfg0.spec winFacts0.arr_inj c (V0 m c) (fun w => (dats m 0 c).arrAt w cfg0.N) 17) (ix2 0 b)).trans e

/-- What the auxiliary loss's array holds after the host operations behind the launch. -/
theorem tail_loss {R : Args} (hR : Holds m c R) : (Pipeline.afterTail₀ cfgs (dats m) 0 (V0 m) [hostOps1] c main_v103 : Vec Ideal S_ .f32)
    = fun _ => (R.loss : EReal) := by
  funext j
  have e := arr18_loss hR
  unfold Pipeline.afterTail₀
  simp only [List.flatten_cons, List.flatten_nil, List.append_nil]
  after_reads_simp
  pointwise
  simp only [show ∀ x : Fin 4, _ from fun x => congrFun (Pipeline.withArrays_arr cfg0.spec winFacts0.arr_inj c (V0 m c) (fun w => (dats m 0 c).arrAt w cfg0.N) 18) (ix3 x 0 0)]
  exact e

end Cert.Kernel

end
-- ==== Proof.RefLoss.lean ====
module

public import proofs.«01_k».proof.Proof.Gen.Ref2Ideal.Read
public import proofs.«01_k».proof.Proof.Spec
public import Idealize.ShloMosaic.Lib.Claim
public import Idealize.ShloMosaic.Lib.Pointwise
public import Idealize.ShloMosaic.Lib.StableHlo.RunRead

@[expose] public section

set_option maxRecDepth 16384

noncomputable section

namespace Cert.Reference

open Idealize.ShloMosaic Idealize.ShloMosaic.TcCoe Cert.Reals Cert.Spec Cert.PayLoss Idealize.SL.Sem Cert.Ref2Ideal Cert.Ref2Ideal.Gen Cert.Ref2Ideal.Read

variable {x0 y : Vec Ideal S400x8192 .f32} {a h : Fin 400 → Fin 8192 → ℝ}

/-- The joined input of a step at an index. -/
theorem inp_read (ha : ∀ i b, x0 (ix2 i b) = (a i b : EReal)) (hy : ∀ i b, y (ix2 i b) = (h i b : EReal)) (r : Fin 401408) (k : Fin 16) :
    val_main_v17 (F := Ideal) x0 y (ix2 r k) = (inp a h r k : EReal) := by
  simp only [val_main_v17, val_main_v16, val_main_v15, val_main_v14, val_main_v3, val_main_v2, val_main_v1, val_main_v0]
  pointwise
  by_cases hk : k.val < 8
  · have hi : inp a h r k = a ⟨8 * (r.val % 49) + k.val % 8, by omega⟩ ⟨r.val / 49, by omega⟩ := if_pos hk
    refine (dif_pos hk).trans (Eq.trans ?_ (congrArg (fun r : ℝ => (r : EReal)) hi).symm)
    refine (ha _ _).trans (congrArg (fun i => ((a i ⟨r.val / 49, by omega⟩ : ℝ) : EReal)) (Fin.ext ?_))
    show r.val % 49 * 8 + k.val = 8 * (r.val % 49) + k.val % 8
    omega
  · have hi : inp a h r k = h ⟨8 * (r.val % 49 + 1) + k.val % 8, by omega⟩ ⟨r.val / 49, by omega⟩ := if_neg hk
    refine (dif_neg hk).trans (Eq.trans ?_ (congrArg (fun r : ℝ => (r : EReal)) hi).symm)
    refine (hy _ _).trans (congrArg (fun i => ((h i ⟨r.val / 49, by omega⟩ : ℝ) : EReal)) (Fin.ext ?_))
    show (1 + r.val % 49) * 8 + (k.val - 8) = 8 * (r.val % 49 + 1) + k.val % 8
    omega

/-- The mean of an input. -/
theorem mean_read (ha : ∀ i b, x0 (ix2 i b) = (a i b : EReal)) (hy : ∀ i b, y (ix2 i b) = (h i b : EReal)) (k : Fin 16) :
    val_main_v20 (F := Ideal) x0 y (ix1 k) = (mean 401408 (fun r => inp a h r k) : EReal) := by
  simp only [val_main_v20, val_main_v19, val_main_v18, val_main_cst, val_main_cst_0]
  pointwise
  simp only [inp_read ha hy, ← coe_sum, ofBits_steps]
  exact div_coe (by norm_num) _

/-- Zero as an integer is zero. -/
theorem sitofp_zero : (FloatOps.sitofp .f32 (0#32 : BitVec 32) : Ideal .f32) = (0 : EReal) := by
  show (((0#32 : BitVec 32).toInt : ℝ) : EReal) = 0
  simp

/-- The variance of an input. -/
theorem var_read (ha : ∀ i b, x0 (ix2 i b) = (a i b : EReal)) (hy : ∀ i b, y (ix2 i b) = (h i b : EReal)) (k : Fin 16) :
    val_main_v21 (F := Ideal) x0 y (ix1 k) = (var 401408 (fun r => inp a h r k) : EReal) := by
  simp only [val_main_v21, val_main_call0_cst, val_main_call0_v0, val_main_call0_v1, val_main_call0_cst_0, val_main_call0_v2, val_main_call0_v3, val_main_call0_v4, val_main_call0_v5, val_main_call0_v6, val_main_call0_v7, val_main_call0_cst_1, val_main_call0_v8, val_main_call0_cst_2, val_main_call0_v9, val_main_call0_v10, val_main_call0_v11, val_main_call0_cst_3, val_main_call0_v12, val_main_call0_cst_4, val_main_call0_call0_v0, val_main_call0_call0_v1, val_main_c]
  pointwise
  simp only [inp_read ha hy, ← coe_sum, ofBits_steps, sitofp_zero, sub_zero]
  rw [if_pos (by exact_mod_cast (by norm_num : (0 : ℝ) < 401408)), div_coe (by norm_num)]
  simp only [← EReal.coe_sub, ← EReal.coe_mul, ← coe_sum]
  exact div_coe (by norm_num) _

/-- A normalised input before its scale. -/
theorem norm_read (ha : ∀ i b, x0 (ix2 i b) = (a i b : EReal)) (hy : ∀ i b, y (ix2 i b) = (h i b : EReal)) (r : Fin 401408) (k : Fin 16) :
    Ideal.div (val_main_v17 (F := Ideal) x0 y (ix2 r k) - val_main_v20 (F := Ideal) x0 y (ix1 k))
        (Ideal.sqrt (val_main_v21 (F := Ideal) x0 y (ix1 k) + Ideal.ofBits .f32 0x3727C5AC#32))
      = (((inp a h r k - mean 401408 (fun r => inp a h r k)) / dev 401408 (fun r => inp a h r k) : ℝ) : EReal) := by
  rw [inp_read ha hy, mean_read ha hy, var_read ha hy, ofBits_eps, ← EReal.coe_sub, ← EReal.coe_add,
    sqrt_coe (add_nonneg (var_nonneg' (by norm_num) _) eps_pos.le)]
  exact div_coe (dev_pos (by norm_num) _).ne' _

variable {x1 x2 : Vec Ideal S400x8192 .f32} {x3 : Vec Ideal S40x8192 .f32} {x4 : Vec Ideal S4x48x1 .f32}
  {x5 : Vec Ideal S4x80x1 .f32} {x6 : Vec Ideal S8192 .i32} {x7 x8 : Vec Ideal S16 .f32} {x9 : Vec Ideal S16x100 .f32}
  {x10 : Vec Ideal S100 .f32} {x11 : Vec Ideal S100x50 .f32} {x12 : Vec Ideal S50 .f32} {x13 : Vec Ideal S50x2 .f32}
  {x14 : Vec Ideal S2 .f32} {x15 x16 : Vec Ideal S36 .f32} {x17 : Vec Ideal S36x200 .f32} {x18 : Vec Ideal S200 .f32}
  {x19 : Vec Ideal S200x80 .f32} {x20 : Vec Ideal S80 .f32} {x21 : Vec Ideal S80x2 .f32} {x22 : Vec Ideal S2 .f32}
  {x23 : Vec Ideal S2x1 .f32} {x24 : Vec Ideal S1 .f32} {R : Args}

/-- The last layer's first output is the score of the step, up to a number that is the same for every step. -/
theorem net_read (hR : Reads x0 x1 x2 x3 x4 x5 x6 x7 x8 x9 x10 x11 x12 x13 x14 x15 x16 x17 x18 x19 x20 x21 x22 x23 x24 R)
    (hy : ∀ i b, y (ix2 i b) = (h i b : EReal)) :
    ∃ C : ℝ, ∀ r, val_main_v48 (F := Ideal) x0 y x7 x8 x9 x10 x11 x12 x13 x14 (ix2 r 0)
      = (((∑ k, inp R.rnn h r k * R.weight h k) + C : ℝ) : EReal) := by
  obtain ⟨C, hC⟩ := net_affine R.aw1 R.ab1 R.aw2 R.ab2 (fun q => R.aw3 q 0) (R.ab3 0) (fun k => mean 401408 fun r => inp R.rnn h r k)
    (fun k => dev 401408 fun r => inp R.rnn h r k) R.ag R.ab
  refine ⟨C, fun r => ?_⟩
  simp only [val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_1]
  pointwise
  simp only [norm_read hR.rnn hy, hR.ag, hR.ab, hR.aw1, hR.ab1, hR.aw2, hR.ab2, hR.aw3, hR.ab3, ← EReal.coe_mul, ← EReal.coe_add, ← coe_sum]
  exact congrArg _ (hC fun k => inp R.rnn h r k)

/-- The softmax over the steps at a step. -/
theorem softmax_read (hR : Reads x0 x1 x2 x3 x4 x5 x6 x7 x8 x9 x10 x11 x12 x13 x14 x15 x16 x17 x18 x19 x20 x21 x22 x23 x24 R)
    (hy : ∀ i b, y (ix2 i b) = (h i b : EReal)) (b : Fin 8192) (i : Fin 49) :
    val_main_v62 (F := Ideal) x0 y x7 x8 x9 x10 x11 x12 x13 x14 (ix2 b i)
      = (Real.exp (R.score h b i - lse (R.score h b)) : EReal) := by
  obtain ⟨C, hC⟩ := net_read hR hy
  have hs : ∀ (x : Fin 49) (hx : b.val * 49 + x.val < 401408),
      val_main_v48 (F := Ideal) x0 y x7 x8 x9 x10 x11 x12 x13 x14 (ix2 ⟨b.val * 49 + x.val, hx⟩ 0) = ((R.score h b x + C : ℝ) : EReal) := by
    intro x hx
    rw [show (⟨b.val * 49 + x.val, hx⟩ : Fin 401408) = row b x from Fin.ext (by show b.val * 49 + x.val = 49 * b.val + x.val; omega)]
    exact hC _
  obtain ⟨mx, hm⟩ := fold_max_coe (fun x : Fin 49 => ((R.score h b x + C : ℝ) : EReal)) (fun _ => EReal.coe_ne_top _) 0 (EReal.coe_ne_bot _)
  simp only [val_main_v49, val_main_v50, val_main_v51, val_main_v52, val_main_v53, val_main_v54, val_main_v55, val_main_v56, val_main_v57, val_main_v58, val_main_v59, val_main_v60, val_main_v61, val_main_v62, val_main_cst_2, val_main_cst_3, val_main_cst_4]
  pointwise
  simp only [hs, ofBits_neg_inf, hm, max_eq_right (bot_le : (⊥ : EReal) ≤ _), ← EReal.coe_sub, exp_coe, ← coe_sum]
  rw [div_coe (sum_exp_pos fun x => R.score h b x + C - mx).ne', softmax_shift (R.score h b) (fun x => R.score h b x + C) C mx (fun _ => rfl)]

/-- The other branch is the same function of other behaviours. -/
theorem other_branch : val_main_v111 (F := Ideal) x0 x2 x7 x8 x9 x10 x11 x12 x13 x14 = val_main_v62 (F := Ideal) x0 x2 x7 x8 x9 x10 x11 x12 x13 x14 := rfl

/-- The mask of a step as a number. -/
theorem mask_read (i : Fin 49) (len : BitVec 32) :
    (FloatOps.uitofp .f32 (IntOp.cmpi .slt (BitVec.ofNat 32 (1 + i.val)) len) : Ideal .f32)
      = (((if (i.val : ℤ) + 1 < len.toInt then 1 else 0 : ℝ)) : EReal) := by
  have e : (BitVec.ofNat 32 (1 + i.val)).toInt = (i.val : ℤ) + 1 := by
    rw [BitVec.toInt_eq_toNat_of_lt (by rw [BitVec.toNat_ofNat]; omega), BitVec.toNat_ofNat]; omega
  show (((BitVec.ofBool (decide ((BitVec.ofNat 32 (1 + i.val)).toInt < len.toInt))).toNat : ℝ) : EReal) = _
  rw [e]
  by_cases h : (i.val : ℤ) + 1 < len.toInt <;> simp [h]

/-- What a step adds to the loss. -/
theorem step_read (len : BitVec 32) (uc un : Fin 49 → ℝ) (i : Fin 49) :
    -Ideal.log ((Real.exp (uc i - lse uc) : ℝ) : EReal) * (((if (i.val : ℤ) + 1 < len.toInt then 1 else 0 : ℝ)) : EReal)
      + -Ideal.log (1 - ((Real.exp (un i - lse un) : ℝ) : EReal)) * (((if (i.val : ℤ) + 1 < len.toInt then 1 else 0 : ℝ)) : EReal)
      = ((if (i.val : ℤ) + 1 < len.toInt then term uc un i else 0 : ℝ) : EReal) := by
  rw [log_coe (Real.exp_pos _), ← EReal.coe_neg, neg_log_exp, ← EReal.coe_one, ← EReal.coe_sub, log_coe (one_sub_exp_pos un i), ← EReal.coe_neg,
    ← EReal.coe_mul, ← EReal.coe_mul, ← EReal.coe_add]
  congr 1
  split_ifs
  · unfold term; ring
  · ring

/-- The reference's second result is the auxiliary loss. -/
theorem loss_read (hR : Reads x0 x1 x2 x3 x4 x5 x6 x7 x8 x9 x10 x11 x12 x13 x14 x15 x16 x17 x18 x19 x20 x21 x22 x23 x24 R) :
    val_main_v122 (F := Ideal) x0 x1 x2 x6 x7 x8 x9 x10 x11 x12 x13 x14 = fun _ => (R.loss : EReal) := by
  funext j
  rw [Subsingleton.elim j ix0]
  simp only [val_main_v112, val_main_v113, val_main_v114, val_main_v115, val_main_v116, val_main_v117, val_main_v118, val_main_v119, val_main_v120, val_main_v121, val_main_v122, val_main_cst_12, val_main_cst_13, val_main_cst_14, val_main_v6, val_main_v7, val_main_v8, val_main_v9, val_main_v10, val_main_v11, val_main_v12, val_main_v13]
  rw [other_branch]
  pointwise
  simp only [softmax_read hR hR.his, softmax_read hR hR.noc, hR.len, mask_read, step_read, ← coe_sum, ofBits_steps]
  exact div_coe (by norm_num) _

end Cert.Reference

end
-- ==== Proof.RefProb.lean ====
module

public import proofs.«01_k».proof.Proof.RefLoss
public import proofs.«01_k».proof.Proof.Spec
public import Idealize.ShloMosaic.Lib.Claim
public import Idealize.ShloMosaic.Lib.Pointwise
public import Idealize.ShloMosaic.Lib.StableHlo.RunRead

@[expose] public section

set_option maxRecDepth 16384

noncomputable section

namespace Cert.Reference

open Idealize.ShloMosaic Idealize.ShloMosaic.TcCoe Cert.Reals Cert.Spec Cert.PayLoss Idealize.SL.Sem Cert.Ref2Ideal Cert.Ref2Ideal.Gen Cert.Ref2Ideal.Read

variable {x0 x1 x2 : Vec Ideal S400x8192 .f32} {x3 : Vec Ideal S40x8192 .f32} {x4 : Vec Ideal S4x48x1 .f32}
  {x5 : Vec Ideal S4x80x1 .f32} {x6 : Vec Ideal S8192 .i32} {x7 x8 : Vec Ideal S16 .f32} {x9 : Vec Ideal S16x100 .f32}
  {x10 : Vec Ideal S100 .f32} {x11 : Vec Ideal S100x50 .f32} {x12 : Vec Ideal S50 .f32} {x13 : Vec Ideal S50x2 .f32}
  {x14 : Vec Ideal S2 .f32} {x15 x16 : Vec Ideal S36 .f32} {x17 : Vec Ideal S36x200 .f32} {x18 : Vec Ideal S200 .f32}
  {x19 : Vec Ideal S200x80 .f32} {x20 : Vec Ideal S80 .f32} {x21 : Vec Ideal S80x2 .f32} {x22 : Vec Ideal S2 .f32}
  {x23 : Vec Ideal S2x1 .f32} {x24 : Vec Ideal S1 .f32} {R : Args}

/-- A top feature of the reference at an index. -/
theorem top_read (hR : Reads x0 x1 x2 x3 x4 x5 x6 x7 x8 x9 x10 x11 x12 x13 x14 x15 x16 x17 x18 x19 x20 x21 x22 x23 x24 R) (b : Fin 8192) (f : Fin 36) :
    val_main_v124 (F := Ideal) x3 (ix2 b f) = (R.top ⟨f.val, by omega⟩ b : EReal) := by
  simp only [val_main_v124, val_main_v123]
  pointwise
  exact hR.top _ b

/-- The mean of a top feature. -/
theorem top_mean_read (hR : Reads x0 x1 x2 x3 x4 x5 x6 x7 x8 x9 x10 x11 x12 x13 x14 x15 x16 x17 x18 x19 x20 x21 x22 x23 x24 R) (f : Fin 36) :
    val_main_v127 (F := Ideal) x3 (ix1 f) = (mean 8192 (R.top ⟨f.val, by omega⟩) : EReal) := by
  simp only [val_main_v127, val_main_v126, val_main_v125, val_main_cst_15, val_main_cst_16]
  pointwise
  simp only [top_read hR, ← coe_sum, ofBits_batch]
  exact div_coe (by norm_num) _

/-- The variance of a top feature. -/
theorem top_var_read (hR : Reads x0 x1 x2 x3 x4 x5 x6 x7 x8 x9 x10 x11 x12 x13 x14 x15 x16 x17 x18 x19 x20 x21 x22 x23 x24 R) (f : Fin 36) :
    val_main_v128 (F := Ideal) x3 (ix1 f) = (var 8192 (R.top ⟨f.val, by omega⟩) : EReal) := by
  simp only [val_main_v128, val_main_call2_cst, val_main_call2_v0, val_main_call2_v1, val_main_call2_cst_0, val_main_call2_v2, val_main_call2_v3, val_main_call2_v4, val_main_call2_v5, val_main_call2_v6, val_main_call2_v7, val_main_call2_cst_1, val_main_call2_v8, val_main_call2_cst_2, val_main_call2_v9, val_main_call2_v10, val_main_call2_v11, val_main_call2_cst_3, val_main_call2_v12, val_main_call2_cst_4, val_main_call2_call0_v0, val_main_call2_call0_v1, val_main_c_17]
  pointwise
  simp only [top_read hR, ← coe_sum, ofBits_batch, sitofp_zero, sub_zero]
  rw [if_pos (by exact_mod_cast (by norm_num : (0 : ℝ) < 8192)), div_coe (by norm_num)]
  simp only [← EReal.coe_sub, ← EReal.coe_mul, ← coe_sum]
  exact div_coe (by norm_num) _

/-- A normalised top feature before its scale. -/
theorem top_norm_read (hR : Reads x0 x1 x2 x3 x4 x5 x6 x7 x8 x9 x10 x11 x12 x13 x14 x15 x16 x17 x18 x19 x20 x21 x22 x23 x24 R) (b : Fin 8192) (f : Fin 36) :
    Ideal.div (val_main_v124 (F := Ideal) x3 (ix2 b f) - val_main_v127 (F := Ideal) x3 (ix1 f))
        (Ideal.sqrt (val_main_v128 (F := Ideal) x3 (ix1 f) + Ideal.ofBits .f32 0x3727C5AC#32))
      = (((R.top ⟨f.val, by omega⟩ b - mean 8192 (R.top ⟨f.val, by omega⟩)) / dev 8192 (R.top ⟨f.val, by omega⟩) : ℝ) : EReal) := by
  rw [top_read hR, top_mean_read hR, top_var_read hR, ofBits_eps, ← EReal.coe_sub, ← EReal.coe_add,
    sqrt_coe (add_nonneg (var_nonneg' (by norm_num) _) eps_pos.le)]
  exact div_coe (dev_pos (by norm_num) _).ne' _

/-- The reference's first result is the probability. -/
theorem prob_read (hR : Reads x0 x1 x2 x3 x4 x5 x6 x7 x8 x9 x10 x11 x12 x13 x14 x15 x16 x17 x18 x19 x20 x21 x22 x23 x24 R) (b : Fin 8192) :
    val_main_v168 (F := Ideal) x3 x15 x16 x17 x18 x19 x20 x21 x22 x23 x24 (ix1 b) = (R.prob b : EReal) := by
  simp only [val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_cst_18, val_main_cst_19, val_main_cst_20, val_main_call3_cst, val_main_call3_v0, val_main_call4_cst, val_main_call4_v0]
  pointwise
  simp only [top_norm_read hR, hR.tg, hR.tb, hR.tw1, hR.tb1, hR.tw2, hR.tb2, hR.tw3, hR.tb3, hR.twl, hR.tbl, ← EReal.coe_mul, ← EReal.coe_add,
    ← coe_sum, ← EReal.coe_zero, max_coe, ← EReal.coe_neg, exp_coe, ← EReal.coe_one]
  exact div_coe (by positivity) _

end Cert.Reference

end
-- ==== Proof.PreRead.lean ====
module

public import proofs.«01_k».proof.Proof.Gen.Pre_pass2_ready
public import proofs.«01_k».proof.Defs
public import proofs.«01_k».proof.Proof.Operands
public import Idealize.ShloMosaic.Lib.Claim
public import Idealize.ShloMosaic.Lib.Pointwise
public import Idealize.ShloMosaic.Lib.StableHlo.RunRead

@[expose] public section

set_option maxRecDepth 16384

noncomputable section

namespace Cert.PreRead

open Idealize.ShloMosaic Idealize.ShloMosaic.TcCoe Cert.Reals Cert.Spec Idealize.SL.Sem Cert.Pass2Ideal Cert.Pass2Ideal.Gen

/-- A value whose absolute value is below plus infinity is finite. -/
theorem fin_read (x : EReal) (h : BitVec.ofBool (decide ((FloatOps.absf (F := Ideal) (φ := .f32) x : EReal) < Ideal.ofBits .f32 0x7F800000#32)) = 1#1) :
    x = (x.toReal : EReal) := by
  have e : Ideal.ofBits .f32 0x7F800000#32 = ⊤ := by simp [Ideal.ofBits, Ideal.ieee]
  have h' : max x (-x) < ⊤ := by
    rw [e] at h
    by_contra hc
    exact absurd h (by rw [show decide ((FloatOps.absf (F := Ideal) (φ := .f32) x : EReal) < ⊤) = false from decide_eq_false hc]; decide)
  refine (EReal.coe_toReal ?_ ?_).symm
  · rintro rfl; simp at h'
  · rintro rfl; simp at h'

/-- A comparison that holds. -/
theorem eq_read {x y : EReal} (h : BitVec.ofBool (decide (x = y)) = 1#1) : x = y := by
  by_contra hc
  exact absurd h (by rw [decide_eq_false hc]; decide)

/-- A length that is at most the number of steps. -/
theorem len_read {x : BitVec 32} (h : IntOp.cmpi .sle x 50#32 = 1#1) : x.toInt ≤ 50 := by
  have h' : BitVec.ofBool (decide (x.toInt ≤ (50#32 : BitVec 32).toInt)) = 1#1 := h
  by_contra hc
  exact absurd h' (by rw [show decide (x.toInt ≤ (50#32 : BitVec 32).toInt) = false from decide_eq_false hc]; decide)

/-- A sum over the first and the last of four axes at an index of the other two. -/
theorem sum_a03 {n0 n1 n2 n3 : Nat} (h : (⟨4, ![n0, n1, n2, n3]⟩ : Shape).ReducesTo [0, 3] ⟨2, ![n1, n2]⟩)
    (v : (⟨4, ![n0, n1, n2, n3]⟩ : Shape).Idx → EReal) (k : Fin n1) (t : Fin n2) :
    Ideal.hostReduceAdd h v 0 (ix2 k t) = ∑ i : Fin n0, ∑ l : Fin n3, v (ix4 i k t l) := by
  unfold Ideal.hostReduceAdd
  rw [zero_add]
  refine (Finset.sum_filter_eq_sum_of_fiber _ (fun q : Fin n0 × Fin n3 => ix4 q.1 k t q.2)
    (fun _ _ e => Prod.ext (congrFun e 0) (congrFun e 3)) (fun i => ⟨fun e => ⟨(i 0, i 3), ?_⟩, ?_⟩) v).trans ?_
  · funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨q, rfl⟩
    funext b
    apply Fin.ext
    match b with
    | ⟨0, _⟩ => rfl
    | ⟨1, _⟩ => rfl
  · simp only [Fintype.sum_prod_type]

variable {m : (ℓ : Loc nD τ sig) → Buf (Elt Ideal) ℓ}

/-- The real contents of the argument arrays. -/
def args (m : (ℓ : Loc nD τ sig) → Buf (Elt Ideal) ℓ) (c : Dev nD) : Args where
  rnn i j := ((m (c.tc.loc main_arg0) : Vec Ideal S400x8192 .f32) (ix2 i j) : EReal).toReal
  his i j := ((m (c.tc.loc main_arg1) : Vec Ideal S400x8192 .f32) (ix2 i j) : EReal).toReal
  noc i j := ((m (c.tc.loc main_arg2) : Vec Ideal S400x8192 .f32) (ix2 i j) : EReal).toReal
  top i j := ((m (c.tc.loc main_arg3) : Vec Ideal S40x8192 .f32) (ix2 i j) : EReal).toReal
  len b := (m (c.tc.loc main_arg6) : Vec Ideal S8192 .i32) (ix1 b)
  ag i := ((m (c.tc.loc main_arg7) : Vec Ideal S16 .f32) (ix1 i) : EReal).toReal
  ab i := ((m (c.tc.loc main_arg8) : Vec Ideal S16 .f32) (ix1 i) : EReal).toReal
  aw1 i j := ((m (c.tc.loc main_arg9) : Vec Ideal S16x100 .f32) (ix2 i j) : EReal).toReal
  ab1 i := ((m (c.tc.loc main_arg10) : Vec Ideal S100 .f32) (ix1 i) : EReal).toReal
  aw2 i j := ((m (c.tc.loc main_arg11) : Vec Ideal S100x50 .f32) (ix2 i j) : EReal).toReal
  ab2 i := ((m (c.tc.loc main_arg12) : Vec Ideal S50 .f32) (ix1 i) : EReal).toReal
  aw3 i j := ((m (c.tc.loc main_arg13) : Vec Ideal S50x2 .f32) (ix2 i j) : EReal).toReal
  ab3 i := ((m (c.tc.loc main_arg14) : Vec Ideal S2 .f32) (ix1 i) : EReal).toReal
  tg i := ((m (c.tc.loc main_arg15) : Vec Ideal S36 .f32) (ix1 i) : EReal).toReal
  tb i := ((m (c.tc.loc main_arg16) : Vec Ideal S36 .f32) (ix1 i) : EReal).toReal
  tw1 i j := ((m (c.tc.loc main_arg17) : Vec Ideal S36x200 .f32) (ix2 i j) : EReal).toReal
  tb1 i := ((m (c.tc.loc main_arg18) : Vec Ideal S200 .f32) (ix1 i) : EReal).toReal
  tw2 i j := ((m (c.tc.loc main_arg19) : Vec Ideal S200x80 .f32) (ix2 i j) : EReal).toReal
  tb2 i := ((m (c.tc.loc main_arg20) : Vec Ideal S80 .f32) (ix1 i) : EReal).toReal
  tw3 i j := ((m (c.tc.loc main_arg21) : Vec Ideal S80x2 .f32) (ix2 i j) : EReal).toReal
  tb3 i := ((m (c.tc.loc main_arg22) : Vec Ideal S2 .f32) (ix1 i) : EReal).toReal
  twl i := ((m (c.tc.loc main_arg23) : Vec Ideal S2x1 .f32) (ix2 i 0) : EReal).toReal
  tbl := ((m (c.tc.loc main_arg24) : Vec Ideal S1 .f32) (ix1 0) : EReal).toReal

/-- Under the precondition the argument arrays hold real contents, and the moments are what they should be. -/
theorem holds_args (hpre : Cert.Pre_Pass2Ideal_pass2_ready m) (c : Dev nD) : Cert.Kernel.Holds m c (args m c) := by
  obtain ⟨h0, h1, h2, h3, h4, h5, h6, h7, h8, h9, h10, h11, h12, h13, h14, h15, h16, h17, h18, h19, h20, h21, h22, h23, h24, h25, h26, h27, h28, h29, h30⟩ := hpre c
  have rnn' : ∀ i j, m (c.tc.loc main_arg0) (ix2 i j) = ((args m c).rnn i j : EReal) := fun i j => fin_read _ (by
    have e := congrFun h0 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have his' : ∀ i j, m (c.tc.loc main_arg1) (ix2 i j) = ((args m c).his i j : EReal) := fun i j => fin_read _ (by
    have e := congrFun h1 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have noc' : ∀ i j, m (c.tc.loc main_arg2) (ix2 i j) = ((args m c).noc i j : EReal) := fun i j => fin_read _ (by
    have e := congrFun h2 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have top' : ∀ i j, m (c.tc.loc main_arg3) (ix2 i j) = ((args m c).top i j : EReal) := fun i j => fin_read _ (by
    have e := congrFun h3 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have ag' : ∀ i, m (c.tc.loc main_arg7) (ix1 i) = ((args m c).ag i : EReal) := fun i => fin_read _ (by
    have e := congrFun h13 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have ab' : ∀ i, m (c.tc.loc main_arg8) (ix1 i) = ((args m c).ab i : EReal) := fun i => fin_read _ (by
    have e := congrFun h14 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have aw1' : ∀ i j, m (c.tc.loc main_arg9) (ix2 i j) = ((args m c).aw1 i j : EReal) := fun i j => fin_read _ (by
    have e := congrFun h15 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have ab1' : ∀ i, m (c.tc.loc main_arg10) (ix1 i) = ((args m c).ab1 i : EReal) := fun i => fin_read _ (by
    have e := congrFun h16 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have aw2' : ∀ i j, m (c.tc.loc main_arg11) (ix2 i j) = ((args m c).aw2 i j : EReal) := fun i j => fin_read _ (by
    have e := congrFun h17 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have ab2' : ∀ i, m (c.tc.loc main_arg12) (ix1 i) = ((args m c).ab2 i : EReal) := fun i => fin_read _ (by
    have e := congrFun h18 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have aw3' : ∀ i j, m (c.tc.loc main_arg13) (ix2 i j) = ((args m c).aw3 i j : EReal) := fun i j => fin_read _ (by
    have e := congrFun h19 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have ab3' : ∀ i, m (c.tc.loc main_arg14) (ix1 i) = ((args m c).ab3 i : EReal) := fun i => fin_read _ (by
    have e := congrFun h20 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have tg' : ∀ i, m (c.tc.loc main_arg15) (ix1 i) = ((args m c).tg i : EReal) := fun i => fin_read _ (by
    have e := congrFun h21 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have tb' : ∀ i, m (c.tc.loc main_arg16) (ix1 i) = ((args m c).tb i : EReal) := fun i => fin_read _ (by
    have e := congrFun h22 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have tw1' : ∀ i j, m (c.tc.loc main_arg17) (ix2 i j) = ((args m c).tw1 i j : EReal) := fun i j => fin_read _ (by
    have e := congrFun h23 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have tb1' : ∀ i, m (c.tc.loc main_arg18) (ix1 i) = ((args m c).tb1 i : EReal) := fun i => fin_read _ (by
    have e := congrFun h24 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have tw2' : ∀ i j, m (c.tc.loc main_arg19) (ix2 i j) = ((args m c).tw2 i j : EReal) := fun i j => fin_read _ (by
    have e := congrFun h25 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have tb2' : ∀ i, m (c.tc.loc main_arg20) (ix1 i) = ((args m c).tb2 i : EReal) := fun i => fin_read _ (by
    have e := congrFun h26 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have tw3' : ∀ i j, m (c.tc.loc main_arg21) (ix2 i j) = ((args m c).tw3 i j : EReal) := fun i j => fin_read _ (by
    have e := congrFun h27 (ix2 i j)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have tb3' : ∀ i, m (c.tc.loc main_arg22) (ix1 i) = ((args m c).tb3 i : EReal) := fun i => fin_read _ (by
    have e := congrFun h28 (ix1 i)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have twl' : ∀ i, m (c.tc.loc main_arg23) (ix2 i 0) = ((args m c).twl i : EReal) := fun i => fin_read _ (by
    have e := congrFun h29 (ix2 i (0 : Fin 1))
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have tbl' : m (c.tc.loc main_arg24) (ix1 0) = ((args m c).tbl : EReal) := fin_read _ (by
    have e := congrFun h30 (ix1 (0 : Fin 1))
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have len' : ∀ b, ((args m c).len b).toInt ≤ 50 := fun b => len_read (by
    have e := congrFun h4 (ix1 b)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    exact e)
  have rnn1 : ∀ (t : Fin 4) (k : Fin 8), m (c.tc.loc main_arg4) (ix3 t ⟨k.val, by omega⟩ 0)
      = ((∑ i : Fin 49, ∑ l : Fin 2048, (args m c).rnn ⟨8 * i.val + k.val, by omega⟩ ⟨2048 * t.val + l.val, by omega⟩ : ℝ) : EReal) := fun t k => by
    have e := congrFun h5 (ix2 k t)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    have e' := eq_read e
    rw [sum_a03] at e'
    pointwise at e'
    simp only [rnn', ← EReal.coe_mul, ← coe_sum] at e'
    exact e'.trans (congrArg (fun r : ℝ => (r : EReal)) (Finset.sum_congr rfl fun i _ => Finset.sum_congr rfl fun l _ => by
      rw [show (⟨i.val * 8 + k.val, by omega⟩ : Fin 400) = ⟨8 * i.val + k.val, by omega⟩ from Fin.ext (by show i.val * 8 + k.val = 8 * i.val + k.val; omega),
        show (⟨t.val * 2048 + l.val, by omega⟩ : Fin 8192) = ⟨2048 * t.val + l.val, by omega⟩ from
          Fin.ext (by show t.val * 2048 + l.val = 2048 * t.val + l.val; omega)]))
  have rnn2 : ∀ (t : Fin 4) (k : Fin 8), m (c.tc.loc main_arg4) (ix3 t ⟨8 + k.val, by omega⟩ 0)
      = ((∑ i : Fin 49, ∑ l : Fin 2048, (args m c).rnn ⟨8 * i.val + k.val, by omega⟩ ⟨2048 * t.val + l.val, by omega⟩ * (args m c).rnn ⟨8 * i.val + k.val, by omega⟩ ⟨2048 * t.val + l.val, by omega⟩ : ℝ) : EReal) := fun t k => by
    have e := congrFun h6 (ix2 k t)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    have e' := eq_read e
    rw [sum_a03] at e'
    pointwise at e'
    simp only [rnn', ← EReal.coe_mul, ← coe_sum] at e'
    exact e'.trans (congrArg (fun r : ℝ => (r : EReal)) (Finset.sum_congr rfl fun i _ => Finset.sum_congr rfl fun l _ => by
      rw [show (⟨i.val * 8 + k.val, by omega⟩ : Fin 400) = ⟨8 * i.val + k.val, by omega⟩ from Fin.ext (by show i.val * 8 + k.val = 8 * i.val + k.val; omega),
        show (⟨t.val * 2048 + l.val, by omega⟩ : Fin 8192) = ⟨2048 * t.val + l.val, by omega⟩ from
          Fin.ext (by show t.val * 2048 + l.val = 2048 * t.val + l.val; omega)]))
  have his1 : ∀ (t : Fin 4) (k : Fin 8), m (c.tc.loc main_arg4) (ix3 t ⟨16 + k.val, by omega⟩ 0)
      = ((∑ i : Fin 49, ∑ l : Fin 2048, (args m c).his ⟨8 * (i.val + 1) + k.val, by omega⟩ ⟨2048 * t.val + l.val, by omega⟩ : ℝ) : EReal) := fun t k => by
    have e := congrFun h7 (ix2 k t)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    have e' := eq_read e
    rw [sum_a03] at e'
    pointwise at e'
    simp only [his', ← EReal.coe_mul, ← coe_sum] at e'
    exact e'.trans (congrArg (fun r : ℝ => (r : EReal)) (Finset.sum_congr rfl fun i _ => Finset.sum_congr rfl fun l _ => by
      rw [show (⟨(1 + i.val) * 8 + k.val, by omega⟩ : Fin 400) = ⟨8 * (i.val + 1) + k.val, by omega⟩ from Fin.ext (by show (1 + i.val) * 8 + k.val = 8 * (i.val + 1) + k.val; omega),
        show (⟨t.val * 2048 + l.val, by omega⟩ : Fin 8192) = ⟨2048 * t.val + l.val, by omega⟩ from
          Fin.ext (by show t.val * 2048 + l.val = 2048 * t.val + l.val; omega)]))
  have his2 : ∀ (t : Fin 4) (k : Fin 8), m (c.tc.loc main_arg4) (ix3 t ⟨24 + k.val, by omega⟩ 0)
      = ((∑ i : Fin 49, ∑ l : Fin 2048, (args m c).his ⟨8 * (i.val + 1) + k.val, by omega⟩ ⟨2048 * t.val + l.val, by omega⟩ * (args m c).his ⟨8 * (i.val + 1) + k.val, by omega⟩ ⟨2048 * t.val + l.val, by omega⟩ : ℝ) : EReal) := fun t k => by
    have e := congrFun h8 (ix2 k t)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    have e' := eq_read e
    rw [sum_a03] at e'
    pointwise at e'
    simp only [his', ← EReal.coe_mul, ← coe_sum] at e'
    exact e'.trans (congrArg (fun r : ℝ => (r : EReal)) (Finset.sum_congr rfl fun i _ => Finset.sum_congr rfl fun l _ => by
      rw [show (⟨(1 + i.val) * 8 + k.val, by omega⟩ : Fin 400) = ⟨8 * (i.val + 1) + k.val, by omega⟩ from Fin.ext (by show (1 + i.val) * 8 + k.val = 8 * (i.val + 1) + k.val; omega),
        show (⟨t.val * 2048 + l.val, by omega⟩ : Fin 8192) = ⟨2048 * t.val + l.val, by omega⟩ from
          Fin.ext (by show t.val * 2048 + l.val = 2048 * t.val + l.val; omega)]))
  have noc1 : ∀ (t : Fin 4) (k : Fin 8), m (c.tc.loc main_arg4) (ix3 t ⟨32 + k.val, by omega⟩ 0)
      = ((∑ i : Fin 49, ∑ l : Fin 2048, (args m c).noc ⟨8 * (i.val + 1) + k.val, by omega⟩ ⟨2048 * t.val + l.val, by omega⟩ : ℝ) : EReal) := fun t k => by
    have e := congrFun h9 (ix2 k t)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    have e' := eq_read e
    rw [sum_a03] at e'
    pointwise at e'
    simp only [noc', ← EReal.coe_mul, ← coe_sum] at e'
    exact e'.trans (congrArg (fun r : ℝ => (r : EReal)) (Finset.sum_congr rfl fun i _ => Finset.sum_congr rfl fun l _ => by
      rw [show (⟨(1 + i.val) * 8 + k.val, by omega⟩ : Fin 400) = ⟨8 * (i.val + 1) + k.val, by omega⟩ from Fin.ext (by show (1 + i.val) * 8 + k.val = 8 * (i.val + 1) + k.val; omega),
        show (⟨t.val * 2048 + l.val, by omega⟩ : Fin 8192) = ⟨2048 * t.val + l.val, by omega⟩ from
          Fin.ext (by show t.val * 2048 + l.val = 2048 * t.val + l.val; omega)]))
  have noc2 : ∀ (t : Fin 4) (k : Fin 8), m (c.tc.loc main_arg4) (ix3 t ⟨40 + k.val, by omega⟩ 0)
      = ((∑ i : Fin 49, ∑ l : Fin 2048, (args m c).noc ⟨8 * (i.val + 1) + k.val, by omega⟩ ⟨2048 * t.val + l.val, by omega⟩ * (args m c).noc ⟨8 * (i.val + 1) + k.val, by omega⟩ ⟨2048 * t.val + l.val, by omega⟩ : ℝ) : EReal) := fun t k => by
    have e := congrFun h10 (ix2 k t)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    have e' := eq_read e
    rw [sum_a03] at e'
    pointwise at e'
    simp only [noc', ← EReal.coe_mul, ← coe_sum] at e'
    exact e'.trans (congrArg (fun r : ℝ => (r : EReal)) (Finset.sum_congr rfl fun i _ => Finset.sum_congr rfl fun l _ => by
      rw [show (⟨(1 + i.val) * 8 + k.val, by omega⟩ : Fin 400) = ⟨8 * (i.val + 1) + k.val, by omega⟩ from Fin.ext (by show (1 + i.val) * 8 + k.val = 8 * (i.val + 1) + k.val; omega),
        show (⟨t.val * 2048 + l.val, by omega⟩ : Fin 8192) = ⟨2048 * t.val + l.val, by omega⟩ from
          Fin.ext (by show t.val * 2048 + l.val = 2048 * t.val + l.val; omega)]))
  have top1 : ∀ (t : Fin 4) (f : Fin 40), m (c.tc.loc main_arg5) (ix3 t ⟨f.val, by omega⟩ 0)
      = ((∑ l : Fin 2048, (args m c).top f ⟨2048 * t.val + l.val, by omega⟩ : ℝ) : EReal) := fun t f => by
    have e := congrFun h11 (ix2 f t)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    have e' := eq_read e
    simp only [top', ← EReal.coe_mul, ← coe_sum] at e'
    exact e'.trans (congrArg (fun r : ℝ => (r : EReal)) (Finset.sum_congr rfl fun l _ => by
      rw [show (⟨t.val * 2048 + l.val, by omega⟩ : Fin 8192) = ⟨2048 * t.val + l.val, by omega⟩ from
          Fin.ext (by show t.val * 2048 + l.val = 2048 * t.val + l.val; omega)]))
  have top2 : ∀ (t : Fin 4) (f : Fin 40), m (c.tc.loc main_arg5) (ix3 t ⟨40 + f.val, by omega⟩ 0)
      = ((∑ l : Fin 2048, (args m c).top f ⟨2048 * t.val + l.val, by omega⟩ * (args m c).top f ⟨2048 * t.val + l.val, by omega⟩ : ℝ) : EReal) := fun t f => by
    have e := congrFun h12 (ix2 f t)
    simp only [Cert.Pre_pass2_ready.fn, Cert.Pre_pass2_ready.fn_part1, Cert.Pre_pass2_ready.fn_part2, Cert.Pre_pass2_ready.fn_part3,
      Cert.Pre_pass2_ready.fn_part4, Cert.Pre_pass2_ready.fn_part5] at e
    pointwise at e
    have e' := eq_read e
    simp only [top', ← EReal.coe_mul, ← coe_sum] at e'
    exact e'.trans (congrArg (fun r : ℝ => (r : EReal)) (Finset.sum_congr rfl fun l _ => by
      rw [show (⟨t.val * 2048 + l.val, by omega⟩ : Fin 8192) = ⟨2048 * t.val + l.val, by omega⟩ from
          Fin.ext (by show t.val * 2048 + l.val = 2048 * t.val + l.val; omega)]))
  exact ⟨rnn', his', noc', top', fun _ => rfl, len', rnn1, rnn2, his1, his2, noc1, noc2, top1, top2, ag', ab', aw1', ab1', aw2', ab2', aw3',
    ab3', tg', tb', tw1', tb1', tw2', tb2', tw3', tb3', twl', tbl'⟩

end Cert.PreRead

end
-- ==== Proof.lean ====
/- The claims about the second launch of the kernel's version 6: the three programs' frames, the named constant, and that
   over the reals the launch's two results are the reference's, from arguments whose floats are finite, whose lengths are
   at most 50, and whose block sums are those of the block columns. Of the first launch: its frames and its named constant. -/
module

public import proofs.«01_k».proof.Defs
public import proofs.«01_k».proof.Proof.Gen.Pass2
public import proofs.«01_k».proof.Proof.Gen.Pass2.Skeleton
public import proofs.«01_k».proof.Proof.Gen.Pass2.Launch
public import proofs.«01_k».proof.Proof.Gen.Pass2.Points
public import proofs.«01_k».proof.Proof.Gen.Pass2.Frame
public import proofs.«01_k».proof.Proof.Gen.Pass2Ideal
public import proofs.«01_k».proof.Proof.Gen.Pass2Ideal.Skeleton
public import proofs.«01_k».proof.Proof.Gen.Pass2Ideal.Launch
public import proofs.«01_k».proof.Proof.Gen.Pass2Ideal.Points
public import proofs.«01_k».proof.Proof.Gen.Pass2Ideal.Frame
public import proofs.«01_k».proof.Proof.Gen.Pass1
public import proofs.«01_k».proof.Proof.Gen.Pass1.Skeleton
public import proofs.«01_k».proof.Proof.Gen.Pass1.Launch
public import proofs.«01_k».proof.Proof.Gen.Pass1.Points
public import proofs.«01_k».proof.Proof.FirstPass
public import proofs.«01_k».proof.Proof.Gen.Pass1Ideal
public import proofs.«01_k».proof.Proof.Gen.Pass1Ideal.Skeleton
public import proofs.«01_k».proof.Proof.Gen.Pass1Ideal.Launch
public import proofs.«01_k».proof.Proof.Gen.Pass1Ideal.Points
public import proofs.«01_k».proof.Proof.FirstPassIdeal
public import proofs.«01_k».proof.Proof.Gen.Ref2Ideal
public import proofs.«01_k».proof.Proof.Gen.Ref2Ideal.Run
public import proofs.«01_k».proof.Proof.Gen.Ref2Ideal.Read
public import proofs.«01_k».proof.Proof.Gen.Pre_pass2_ready
public import proofs.«01_k».proof.Proof.Tail
public import proofs.«01_k».proof.Proof.RefProb
public import proofs.«01_k».proof.Proof.PreRead
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem Cert.Spec

/-- The kernel over machine floats runs to its end, its arguments unchanged and its semaphores at zero. -/
theorem frame_p : Cert.quiescent_Pass2 (hPass2 := Cert.Pass2.Gen.facts) := fun m ρ _ => Cert.Pass2.Gen.frame m ρ

/-- The same of the kernel over the reals. -/
theorem frame_pi : Cert.quiescent_Pass2Ideal (hPass2Ideal := Cert.Pass2Ideal.Gen.facts) := fun m ρ _ => Cert.Pass2Ideal.Gen.frame m ρ

/-- The same under the value claim's precondition. -/
theorem frame_pi_pre : Cert.quiescent_Pass2Ideal_pre_pass2_ready (hPass2Ideal := Cert.Pass2Ideal.Gen.facts)
    (hPre_pass2_ready := Cert.Pre_pass2_ready.Gen.facts) := fun m ρ _ => Cert.Pass2Ideal.Gen.frame m ρ

/-- The reference runs to its end, its arguments unchanged; it declares no semaphore. -/
theorem frame_ri : Cert.quiescent_Ref2Ideal (hRef2Ideal := Cert.Ref2Ideal.Gen.facts) := fun m ρ _ =>
  (θ_run Cert.Ref2Ideal.defs _ _).mono (fun r h => ⟨fun c => (h c).2.2, sem_eq_zero_of_no_sems (by decide) r.2⟩)
    (Cert.Ref2Ideal.Value.run (F := Ideal) m ρ)

/-- The same under the value claim's precondition. -/
theorem frame_ri_pre : Cert.quiescent_Ref2Ideal_pre_pass2_ready (hRef2Ideal := Cert.Ref2Ideal.Gen.facts)
    (hPre_pass2_ready := Cert.Pre_pass2_ready.Gen.facts) := fun m ρ _ =>
  (θ_run Cert.Ref2Ideal.defs _ _).mono (fun r h => ⟨fun c => (h c).2.2, sem_eq_zero_of_no_sems (by decide) r.2⟩)
    (Cert.Ref2Ideal.Value.run (F := Ideal) m ρ)

/-- The program over the reals is the program over machine floats with the mask's constant read as minus infinity. -/
theorem preserves : Cert.preserves_Pass2_Pass2Ideal :=
  IdealRules.named_const.statement Cert.Pass2Ideal.κ "mask" .f32 0xCF800000#32 ⊥ rfl

/-- Over the reals the kernel's probabilities and auxiliary loss are the reference's. -/
theorem algebraic : Cert.algebraic_Pass2Ideal_Ref2Ideal_pre_pass2_ready (hPass2Ideal := Cert.Pass2Ideal.Gen.facts)
    (hRef2Ideal := Cert.Ref2Ideal.Gen.facts) (hPre_pass2_ready := Cert.Pre_pass2_ready.Gen.facts) := by
  intro m g m' g' hpre hagree
  refine ⟨fun c => ((fun j => ((Cert.PreRead.args m c).prob (j 0) : EReal) : Vec Ideal Cert.Pass2Ideal.S8192 .f32)),
    fun c => ((fun _ => ((Cert.PreRead.args m c).loss : EReal) : Vec Ideal Cert.Pass2Ideal.S_ .f32)), ?_, ?_⟩
  · refine θ_run_mono (θ_run_and (Cert.Pass2Ideal.Gen.run_main m g) (Cert.Pass2Ideal.Gen.unchanged m g)) fun r h c => ?_
    have hR := Cert.PreRead.holds_args hpre c
    exact ⟨((h.1 c).2 Cert.Pass2Ideal.main_v99 (by decide +kernel)).trans (Cert.Kernel.tail_prob m c hR),
      ((h.1 c).2 Cert.Pass2Ideal.main_v103 (by decide +kernel)).trans (Cert.Kernel.tail_loss m c hR), h.2 c⟩
  · refine θ_run_mono (Cert.Ref2Ideal.Value.run (F := Ideal) m' g') fun r h c => ?_
    have hR := Cert.PreRead.holds_args hpre c
    have hR' : Reads (m' (c.tc.loc Cert.Ref2Ideal.main_arg0)) (m' (c.tc.loc Cert.Ref2Ideal.main_arg1)) (m' (c.tc.loc Cert.Ref2Ideal.main_arg2)) (m' (c.tc.loc Cert.Ref2Ideal.main_arg3)) (m' (c.tc.loc Cert.Ref2Ideal.main_arg4))
        (m' (c.tc.loc Cert.Ref2Ideal.main_arg5)) (m' (c.tc.loc Cert.Ref2Ideal.main_arg6)) (m' (c.tc.loc Cert.Ref2Ideal.main_arg7)) (m' (c.tc.loc Cert.Ref2Ideal.main_arg8)) (m' (c.tc.loc Cert.Ref2Ideal.main_arg9))
        (m' (c.tc.loc Cert.Ref2Ideal.main_arg10)) (m' (c.tc.loc Cert.Ref2Ideal.main_arg11)) (m' (c.tc.loc Cert.Ref2Ideal.main_arg12)) (m' (c.tc.loc Cert.Ref2Ideal.main_arg13)) (m' (c.tc.loc Cert.Ref2Ideal.main_arg14))
        (m' (c.tc.loc Cert.Ref2Ideal.main_arg15)) (m' (c.tc.loc Cert.Ref2Ideal.main_arg16)) (m' (c.tc.loc Cert.Ref2Ideal.main_arg17)) (m' (c.tc.loc Cert.Ref2Ideal.main_arg18)) (m' (c.tc.loc Cert.Ref2Ideal.main_arg19))
        (m' (c.tc.loc Cert.Ref2Ideal.main_arg20)) (m' (c.tc.loc Cert.Ref2Ideal.main_arg21)) (m' (c.tc.loc Cert.Ref2Ideal.main_arg22)) (m' (c.tc.loc Cert.Ref2Ideal.main_arg23)) (m' (c.tc.loc Cert.Ref2Ideal.main_arg24)) (Cert.PreRead.args m c) := by
      obtain ⟨h0, h1, h2, h3, h4, h5, h6, h7, h8, h9, h10, h11, h12, h13, h14, h15, h16, h17, h18, h19, h20, h21, h22, h23, h24⟩ := hagree c
      rw [h0, h1, h2, h3, h4, h5, h6, h7, h8, h9, h10, h11, h12, h13, h14, h15, h16, h17, h18, h19, h20, h21, h22, h23, h24]
      exact hR
    refine ⟨(h c).1.trans ((Cert.Ref2Ideal.Read.val_main_v168_eq _).trans (funext fun j => ?_)),
      (h c).2.1.trans ((Cert.Ref2Ideal.Read.val_main_v122_eq _).trans (Cert.Reference.loss_read hR')), (h c).2.2⟩
    obtain ⟨b, rfl⟩ : ∃ b, j = ix1 b := ⟨j 0, by funext a; match a with | ⟨0, _⟩ => rfl⟩
    exact Cert.Reference.prob_read hR' b

/-- The first pass over machine floats runs to its end, its arguments unchanged and its semaphores at zero. -/
theorem frame_p1 : Cert.quiescent_Pass1 (hPass1 := Cert.Pass1.Gen.facts) := fun m ρ _ => Cert.Pass1.Run.frame m ρ

/-- The same of the first pass over the reals. -/
theorem frame_pi1 : Cert.quiescent_Pass1Ideal (hPass1Ideal := Cert.Pass1Ideal.Gen.facts) := fun m ρ _ => Cert.Pass1Ideal.Run.frame m ρ

/-- The first pass over the reals is the one over machine floats with the mask's constant read as minus infinity. -/
theorem preserves1 : Cert.preserves_Pass1_Pass1Ideal :=
  IdealRules.named_const.statement Cert.Pass1Ideal.κ "mask" .f32 0xCF800000#32 ⊥ rfl

/-- Everything that is claimed of the two passes. -/
theorem claim : Cert.Claim := ⟨Cert.Pass2.Gen.facts, Cert.Pass2Ideal.Gen.facts, Cert.Ref2Ideal.Gen.facts, Cert.Pass1.Gen.facts,
  Cert.Pass1Ideal.Gen.facts, Cert.Pre_pass2_ready.Gen.facts,
  frame_p, frame_pi, frame_pi_pre, frame_ri, frame_ri_pre, frame_p1, frame_pi1, preserves, algebraic, preserves1⟩

end Cert.Proof

end
